-- ==== Defs.lean ====
def Pre_Kernel [hPre_pages_exist : Cert.Pre_pages_exist.Facts] (m : (ℓ : Loc Cert.Kernel.nD Cert.Kernel.τ Cert.Kernel.sig) → Buf (Elt Bits) ℓ) : Prop :=
  ∀ c : Dev Cert.Kernel.nD,
    (Cert.Pre_pages_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pages_exist : Cert.Pre_pages_exist.Facts] (m : (ℓ : Loc Cert.KernelIdeal.nD Cert.KernelIdeal.τ Cert.KernelIdeal.sig) → Buf (Elt Ideal) ℓ) : Prop :=
  ∀ c : Dev Cert.KernelIdeal.nD,
    (Cert.Pre_pages_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_pages_exist : Cert.Pre_pages_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v56_0)) (v1 : (c : Dev Cert.Kernel3Ideal.nD) → Buf (Elt Ideal) ((c.tc : Thread Cert.Kernel3Ideal.nD Cert.Kernel3Ideal.τ).loc Cert.Kernel3Ideal.main_v56_1)) (v2 : (c : Dev Cert.Kernel3Ideal.nD) → Buf (Elt Ideal) ((c.tc : Thread Cert.Kernel3Ideal.nD Cert.Kernel3Ideal.τ).loc Cert.Kernel3Ideal.main_v56_2)) (v3 : (c : Dev Cert.Kernel3Ideal.nD) → Buf (Elt Ideal) ((c.tc : Thread Cert.Kernel3Ideal.nD Cert.Kernel3Ideal.τ).loc Cert.Kernel3Ideal.main_v56_3)) (v4 : (c : Dev Cert.Kernel3Ideal.nD) → Buf (Elt Ideal) ((c.tc : Thread Cert.Kernel3Ideal.nD Cert.Kernel3Ideal.τ).loc Cert.Kernel3Ideal.main_v56_4)) (v5 : (c : Dev Cert.Kernel3Ideal.nD) → Buf (Elt Ideal) ((c.tc : Thread Cert.Kernel3Ideal.nD Cert.Kernel3Ideal.τ).loc Cert.Kernel3Ideal.main_v56_5)) (v6 : (c : Dev Cert.Kernel3Ideal.nD) → Buf (Elt Ideal) ((c.tc : Thread Cert.Kernel3Ideal.nD Cert.Kernel3Ideal.τ).loc Cert.Kernel3Ideal.main_v56_7)) (v7 : (c : Dev Cert.Kernel3Ideal.nD) → Buf (Elt Ideal) ((c.tc : Thread Cert.Kernel3Ideal.nD Cert.Kernel3Ideal.τ).loc Cert.Kernel3Ideal.main_v56_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v56_0) = v0 c
          ∧ r.2.mem ((c.tc : Thread Cert.Kernel3Ideal.nD Cert.Kernel3Ideal.τ).loc Cert.Kernel3Ideal.main_v56_1) = v1 c
          ∧ r.2.mem ((c.tc : Thread Cert.Kernel3Ideal.nD Cert.Kernel3Ideal.τ).loc Cert.Kernel3Ideal.main_v56_2) = v2 c
          ∧ r.2.mem ((c.tc : Thread Cert.Kernel3Ideal.nD Cert.Kernel3Ideal.τ).loc Cert.Kernel3Ideal.main_v56_3) = v3 c
          ∧ r.2.mem ((c.tc : Thread Cert.Kernel3Ideal.nD Cert.Kernel3Ideal.τ).loc Cert.Kernel3Ideal.main_v56_4) = v4 c
          ∧ r.2.mem ((c.tc : Thread Cert.Kernel3Ideal.nD Cert.Kernel3Ideal.τ).loc Cert.Kernel3Ideal.main_v56_5) = v5 c
          ∧ r.2.mem ((c.tc : Thread Cert.Kernel3Ideal.nD Cert.Kernel3Ideal.τ).loc Cert.Kernel3Ideal.main_v56_7) = v6 c
          ∧ r.2.mem ((c.tc : Thread Cert.Kernel3Ideal.nD Cert.Kernel3Ideal.τ).loc Cert.Kernel3Ideal.main_v56_8) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v311) = v0 c
          ∧ r.2.mem ((c.tc : Thread Cert.Reference3Ideal.nD Cert.Reference3Ideal.τ).loc Cert.Reference3Ideal.main_v313) = v1 c
          ∧ r.2.mem ((c.tc : Thread Cert.Reference3Ideal.nD Cert.Reference3Ideal.τ).loc Cert.Reference3Ideal.main_v315) = v2 c
          ∧ r.2.mem ((c.tc : Thread Cert.Reference3Ideal.nD Cert.Reference3Ideal.τ).loc Cert.Reference3Ideal.main_v316) = v3 c
          ∧ r.2.mem ((c.tc : Thread Cert.Reference3Ideal.nD Cert.Reference3Ideal.τ).loc Cert.Reference3Ideal.main_v90) = v4 c
          ∧ r.2.mem ((c.tc : Thread Cert.Reference3Ideal.nD Cert.Reference3Ideal.τ).loc Cert.Reference3Ideal.main_v317) = v5 c
          ∧ r.2.mem ((c.tc : Thread Cert.Reference3Ideal.nD Cert.Reference3Ideal.τ).loc Cert.Reference3Ideal.main_v161) = v6 c
          ∧ r.2.mem ((c.tc : Thread Cert.Reference3Ideal.nD Cert.Reference3Ideal.τ).loc Cert.Reference3Ideal.main_v310) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_pages_exist : Cert.Pre_pages_exist.Facts) (hPre_pre : Cert.Pre_pre.Facts),
    quiescent_Kernel (hKernel := hKernel) (hPre_pages_exist := hPre_pages_exist)
    ∧ quiescent_KernelIdeal (hKernelIdeal := hKernelIdeal) (hPre_pages_exist := hPre_pages_exist)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_pages_exist.lean ====
abbrev S128x64 : Shape := ⟨2, ![128, 64]⟩
abbrev S128x8x512 : Shape := ⟨3, ![128, 8, 512]⟩
abbrev S128x65x8x128 : Shape := ⟨4, ![128, 65, 8, 128]⟩
abbrev S1x10240x128x8x64 : Shape := ⟨5, ![1, 10240, 128, 8, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : IVec S128x64 32) (main_arg1 : FVec F S128x8x512 .f32) (main_arg2 : FVec F S128x65x8x128 .f32) (main_arg3 : FVec F S128x8x512 .f32) (main_arg4 : FVec F S128x8x512 .f32) (main_arg5 : FVec F S1x10240x128x8x64 .f32) (main_arg6 : FVec F S1x10240x128x8x64 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg0 main_v0
  let main_c_0 : IVec S_ 32 := constantI S_ 32 10240#32
  let main_v2 : IVec S128x64 32 := broadcastInDim S128x64 ![] bcast_S_S128x64 main_c_0
  let main_v3 : IVec S128x64 1 := cmpi .slt main_arg0 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  main_v5
-- ==== Pre_pre.lean ====
abbrev S128x64 : Shape := ⟨2, ![128, 64]⟩
abbrev S128x8x512 : Shape := ⟨3, ![128, 8, 512]⟩
abbrev S128x65x8x128 : Shape := ⟨4, ![128, 65, 8, 128]⟩
abbrev S1x10240x128x8x64 : Shape := ⟨5, ![1, 10240, 128, 8, 64]⟩
abbrev S_ : Shape := ⟨0, ![]⟩
abbrev S128x64x8x128 : Shape := ⟨4, ![128, 64, 8, 128]⟩
abbrev S128x64x8 : Shape := ⟨3, ![128, 64, 8]⟩
abbrev S128x8 : Shape := ⟨2, ![128, 8]⟩
abbrev S128x1x8x8 : Shape := ⟨4, ![128, 1, 8, 8]⟩
abbrev S128x8x8 : Shape := ⟨3, ![128, 8, 8]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S128x8x512 : S_.BroadcastsInDim S128x8x512 (![] : Fin 0 → Fin S128x8x512.rank)
  reducesTo_S128x8x512_S_d0_1_2 : S128x8x512.ReducesTo [0, 1, 2] S_
  bcast_S_S1x10240x128x8x64 : S_.BroadcastsInDim S1x10240x128x8x64 (![] : Fin 0 → Fin S1x10240x128x8x64.rank)
  reducesTo_S1x10240x128x8x64_S_d0_1_2_3_4 : S1x10240x128x8x64.ReducesTo [0, 1, 2, 3, 4] S_
  slices_S128x65x8x128_S128x64x8x128_0_0_0_0 : S128x65x8x128.Slices ![0, 0, 0, 0] S128x64x8x128
  reducesTo_S128x64x8x128_S128x64x8_d3 : S128x64x8x128.ReducesTo [3] S128x64x8
  reducesTo_S128x64x8_S128x8_d1 : S128x64x8.ReducesTo [1] S128x8
  slices_S128x65x8x128_S128x1x8x8_0_64_0_0 : S128x65x8x128.Slices ![0, 64, 0, 0] S128x1x8x8
  shapeCasts_S128x1x8x8_S128x8x8 : S128x1x8x8.ShapeCasts S128x8x8
  reducesTo_S128x8x8_S128x8_d2 : S128x8x8.ReducesTo [2] S128x8
  bcast_S_S128x8 : S_.BroadcastsInDim S128x8 (![] : Fin 0 → Fin S128x8.rank)
  reducesTo_S128x8_S_d0_1 : S128x8.ReducesTo [0, 1] S_

variable [Facts]

def fn_part1 {F : FTy → Type} [FloatOps F] (main_arg2 : FVec F S128x65x8x128 .f32) (main_v5 : IVec S_ 1) (main_v14 : IVec S_ 1) (main_v15 : FVec F S1x10240x128x8x64 .f32) (main_cst_5 : FVec F S_ .f32) : IVec S_ 1 :=
  let main_v16 : FVec F S1x10240x128x8x64 .f32 := broadcastInDim S1x10240x128x8x64 ![] bcast_S_S1x10240x128x8x64 main_cst_5
  let main_v17 : IVec S1x10240x128x8x64 1 := cmpf .olt main_v15 main_v16
  let main_c_6 : IVec S_ 1 := constantI S_ 1 1#1
  let main_v18 : IVec S_ 1 := (fun x v => Host.reduce IntOp.andi x v reducesTo_S1x10240x128x8x64_S_d0_1_2_3_4 h_S_) main_v17 main_c_6
  let main_v19 : IVec S_ 1 := andi main_v14 main_v18
  let main_v20 : FVec F S128x64x8x128 .f32 := (extractStridedSlice S128x64x8x128 ![0, 0, 0, 0] · slices_S128x65x8x128_S128x64x8x128_0_0_0_0) main_arg2
  let main_cst_7 : FVec F S_ .f32 := constant S_ .f32 0xFF800000#32
  let main_v21 : FVec F S128x64x8 .f32 := (fun x v => Host.reduce FloatOps.maximumf x v reducesTo_S128x64x8x128_S128x64x8_d3 h_S_) main_v20 main_cst_7
  let main_cst_8 : FVec F S_ .f32 := constant S_ .f32 0xFF800000#32
  let main_v22 : FVec F S128x8 .f32 := (fun x v => Host.reduce FloatOps.maximumf x v reducesTo_S128x64x8_S128x8_d1 h_S_) main_v21 main_cst_8
  let main_v23 : FVec F S128x1x8x8 .f32 := (extractStridedSlice S128x1x8x8 ![0, 64, 0, 0] · slices_S128x65x8x128_S128x1x8x8_0_64_0_0) main_arg2
  let main_v24 : FVec F S128x8x8 .f32 := shapeCast S128x8x8 main_v23 shapeCasts_S128x1x8x8_S128x8x8
  let main_cst_9 : FVec F S_ .f32 := constant S_ .f32 0xFF800000#32
  let main_v25 : FVec F S128x8 .f32 := (fun x v => Host.reduce FloatOps.maximumf x v reducesTo_S128x8x8_S128x8_d2 h_S_) main_v24 main_cst_9
  let main_v26 : FVec F S128x8 .f32 := maximumf main_v22 main_v25
  let main_cst_10 : FVec F S_ .f32 := constant S_ .f32 0x3F000000#32
  let main_v27 : FVec F S128x8 .f32 := broadcastInDim S128x8 ![] bcast_S_S128x8 main_cst_10
  let main_v28 : IVec S128x8 1 := cmpf .ogt main_v26 main_v27
  let main_c_11 : IVec S_ 1 := constantI S_ 1 1#1
  let main_v29 : IVec S_ 1 := (fun x v => Host.reduce IntOp.andi x v reducesTo_S128x8_S_d0_1 h_S_) main_v28 main_c_11
  let main_v30 : IVec S_ 1 := andi main_v5 main_v19
  let main_v31 : IVec S_ 1 := andi main_v30 main_v29
  main_v31

def fn {F : FTy → Type} [FloatOps F] (main_arg0 : IVec S128x64 32) (main_arg1 : FVec F S128x8x512 .f32) (main_arg2 : FVec F S128x65x8x128 .f32) (main_arg3 : FVec F S128x8x512 .f32) (main_arg4 : FVec F S128x8x512 .f32) (main_arg5 : FVec F S1x10240x128x8x64 .f32) (main_arg6 : FVec F S1x10240x128x8x64 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg0 main_v0
  let main_c_0 : IVec S_ 32 := constantI S_ 32 10240#32
  let main_v2 : IVec S128x64 32 := broadcastInDim S128x64 ![] bcast_S_S128x64 main_c_0
  let main_v3 : IVec S128x64 1 := cmpi .slt main_arg0 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  let main_v6 : FVec F S128x8x512 .f32 := Host.absf main_arg1
  let main_cst : FVec F S_ .f32 := constant S_ .f32 0x7F800000#32
  let main_v7 : FVec F S128x8x512 .f32 := broadcastInDim S128x8x512 ![] bcast_S_S128x8x512 main_cst
  let main_v8 : IVec S128x8x512 1 := cmpf .olt main_v6 main_v7
  let main_c_2 : IVec S_ 1 := constantI S_ 1 1#1
  let main_v9 : IVec S_ 1 := (fun x v => Host.reduce IntOp.andi x v reducesTo_S128x8x512_S_d0_1_2 h_S_) main_v8 main_c_2
  let main_v10 : FVec F S128x8x512 .f32 := Host.absf main_arg3
  let main_cst_3 : FVec F S_ .f32 := constant S_ .f32 0x7F800000#32
  let main_v11 : FVec F S128x8x512 .f32 := broadcastInDim S128x8x512 ![] bcast_S_S128x8x512 main_cst_3
  let main_v12 : IVec S128x8x512 1 := cmpf .olt main_v10 main_v11
  let main_c_4 : IVec S_ 1 := constantI S_ 1 1#1
  let main_v13 : IVec S_ 1 := (fun x v => Host.reduce IntOp.andi x v reducesTo_S128x8x512_S_d0_1_2 h_S_) main_v12 main_c_4
  let main_v14 : IVec S_ 1 := andi main_v9 main_v13
  let main_v15 : FVec F S1x10240x128x8x64 .f32 := Host.absf main_arg5
  let main_cst_5 : FVec F S_ .f32 := constant S_ .f32 0x7F800000#32
  fn_part1 (F := F) main_arg2 main_v5 main_v14 main_v15 main_cst_5
-- ==== Kernel.lean ====
abbrev S128x64 : Shape := ⟨2, ![128, 64]⟩
abbrev S128x8x512 : Shape := ⟨3, ![128, 8, 512]⟩
abbrev S128x65x8x128 : Shape := ⟨4, ![128, 65, 8, 128]⟩
abbrev S1x10240x128x8x64 : Shape := ⟨5, ![1, 10240, 128, 8, 64]⟩
abbrev S8192 : Shape := ⟨1, ![8192]⟩
abbrev S128x64x8x128 : Shape := ⟨4, ![128, 64, 8, 128]⟩
abbrev S1x8x512 : Shape := ⟨3, ![1, 8, 512]⟩
abbrev S1x4x8x128 : Shape := ⟨4, ![1, 4, 8, 128]⟩
abbrev S1x1x8x128 : Shape := ⟨4, ![1, 1, 8, 128]⟩
abbrev S1x1x128x8x64 : Shape := ⟨5, ![1, 1, 128, 8, 64]⟩
abbrev S1 : Shape := ⟨1, ![1]⟩
abbrev S64x1 : Shape := ⟨2, ![64, 1]⟩
abbrev S64x64 : Shape := ⟨2, ![64, 64]⟩
abbrev S8x512 : Shape := ⟨2, ![8, 512]⟩
abbrev S8x64 : Shape := ⟨2, ![8, 64]⟩
abbrev S128x1024 : Shape := ⟨2, ![128, 1024]⟩
abbrev S64x1024 : Shape := ⟨2, ![64, 1024]⟩
abbrev S8x128 : Shape := ⟨2, ![8, 128]⟩
abbrev S8x1024 : Shape := ⟨2, ![8, 1024]⟩
abbrev S128x8x64 : Shape := ⟨3, ![128, 8, 64]⟩
abbrev S1024x64 : Shape := ⟨2, ![1024, 64]⟩
abbrev S64 : Shape := ⟨1, ![64]⟩

abbrev nBuf : Space → Nat
  | .hbm => 9
  | .vmem => 31
  | .smem => 1
  | _ => 0

abbrev bufTy : (tb : Table) → Fin (tcTables nBuf tb) → BufTy
  | .hbm, ⟨0, _⟩ => ⟨S128x64, .i32⟩
  | .hbm, ⟨1, _⟩ => ⟨S128x8x512, .f32⟩
  | .hbm, ⟨2, _⟩ => ⟨S128x65x8x128, .f32⟩
  | .hbm, ⟨3, _⟩ => ⟨S128x8x512, .f32⟩
  | .hbm, ⟨4, _⟩ => ⟨S128x8x512, .f32⟩
  | .hbm, ⟨5, _⟩ => ⟨S1x10240x128x8x64, .f32⟩
  | .hbm, ⟨6, _⟩ => ⟨S1x10240x128x8x64, .f32⟩
  | .hbm, ⟨7, _⟩ => ⟨S128x64x8x128, .f32⟩
  | .hbm, ⟨8, _⟩ => ⟨S128x8x512, .f32⟩
  | .local _ .vmem, ⟨0, _⟩ => ⟨S1x8x512, .f32⟩
  | .local _ .vmem, ⟨1, _⟩ => ⟨S1x8x512, .f32⟩
  | .local _ .vmem, ⟨2, _⟩ => ⟨S1x4x8x128, .f32⟩
  | .local _ .vmem, ⟨3, _⟩ => ⟨S1x4x8x128, .f32⟩
  | .local _ .vmem, ⟨4, _⟩ => ⟨S1x1x8x128, .f32⟩
  | .local _ .vmem, ⟨5, _⟩ => ⟨S1x1x8x128, .f32⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x1x128x8x64, .f32⟩
  | .local _ .vmem, ⟨11, _⟩ => ⟨S1x1x128x8x64, .f32⟩
  | .local _ .vmem, ⟨12, _⟩ => ⟨S1x1x128x8x64, .f32⟩
  | .local _ .vmem, ⟨13, _⟩ => ⟨S1x1x128x8x64, .f32⟩
  | .local _ .vmem, ⟨14, _⟩ => ⟨S1x1x128x8x64, .f32⟩
  | .local _ .vmem, ⟨15, _⟩ => ⟨S1x1x128x8x64, .f32⟩
  | .local _ .vmem, ⟨16, _⟩ => ⟨S1x1x128x8x64, .f32⟩
  | .local _ .vmem, ⟨17, _⟩ => ⟨S1x1x128x8x64, .f32⟩
  | .local _ .vmem, ⟨18, _⟩ => ⟨S1x1x128x8x64, .f32⟩
  | .local _ .vmem, ⟨19, _⟩ => ⟨S1x1x128x8x64, .f32⟩
  | .local _ .vmem, ⟨20, _⟩ => ⟨S1x1x128x8x64, .f32⟩
  | .local _ .vmem, ⟨21, _⟩ => ⟨S1x1x128x8x64, .f32⟩
  | .local _ .vmem, ⟨22, _⟩ => ⟨S1x1x128x8x64, .f32⟩
  | .local _ .vmem, ⟨23, _⟩ => ⟨S1x1x128x8x64, .f32⟩
  | .local _ .vmem, ⟨24, _⟩ => ⟨S1x1x128x8x64, .f32⟩
  | .local _ .vmem, ⟨25, _⟩ => ⟨S1x1x128x8x64, .f32⟩
  | .local _ .vmem, ⟨26, _⟩ => ⟨S1x8x512, .f32⟩
  | .local _ .vmem, ⟨27, _⟩ => ⟨S1x8x512, .f32⟩
  | .local _ .vmem, ⟨28, _⟩ => ⟨S64x1, .f32⟩
  | .local _ .vmem, ⟨29, _⟩ => ⟨S64x1, .f32⟩
  | .local _ .vmem, ⟨30, _⟩ => ⟨S64x64, .f32⟩
  | .local _ .smem, ⟨0, _⟩ => ⟨S8192, .i32⟩
  | _, _ => ⟨S128x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![128, 16], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let c4_i32 : BitVec 32 := 4#32
  let v1 : BitVec 32 := Scalar.muli arg1 c4_i32
  let v2 : BitVec 32 := Scalar.addi v0 v1
  let v3 : BitVec 32 := Scalar.addi v2 c0_i32
  let v4 : Index := Scalar.indexCast v3
  ![v4.toNat]
def k0_cond2 (i : grid0.Coords) : BitVec 1 :=
  let arg1 : BitVec 32 := BitVec.ofNat 32 (i 1).val
  let c15_i32 : BitVec 32 := 15#32
  let v359 : BitVec 1 := Scalar.cmpi .eq arg1 c15_i32
  let v360 : BitVec 32 := Scalar.extui v359
  let c0_i32_172 : BitVec 32 := 0#32
  let v361 : BitVec 1 := Scalar.cmpi .ne v360 c0_i32_172
  v361

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  let c0_i32_1 : BitVec 32 := 0#32
  ![arg0.toNat, c64_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c0_i32 : BitVec 32 := 0#32
  let v3 : BitVec 32 := Scalar.addi v2 c0_i32
  let v4 : Index := Scalar.indexCast v3
  let v5 : BitVec 32 := pf.at 0 (Rect.unit (s := S8192) ![v4.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v5.toNat, c0_i32_1.toNat, c0_i32_2.toNat, c0_i32_3.toNat]

def cc0_transform_6 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c1_i32 : BitVec 32 := 1#32
  let v3 : BitVec 32 := Scalar.addi v2 c1_i32
  let v4 : Index := Scalar.indexCast v3
  let v5 : BitVec 32 := pf.at 0 (Rect.unit (s := S8192) ![v4.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v5.toNat, c0_i32_0.toNat, c0_i32_1.toNat, c0_i32_2.toNat]

def cc0_transform_7 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c2_i32 : BitVec 32 := 2#32
  let v3 : BitVec 32 := Scalar.addi v2 c2_i32
  let v4 : Index := Scalar.indexCast v3
  let v5 : BitVec 32 := pf.at 0 (Rect.unit (s := S8192) ![v4.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v5.toNat, c0_i32_0.toNat, c0_i32_1.toNat, c0_i32_2.toNat]

def cc0_transform_8 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c3_i32 : BitVec 32 := 3#32
  let v3 : BitVec 32 := Scalar.addi v2 c3_i32
  let v4 : Index := Scalar.indexCast v3
  let v5 : BitVec 32 := pf.at 0 (Rect.unit (s := S8192) ![v4.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v5.toNat, c0_i32_0.toNat, c0_i32_1.toNat, c0_i32_2.toNat]

def cc0_transform_9 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c0_i32 : BitVec 32 := 0#32
  let v3 : BitVec 32 := Scalar.addi v2 c0_i32
  let v4 : Index := Scalar.indexCast v3
  let v5 : BitVec 32 := pf.at 0 (Rect.unit (s := S8192) ![v4.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v5.toNat, c0_i32_1.toNat, c0_i32_2.toNat, c0_i32_3.toNat]

def cc0_transform_10 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c1_i32 : BitVec 32 := 1#32
  let v3 : BitVec 32 := Scalar.addi v2 c1_i32
  let v4 : Index := Scalar.indexCast v3
  let v5 : BitVec 32 := pf.at 0 (Rect.unit (s := S8192) ![v4.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v5.toNat, c0_i32_0.toNat, c0_i32_1.toNat, c0_i32_2.toNat]

def cc0_transform_11 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c2_i32 : BitVec 32 := 2#32
  let v3 : BitVec 32 := Scalar.addi v2 c2_i32
  let v4 : Index := Scalar.indexCast v3
  let v5 : BitVec 32 := pf.at 0 (Rect.unit (s := S8192) ![v4.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v5.toNat, c0_i32_0.toNat, c0_i32_1.toNat, c0_i32_2.toNat]

def cc0_transform_12 (k0_off1_inb : ∀ i : grid0.Coords, ∀ (r : Fin 4), ∀ a, (k0_off1 i (BitVec.ofNat 32 r.val)) a + S1.size a ≤ S8192.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let v2 : BitVec 32 := Scalar.addi v0 v1
  let c3_i32 : BitVec 32 := 3#32
  let v3 : BitVec 32 := Scalar.addi v2 c3_i32
  let v4 : Index := Scalar.indexCast v3
  let v5 : BitVec 32 := pf.at 0 (Rect.unit (s := S8192) ![v4.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v5.toNat, c0_i32_0.toNat, c0_i32_1.toNat, c0_i32_2.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x8x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S128x64 : Shape := ⟨2, ![128, 64]⟩
abbrev S128x8x512 : Shape := ⟨3, ![128, 8, 512]⟩
abbrev S128x65x8x128 : Shape := ⟨4, ![128, 65, 8, 128]⟩
abbrev S1x10240x128x8x64 : Shape := ⟨5, ![1, 10240, 128, 8, 64]⟩
abbrev S10240x128x8x64 : Shape := ⟨4, ![10240, 128, 8, 64]⟩
abbrev S_ : Shape := ⟨0, ![]⟩
abbrev S128x64x1 : Shape := ⟨3, ![128, 64, 1]⟩
abbrev S128x64x128x8x64 : Shape := ⟨5, ![128, 64, 128, 8, 64]⟩
abbrev S128x8192x8x64 : Shape := ⟨4, ![128, 8192, 8, 64]⟩
abbrev S128x8x8x64 : Shape := ⟨4, ![128, 8, 8, 64]⟩
abbrev S128x8200x8x64 : Shape := ⟨4, ![128, 8200, 8, 64]⟩
abbrev S128x8x65x128 : Shape := ⟨4, ![128, 8, 65, 128]⟩
abbrev S128x8x8320 : Shape := ⟨3, ![128, 8, 8320]⟩
abbrev S128x8x8200 : Shape := ⟨3, ![128, 8, 8200]⟩
abbrev S128x8x8200x8 : Shape := ⟨4, ![128, 8, 8200, 8]⟩
abbrev S128x8x8x8200 : Shape := ⟨4, ![128, 8, 8, 8200]⟩
abbrev S128x8x1x8200 : Shape := ⟨4, ![128, 8, 1, 8200]⟩
abbrev S128x8x8 : Shape := ⟨3, ![128, 8, 8]⟩
abbrev S128x8x8x1 : Shape := ⟨4, ![128, 8, 8, 1]⟩
abbrev S128x8x64x8 : Shape := ⟨4, ![128, 8, 64, 8]⟩

abbrev nBuf : Space → Nat
  | .hbm => 65
  | .vmem => 0
  | .smem => 0
  | _ => 0

abbrev bufTy : (tb : Table) → Fin (tcTables nBuf tb) → BufTy
  | .hbm, ⟨0, _⟩ => ⟨S128x64, .i32⟩
  | .hbm, ⟨1, _⟩ => ⟨S128x8x512, .f32⟩
  | .hbm, ⟨2, _⟩ => ⟨S128x65x8x128, .f32⟩
  | .hbm, ⟨3, _⟩ => ⟨S128x8x512, .f32⟩
  | .hbm, ⟨4, _⟩ => ⟨S128x8x512, .f32⟩
  | .hbm, ⟨5, _⟩ => ⟨S1x10240x128x8x64, .f32⟩
  | .hbm, ⟨6, _⟩ => ⟨S1x10240x128x8x64, .f32⟩
  | .hbm, ⟨7, _⟩ => ⟨S10240x128x8x64, .f32⟩
  | .hbm, ⟨8, _⟩ => ⟨S_, .i32⟩
  | .hbm, ⟨9, _⟩ => ⟨S128x64, .i32⟩
  | .hbm, ⟨10, _⟩ => ⟨S128x64, .i1⟩
  | .hbm, ⟨11, _⟩ => ⟨S_, .i32⟩
  | .hbm, ⟨12, _⟩ => ⟨S128x64, .i32⟩
  | .hbm, ⟨13, _⟩ => ⟨S128x64, .i32⟩
  | .hbm, ⟨14, _⟩ => ⟨S128x64, .i32⟩
  | .hbm, ⟨15, _⟩ => ⟨S128x64x1, .i32⟩
  | .hbm, ⟨16, _⟩ => ⟨S128x64x128x8x64, .f32⟩
  | .hbm, ⟨17, _⟩ => ⟨S128x8192x8x64, .f32⟩
  | .hbm, ⟨18, _⟩ => ⟨S10240x128x8x64, .f32⟩
  | .hbm, ⟨19, _⟩ => ⟨S_, .i32⟩
  | .hbm, ⟨20, _⟩ => ⟨S128x64, .i32⟩
  | .hbm, ⟨21, _⟩ => ⟨S128x64, .i1⟩
  | .hbm, ⟨22, _⟩ => ⟨S_, .i32⟩
  | .hbm, ⟨23, _⟩ => ⟨S128x64, .i32⟩
  | .hbm, ⟨24, _⟩ => ⟨S128x64, .i32⟩
  | .hbm, ⟨25, _⟩ => ⟨S128x64, .i32⟩
  | .hbm, ⟨26, _⟩ => ⟨S128x64x1, .i32⟩
  | .hbm, ⟨27, _⟩ => ⟨S128x64x128x8x64, .f32⟩
  | .hbm, ⟨28, _⟩ => ⟨S128x8192x8x64, .f32⟩
  | .hbm, ⟨29, _⟩ => ⟨S128x8x8x64, .f32⟩
  | .hbm, ⟨30, _⟩ => ⟨S128x8200x8x64, .f32⟩
  | .hbm, ⟨31, _⟩ => ⟨S128x8x8x64, .f32⟩
  | .hbm, ⟨32, _⟩ => ⟨S128x8200x8x64, .f32⟩
  | .hbm, ⟨33, _⟩ => ⟨S128x8x65x128, .f32⟩
  | .hbm, ⟨34, _⟩ => ⟨S128x8x8320, .f32⟩
  | .hbm, ⟨35, _⟩ => ⟨S128x8x8200, .f32⟩
  | .hbm, ⟨36, _⟩ => ⟨S_, .f32⟩
  | .hbm, ⟨37, _⟩ => ⟨S128x8x8200, .f32⟩
  | .hbm, ⟨38, _⟩ => ⟨S128x8x8200, .i1⟩
  | .hbm, ⟨39, _⟩ => ⟨S128x8x8x64, .f32⟩
  | .hbm, ⟨40, _⟩ => ⟨S128x8x8200x8, .f32⟩
  | .hbm, ⟨41, _⟩ => ⟨S128x8x8x8200, .f32⟩
  | .hbm, ⟨42, _⟩ => ⟨S128x8x1x8200, .i1⟩
  | .hbm, ⟨43, _⟩ => ⟨S_, .f32⟩
  | .hbm, ⟨44, _⟩ => ⟨S_, .f32⟩
  | .hbm, ⟨45, _⟩ => ⟨S128x8x8x8200, .i1⟩
  | .hbm, ⟨46, _⟩ => ⟨S128x8x8x8200, .f32⟩
  | .hbm, ⟨47, _⟩ => ⟨S128x8x8x8200, .f32⟩
  | .hbm, ⟨48, _⟩ => ⟨S_, .f32⟩
  | .hbm, ⟨49, _⟩ => ⟨S128x8x8, .f32⟩
  | .hbm, ⟨50, _⟩ => ⟨S_, .f32⟩
  | .hbm, ⟨51, _⟩ => ⟨S128x8x8, .f32⟩
  | .hbm, ⟨52, _⟩ => ⟨S128x8x8, .f32⟩
  | .hbm, ⟨53, _⟩ => ⟨S128x8x8x1, .f32⟩
  | .hbm, ⟨54, _⟩ => ⟨S128x8x8x8200, .f32⟩
  | .hbm, ⟨55, _⟩ => ⟨S128x8x8x8200, .f32⟩
  | .hbm, ⟨56, _⟩ => ⟨S128x8x8x8200, .f32⟩
  | .hbm, ⟨57, _⟩ => ⟨S_, .f32⟩
  | .hbm, ⟨58, _⟩ => ⟨S128x8x8, .f32⟩
  | .hbm, ⟨59, _⟩ => ⟨S128x8x8x1, .f32⟩
  | .hbm, ⟨60, _⟩ => ⟨S128x8x8x8200, .f32⟩
  | .hbm, ⟨61, _⟩ => ⟨S128x8x8x8200, .f32⟩
  | .hbm, ⟨62, _⟩ => ⟨S128x8x64x8, .f32⟩
  | .hbm, ⟨63, _⟩ => ⟨S128x8x8x64, .f32⟩
  | .hbm, ⟨64, _⟩ => ⟨S128x8x512, .f32⟩
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S5632 : Shape := ⟨1, ![5632]⟩
abbrev S_ : Shape := ⟨0, ![]⟩
abbrev S32x8x5632 : Shape := ⟨3, ![32, 8, 5632]⟩
abbrev S1x256x1024 : Shape := ⟨3, ![1, 256, 1024]⟩
abbrev S1x256x512 : Shape := ⟨3, ![1, 256, 512]⟩
abbrev S1x8x5632 : Shape := ⟨3, ![1, 8, 5632]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x8x256 : Shape := ⟨3, ![1, 8, 256]⟩
abbrev S1x256x256 : Shape := ⟨3, ![1, 256, 256]⟩
abbrev S1x264x256 : Shape := ⟨3, ![1, 264, 256]⟩
abbrev S264x256 : Shape := ⟨2, ![264, 256]⟩
abbrev S3x256 : Shape := ⟨2, ![3, 256]⟩
abbrev S1x256 : Shape := ⟨2, ![1, 256]⟩

abbrev nBuf : Space → Nat
  | .hbm => 30
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x2048x1024, .bf16⟩
  | .hbm, ⟨3, _⟩ => ⟨S32x2048x512, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x5632, .f32⟩
  | .hbm, ⟨10, _⟩ => ⟨S1x2816x1024, .f32⟩
  | .hbm, ⟨11, _⟩ => ⟨S1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024x5632, .f32⟩
  | .hbm, ⟨19, _⟩ => ⟨S1024x5632, .bf16⟩
  | .hbm, ⟨20, _⟩ => ⟨S2816x1024, .f32⟩
  | .hbm, ⟨21, _⟩ => ⟨S2816x1024, .bf16⟩
  | .hbm, ⟨22, _⟩ => ⟨S3x5632, .f32⟩
  | .hbm, ⟨23, _⟩ => ⟨S5632, .f32⟩
  | .hbm, ⟨24, _⟩ => ⟨S1x5632, .f32⟩
  | .hbm, ⟨25, _⟩ => ⟨S_, .f32⟩
  | .hbm, ⟨26, _⟩ => ⟨S32x8x5632, .f32⟩
  | .hbm, ⟨27, _⟩ => ⟨S1x1024, .f32⟩
  | .hbm, ⟨28, _⟩ => ⟨S32x2048x1024, .f32⟩
  | .hbm, ⟨29, _⟩ => ⟨S32x8x5632, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x512, .f32⟩
  | .local _ .vmem, ⟨7, _⟩ => ⟨S1x256x512, .f32⟩
  | .local _ .vmem, ⟨8, _⟩ => ⟨S1x8x5632, .f32⟩
  | .local _ .vmem, ⟨9, _⟩ => ⟨S1x8x5632, .f32⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x8x5632, .f32⟩
  | .local _ .vmem, ⟨21, _⟩ => ⟨S1x8x5632, .f32⟩
  | .local _ .vmem, ⟨22, _⟩ => ⟨S1x8x5632, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x5632 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference2Ideal.lean ====
abbrev S32x2048x1024 : Shape := ⟨3, ![32, 2048, 1024]⟩
abbrev S32x2048x512 : Shape := ⟨3, ![32, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x5632 : Shape := ⟨2, ![1024, 5632]⟩
abbrev S32x2048x5632 : Shape := ⟨3, ![32, 2048, 5632]⟩
abbrev S32x2x5632 : Shape := ⟨3, ![32, 2, 5632]⟩
abbrev S32x2050x5632 : Shape := ⟨3, ![32, 2050, 5632]⟩
abbrev S5632 : Shape := ⟨1, ![5632]⟩
abbrev S3x5632 : Shape := ⟨2, ![3, 5632]⟩
abbrev S1x1x5632 : Shape := ⟨3, ![1, 1, 5632]⟩
abbrev S32x2048x2816 : Shape := ⟨3, ![32, 2048, 2816]⟩
abbrev S2816x1024 : Shape := ⟨2, ![2816, 1024]⟩
abbrev S32x8x5632 : Shape := ⟨3, ![32, 8, 5632]⟩

abbrev nBuf : Space → Nat
  | .hbm => 113
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x2048x1024, .bf16⟩
  | .hbm, ⟨3, _⟩ => ⟨S32x2048x512, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x5632, .f32⟩
  | .hbm, ⟨10, _⟩ => ⟨S1x2816x1024, .f32⟩
  | .hbm, ⟨11, _⟩ => ⟨S1024, .f32⟩
  | .hbm, ⟨12, _⟩ => ⟨S32x2048x1024, .f32⟩
  | .hbm, ⟨13, _⟩ => ⟨S32x2048x1024, .f32⟩
  | .hbm, ⟨14, _⟩ => ⟨S512x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S1024x1024, .f32⟩
  | .hbm, ⟨19, _⟩ => ⟨S32x2048x1024, .f32⟩
  | .hbm, ⟨20, _⟩ => ⟨S32x2048x1024, .f32⟩
  | .hbm, ⟨21, _⟩ => ⟨S1024, .f32⟩
  | .hbm, ⟨22, _⟩ => ⟨S32x2048x1024, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S32x2048x1024, .f32⟩
  | .hbm, ⟨34, _⟩ => ⟨S32x2048x1024, .f32⟩
  | .hbm, ⟨35, _⟩ => ⟨S1x1x1024, .f32⟩
  | .hbm, ⟨36, _⟩ => ⟨S32x2048x1024, .f32⟩
  | .hbm, ⟨37, _⟩ => ⟨S32x2048x1024, .f32⟩
  | .hbm, ⟨38, _⟩ => ⟨S1024x5632, .f32⟩
  | .hbm, ⟨39, _⟩ => ⟨S32x2048x5632, .f32⟩
  | .hbm, ⟨40, _⟩ => ⟨S_, .f32⟩
  | .hbm, ⟨41, _⟩ => ⟨S32x2x5632, .f32⟩
  | .hbm, ⟨42, _⟩ => ⟨S32x2050x5632, .f32⟩
  | .hbm, ⟨43, _⟩ => ⟨S5632, .f32⟩
  | .hbm, ⟨44, _⟩ => ⟨S3x5632, .f32⟩
  | .hbm, ⟨45, _⟩ => ⟨S1x5632, .f32⟩
  | .hbm, ⟨46, _⟩ => ⟨S5632, .f32⟩
  | .hbm, ⟨47, _⟩ => ⟨S32x2048x5632, .f32⟩
  | .hbm, ⟨48, _⟩ => ⟨S1x1x5632, .f32⟩
  | .hbm, ⟨49, _⟩ => ⟨S32x2048x5632, .f32⟩
  | .hbm, ⟨50, _⟩ => ⟨S32x2048x5632, .f32⟩
  | .hbm, ⟨51, _⟩ => ⟨S_, .f32⟩
  | .hbm, ⟨52, _⟩ => ⟨S32x2048x5632, .f32⟩
  | .hbm, ⟨53, _⟩ => ⟨S32x2048x5632, .f32⟩
  | .hbm, ⟨54, _⟩ => ⟨S3x5632, .f32⟩
  | .hbm, ⟨55, _⟩ => ⟨S1x5632, .f32⟩
  | .hbm, ⟨56, _⟩ => ⟨S5632, .f32⟩
  | .hbm, ⟨57, _⟩ => ⟨S32x2048x5632, .f32⟩
  | .hbm, ⟨58, _⟩ => ⟨S1x1x5632, .f32⟩
  | .hbm, ⟨59, _⟩ => ⟨S32x2048x5632, .f32⟩
  | .hbm, ⟨60, _⟩ => ⟨S32x2048x5632, .f32⟩
  | .hbm, ⟨61, _⟩ => ⟨S32x2048x5632, .f32⟩
  | .hbm, ⟨62, _⟩ => ⟨S3x5632, .f32⟩
  | .hbm, ⟨63, _⟩ => ⟨S1x5632, .f32⟩
  | .hbm, ⟨64, _⟩ => ⟨S5632, .f32⟩
  | .hbm, ⟨65, _⟩ => ⟨S32x2048x5632, .f32⟩
  | .hbm, ⟨66, _⟩ => ⟨S1x1x5632, .f32⟩
  | .hbm, ⟨67, _⟩ => ⟨S32x2048x5632, .f32⟩
  | .hbm, ⟨68, _⟩ => ⟨S32x2048x5632, .f32⟩
  | .hbm, ⟨69, _⟩ => ⟨S32x2048x5632, .f32⟩
  | .hbm, ⟨70, _⟩ => ⟨S1x1x5632, .f32⟩
  | .hbm, ⟨71, _⟩ => ⟨S32x2048x5632, .f32⟩
  | .hbm, ⟨72, _⟩ => ⟨S32x2048x5632, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x2816, .f32⟩
  | .hbm, ⟨77, _⟩ => ⟨S_, .f32⟩
  | .hbm, ⟨78, _⟩ => ⟨S32x2048x2816, .f32⟩
  | .hbm, ⟨79, _⟩ => ⟨S32x2048x2816, .f32⟩
  | .hbm, ⟨80, _⟩ => ⟨S32x2048x2816, .f32⟩
  | .hbm, ⟨81, _⟩ => ⟨S_, .f32⟩
  | .hbm, ⟨82, _⟩ => ⟨S32x2048x2816, .f32⟩
  | .hbm, ⟨83, _⟩ => ⟨S32x2048x2816, .f32⟩
  | .hbm, ⟨84, _⟩ => ⟨S32x2048x2816, .f32⟩
  | .hbm, ⟨85, _⟩ => ⟨S_, .f32⟩
  | .hbm, ⟨86, _⟩ => ⟨S32x2048x2816, .f32⟩
  | .hbm, ⟨87, _⟩ => ⟨S32x2048x2816, .f32⟩
  | .hbm, ⟨88, _⟩ => ⟨S_, .f32⟩
  | .hbm, ⟨89, _⟩ => ⟨S32x2048x2816, .f32⟩
  | .hbm, ⟨90, _⟩ => ⟨S32x2048x2816, .f32⟩
  | .hbm, ⟨91, _⟩ => ⟨S32x2048x2816, .f32⟩
  | .hbm, ⟨92, _⟩ => ⟨S32x2048x2816, .f32⟩
  | .hbm, ⟨93, _⟩ => ⟨S2816x1024, .f32⟩
  | .hbm, ⟨94, _⟩ => ⟨S32x2048x1024, .f32⟩
  | .hbm, ⟨95, _⟩ => ⟨S32x2048x1024, .f32⟩
  | .hbm, ⟨96, _⟩ => ⟨S32x2048x1024, .f32⟩
  | .hbm, ⟨97, _⟩ => ⟨S_, .f32⟩
  | .hbm, ⟨98, _⟩ => ⟨S32x2048, .f32⟩
  | .hbm, ⟨99, _⟩ => ⟨S32x2048x1, .f32⟩
  | .hbm, ⟨100, _⟩ => ⟨S_, .f32⟩
  | .hbm, ⟨101, _⟩ => ⟨S32x2048x1, .f32⟩
  | .hbm, ⟨102, _⟩ => ⟨S32x2048x1, .f32⟩
  | .hbm, ⟨103, _⟩ => ⟨S_, .f32⟩
  | .hbm, ⟨104, _⟩ => ⟨S32x2048x1, .f32⟩
  | .hbm, ⟨105, _⟩ => ⟨S32x2048x1, .f32⟩
  | .hbm, ⟨106, _⟩ => ⟨S32x2048x1, .f32⟩
  | .hbm, ⟨107, _⟩ => ⟨S32x2048x1024, .f32⟩
  | .hbm, ⟨108, _⟩ => ⟨S32x2048x1024, .f32⟩
  | .hbm, ⟨109, _⟩ => ⟨S1x1x1024, .f32⟩
  | .hbm, ⟨110, _⟩ => ⟨S32x2048x1024, .f32⟩
  | .hbm, ⟨111, _⟩ => ⟨S32x2048x1024, .f32⟩
  | .hbm, ⟨112, _⟩ => ⟨S32x8x5632, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_5 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_6 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_8 : Ref sig .tc := ⟨.hbm, 97, rfl⟩
abbrev main_v76 : Ref sig .tc := ⟨.hbm, 98, rfl⟩
abbrev main_v77 : Ref sig .tc := ⟨.hbm, 99, rfl⟩
abbrev main_cst_9 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩

abbrev nD : Nat := 1
abbrev τ : Topo := Topo.v7x

variable {F : FTy → Type} [FloatOps F]
-- ==== Kernel3.lean ====
abbrev S32x2048x1024 : Shape := ⟨3, ![32, 2048, 1024]⟩
abbrev S1x1024 : Shape := ⟨2, ![1, 1024]⟩
abbrev S1x1024x4680 : Shape := ⟨3, ![1, 1024, 4680]⟩
abbrev S1x2048 : Shape := ⟨2, ![1, 2048]⟩
abbrev S1x4x128x128 : Shape := ⟨4, ![1, 4, 128, 128]⟩
abbrev S1x512 : Shape := ⟨2, ![1, 512]⟩
abbrev S1x512x1024 : Shape := ⟨3, ![1, 512, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024x4680 : Shape := ⟨2, ![1024, 4680]⟩
abbrev S1024x512 : Shape := ⟨2, ![1024, 512]⟩
abbrev S1024x1024 : Shape := ⟨2, ![1024, 1024]⟩
abbrev S1024x64 : Shape := ⟨2, ![1024, 64]⟩
abbrev S1x1024x1x64 : Shape := ⟨4, ![1, 1024, 1, 64]⟩
abbrev S1x1024x4x64 : Shape := ⟨4, ![1, 1024, 4, 64]⟩
abbrev S1024x256 : Shape := ⟨2, ![1024, 256]⟩
abbrev S1024x8 : Shape := ⟨2, ![1024, 8]⟩
abbrev S1024x128 : Shape := ⟨2, ![1024, 128]⟩
abbrev S1024x2048 : Shape := ⟨2, ![1024, 2048]⟩
abbrev S1024x4992 : Shape := ⟨2, ![1024, 4992]⟩
abbrev S1024 : Shape := ⟨1, ![1024]⟩
abbrev S4x128x128 : Shape := ⟨3, ![4, 128, 128]⟩
abbrev S512 : Shape := ⟨1, ![512]⟩
abbrev S512x1024 : Shape := ⟨2, ![512, 1024]⟩
abbrev S32x16x512 : Shape := ⟨3, ![32, 16, 512]⟩
abbrev S32x2048x512 : Shape := ⟨3, ![32, 2048, 512]⟩
abbrev S32x2048x128 : Shape := ⟨3, ![32, 2048, 128]⟩
abbrev S32x2048x64 : Shape := ⟨3, ![32, 2048, 64]⟩
abbrev S1x256x1024 : Shape := ⟨3, ![1, 256, 1024]⟩
abbrev S1x16x512 : Shape := ⟨3, ![1, 16, 512]⟩
abbrev S256x128 : Shape := ⟨2, ![256, 128]⟩
abbrev S1x256x512 : Shape := ⟨3, ![1, 256, 512]⟩
abbrev S1x256x128 : Shape := ⟨3, ![1, 256, 128]⟩
abbrev S1x256x64 : Shape := ⟨3, ![1, 256, 64]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x272x512 : Shape := ⟨3, ![1, 272, 512]⟩
abbrev S272x512 : Shape := ⟨2, ![272, 512]⟩
abbrev S272x128 : Shape := ⟨2, ![272, 128]⟩
abbrev S1x272x128 : Shape := ⟨3, ![1, 272, 128]⟩
abbrev S1x128x128 : Shape := ⟨3, ![1, 128, 128]⟩
abbrev S128x128 : Shape := ⟨2, ![128, 128]⟩
abbrev S256x256 : Shape := ⟨2, ![256, 256]⟩
abbrev S256x64 : Shape := ⟨2, ![256, 64]⟩

abbrev nBuf : Space → Nat
  | .hbm => 79
  | .vmem => 35
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4680, .f32⟩
  | .hbm, ⟨3, _⟩ => ⟨S1x2048, .f32⟩
  | .hbm, ⟨4, _⟩ => ⟨S1x4x128x128, .f32⟩
  | .hbm, ⟨5, _⟩ => ⟨S1x512, .f32⟩
  | .hbm, ⟨6, _⟩ => ⟨S1x512x1024, .f32⟩
  | .hbm, ⟨7, _⟩ => ⟨S2048, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x64, .f32⟩
  | .hbm, ⟨25, _⟩ => ⟨S1x2048x1x64, .f32⟩
  | .hbm, ⟨26, _⟩ => ⟨S1x2048x2x64, .f32⟩
  | .hbm, ⟨27, _⟩ => ⟨S2048x128, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S2048x1, .f32⟩
  | .hbm, ⟨38, _⟩ => ⟨S2048x128, .f32⟩
  | .hbm, ⟨39, _⟩ => ⟨S1024x4680, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x1024, .f32⟩
  | .hbm, ⟨46, _⟩ => ⟨S1024x512, .f32⟩
  | .hbm, ⟨47, _⟩ => ⟨S1024x64, .f32⟩
  | .hbm, ⟨48, _⟩ => ⟨S1x1024x1x64, .f32⟩
  | .hbm, ⟨49, _⟩ => ⟨S1x1024x4x64, .f32⟩
  | .hbm, ⟨50, _⟩ => ⟨S1024x256, .f32⟩
  | .hbm, ⟨51, _⟩ => ⟨S1024x8, .f32⟩
  | .hbm, ⟨52, _⟩ => ⟨S_, .i32⟩
  | .hbm, ⟨53, _⟩ => ⟨S_, .f32⟩
  | .hbm, ⟨54, _⟩ => ⟨S1024x128, .f32⟩
  | .hbm, ⟨55, _⟩ => ⟨S1024x2048, .f32⟩
  | .hbm, ⟨56, _⟩ => ⟨S1024x4992, .f32⟩
  | .hbm, ⟨57, _⟩ => ⟨S1024x4992, .bf16⟩
  | .hbm, ⟨58, _⟩ => ⟨S1024, .f32⟩
  | .hbm, ⟨59, _⟩ => ⟨S1x1024, .f32⟩
  | .hbm, ⟨60, _⟩ => ⟨S2048, .f32⟩
  | .hbm, ⟨61, _⟩ => ⟨S1x2048, .f32⟩
  | .hbm, ⟨62, _⟩ => ⟨S4x128x128, .f32⟩
  | .hbm, ⟨63, _⟩ => ⟨S4x128x128, .bf16⟩
  | .hbm, ⟨64, _⟩ => ⟨S512, .f32⟩
  | .hbm, ⟨65, _⟩ => ⟨S1x512, .f32⟩
  | .hbm, ⟨66, _⟩ => ⟨S512x1024, .f32⟩
  | .hbm, ⟨67, _⟩ => ⟨S512x1024, .bf16⟩
  | .hbm, ⟨68, _⟩ => ⟨S_, .f32⟩
  | .hbm, ⟨69, _⟩ => ⟨S32x16x512, .f32⟩
  | .hbm, ⟨70, _⟩ => ⟨S32x2048x1024, .bf16⟩
  | .hbm, ⟨71, _⟩ => ⟨S32x2048x1024, .bf16⟩
  | .hbm, ⟨72, _⟩ => ⟨S32x2048x512, .bf16⟩
  | .hbm, ⟨73, _⟩ => ⟨S32x2048x512, .f32⟩
  | .hbm, ⟨74, _⟩ => ⟨S32x2048x512, .f32⟩
  | .hbm, ⟨75, _⟩ => ⟨S32x2048x512, .f32⟩
  | .hbm, ⟨76, _⟩ => ⟨S32x2048x128, .f32⟩
  | .hbm, ⟨77, _⟩ => ⟨S32x2048x64, .f32⟩
  | .hbm, ⟨78, _⟩ => ⟨S32x16x512, .f32⟩
  | .local _ .vmem, ⟨0, _⟩ => ⟨S1x256x1024, .f32⟩
  | .local _ .vmem, ⟨1, _⟩ => ⟨S1x256x1024, .f32⟩
  | .local _ .vmem, ⟨2, _⟩ => ⟨S1x16x512, .f32⟩
  | .local _ .vmem, ⟨3, _⟩ => ⟨S1x16x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1024, .f32⟩
  | .local _ .vmem, ⟨11, _⟩ => ⟨S1024x4992, .bf16⟩
  | .local _ .vmem, ⟨12, _⟩ => ⟨S1x2048, .f32⟩
  | .local _ .vmem, ⟨13, _⟩ => ⟨S4x128x128, .bf16⟩
  | .local _ .vmem, ⟨14, _⟩ => ⟨S1x512, .f32⟩
  | .local _ .vmem, ⟨15, _⟩ => ⟨S512x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x128, .f32⟩
  | .local _ .vmem, ⟨29, _⟩ => ⟨S1x256x128, .f32⟩
  | .local _ .vmem, ⟨30, _⟩ => ⟨S1x256x64, .f32⟩
  | .local _ .vmem, ⟨31, _⟩ => ⟨S1x256x64, .f32⟩
  | .local _ .vmem, ⟨32, _⟩ => ⟨S1x16x512, .f32⟩
  | .local _ .vmem, ⟨33, _⟩ => ⟨S1x16x512, .f32⟩
  | .local _ .vmem, ⟨34, _⟩ => ⟨S1x16x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_2 : Ref sig .tc := ⟨.hbm, 52, rfl⟩
abbrev main_call0_v0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56_0 : Ref sig .tc := ⟨.hbm, 70, rfl⟩
abbrev main_v56_1 : Ref sig .tc := ⟨.hbm, 71, rfl⟩
abbrev main_v56_2 : Ref sig .tc := ⟨.hbm, 72, rfl⟩
abbrev main_v56_3 : Ref sig .tc := ⟨.hbm, 73, rfl⟩
abbrev main_v56_4 : Ref sig .tc := ⟨.hbm, 74, rfl⟩
abbrev main_v56_5 : Ref sig .tc := ⟨.hbm, 75, rfl⟩
abbrev main_v56_6 : Ref sig .tc := ⟨.hbm, 76, rfl⟩
abbrev main_v56_7 : Ref sig .tc := ⟨.hbm, 77, rfl⟩
abbrev main_v56_8 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4992 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference3Ideal.lean ====
abbrev S32x2048x1024 : Shape := ⟨3, ![32, 2048, 1024]⟩
abbrev S1x1024 : Shape := ⟨2, ![1, 1024]⟩
abbrev S1x1024x4680 : Shape := ⟨3, ![1, 1024, 4680]⟩
abbrev S1x2048 : Shape := ⟨2, ![1, 2048]⟩
abbrev S1x4x128x128 : Shape := ⟨4, ![1, 4, 128, 128]⟩
abbrev S1x512 : Shape := ⟨2, ![1, 512]⟩
abbrev S1x512x1024 : Shape := ⟨3, ![1, 512, 1024]⟩
abbrev S2048 : Shape := ⟨1, ![2048]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4680 : Shape := ⟨2, ![1024, 4680]⟩
abbrev S32x2048x4680 : Shape := ⟨3, ![32, 2048, 4680]⟩
abbrev S32x2048x512 : Shape := ⟨3, ![32, 2048, 512]⟩
abbrev S32x2048x8x64 : Shape := ⟨4, ![32, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S32x2048x8x32 : Shape := ⟨4, ![32, 2048, 8, 32]⟩
abbrev S1x2048x1x32 : Shape := ⟨4, ![1, 2048, 1, 32]⟩
abbrev S32x2048x64 : Shape := ⟨3, ![32, 2048, 64]⟩
abbrev S32x2048x1x64 : Shape := ⟨4, ![32, 2048, 1, 64]⟩
abbrev S32x2048x1x32 : Shape := ⟨4, ![32, 2048, 1, 32]⟩
abbrev S32x2048x2048 : Shape := ⟨3, ![32, 2048, 2048]⟩
abbrev S1x1x2048 : Shape := ⟨3, ![1, 1, 2048]⟩
abbrev S32x15x512 : Shape := ⟨3, ![32, 15, 512]⟩
abbrev S32x2063x512 : Shape := ⟨3, ![32, 2063, 512]⟩
abbrev S32x2063x128 : Shape := ⟨3, ![32, 2063, 128]⟩
abbrev S32x2048x128 : Shape := ⟨3, ![32, 2048, 128]⟩
abbrev S1x2048x1 : Shape := ⟨3, ![1, 2048, 1]⟩
abbrev S1x1x128x128 : Shape := ⟨4, ![1, 1, 128, 128]⟩
abbrev S128x128 : Shape := ⟨2, ![128, 128]⟩
abbrev S512 : Shape := ⟨1, ![512]⟩
abbrev S1x1x512 : Shape := ⟨3, ![1, 1, 512]⟩
abbrev S512x1024 : Shape := ⟨2, ![512, 1024]⟩
abbrev S32x16x512 : Shape := ⟨3, ![32, 16, 512]⟩
abbrev S32x2064x512 : Shape := ⟨3, ![32, 2064, 512]⟩

abbrev nBuf : Space → Nat
  | .hbm => 353
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x4680, .f32⟩
  | 3 => ⟨S1x2048, .f32⟩
  | 4 => ⟨S1x4x128x128, .f32⟩
  | 5 => ⟨S1x512, .f32⟩
  | 6 => ⟨S1x512x1024, .f32⟩
  | 7 => ⟨S2048, .i32⟩
  | 8 => ⟨S1024, .f32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | 25 => ⟨S1024x4680, .f32⟩
  | 26 => ⟨S32x2048x4680, .f32⟩
  | 27 => ⟨S32x2048x512, .f32⟩
  | 28 => ⟨S32x2048x512, .f32⟩
  | 29 => ⟨S32x2048x8x64, .f32⟩
  | 30 => ⟨S_, .f32⟩
  | 31 => ⟨S32x2048x8x64, .f32⟩
  | 32 => ⟨S32x2048x8x64, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S2048, .f32⟩
  | 42 => ⟨S2048x1, .f32⟩
  | 43 => ⟨S1x32, .f32⟩
  | 44 => ⟨S2048x32, .f32⟩
  | 45 => ⟨S2048x32, .f32⟩
  | 46 => ⟨S2048x32, .f32⟩
  | 47 => ⟨S2048x32, .f32⟩
  | 48 => ⟨S2048x1x32, .f32⟩
  | 49 => ⟨S2048x32, .f32⟩
  | 50 => ⟨S2048x1x32, .f32⟩
  | 51 => ⟨S32x2048x8x32, .f32⟩
  | 52 => ⟨S32x2048x8x32, .f32⟩
  | 53 => ⟨S1x2048x1x32, .f32⟩
  | 54 => ⟨S32x2048x8x32, .f32⟩
  | 55 => ⟨S32x2048x8x32, .f32⟩
  | 56 => ⟨S1x2048x1x32, .f32⟩
  | 57 => ⟨S32x2048x8x32, .f32⟩
  | 58 => ⟨S32x2048x8x32, .f32⟩
  | 59 => ⟨S32x2048x8x32, .f32⟩
  | 60 => ⟨S1x2048x1x32, .f32⟩
  | 61 => ⟨S32x2048x8x32, .f32⟩
  | 62 => ⟨S32x2048x8x32, .f32⟩
  | 63 => ⟨S1x2048x1x32, .f32⟩
  | 64 => ⟨S32x2048x8x32, .f32⟩
  | 65 => ⟨S32x2048x8x32, .f32⟩
  | 66 => ⟨S32x2048x8x32, .f32⟩
  | 67 => ⟨S32x2048x8x64, .f32⟩
  | 68 => ⟨S32x2048x512, .f32⟩
  | 69 => ⟨S32x2048x8x64, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S2048, .f32⟩
  | 79 => ⟨S2048x1, .f32⟩
  | 80 => ⟨S1x32, .f32⟩
  | 81 => ⟨S2048x32, .f32⟩
  | 82 => ⟨S2048x32, .f32⟩
  | 83 => ⟨S2048x32, .f32⟩
  | 84 => ⟨S2048x32, .f32⟩
  | 85 => ⟨S2048x1x32, .f32⟩
  | 86 => ⟨S2048x32, .f32⟩
  | 87 => ⟨S2048x1x32, .f32⟩
  | 88 => ⟨S32x2048x8x32, .f32⟩
  | 89 => ⟨S32x2048x8x32, .f32⟩
  | 90 => ⟨S1x2048x1x32, .f32⟩
  | 91 => ⟨S32x2048x8x32, .f32⟩
  | 92 => ⟨S32x2048x8x32, .f32⟩
  | 93 => ⟨S1x2048x1x32, .f32⟩
  | 94 => ⟨S32x2048x8x32, .f32⟩
  | 95 => ⟨S32x2048x8x32, .f32⟩
  | 96 => ⟨S32x2048x8x32, .f32⟩
  | 97 => ⟨S1x2048x1x32, .f32⟩
  | 98 => ⟨S32x2048x8x32, .f32⟩
  | 99 => ⟨S32x2048x8x32, .f32⟩
  | 100 => ⟨S1x2048x1x32, .f32⟩
  | 101 => ⟨S32x2048x8x32, .f32⟩
  | 102 => ⟨S32x2048x8x32, .f32⟩
  | 103 => ⟨S32x2048x8x32, .f32⟩
  | 104 => ⟨S32x2048x8x64, .f32⟩
  | 105 => ⟨S32x2048x512, .f32⟩
  | 106 => ⟨S32x2048x512, .f32⟩
  | 107 => ⟨S32x2048x8x64, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S2048, .f32⟩
  | 117 => ⟨S2048x1, .f32⟩
  | 118 => ⟨S1x32, .f32⟩
  | 119 => ⟨S2048x32, .f32⟩
  | 120 => ⟨S2048x32, .f32⟩
  | 121 => ⟨S2048x32, .f32⟩
  | 122 => ⟨S2048x32, .f32⟩
  | 123 => ⟨S2048x1x32, .f32⟩
  | 124 => ⟨S2048x32, .f32⟩
  | 125 => ⟨S2048x1x32, .f32⟩
  | 126 => ⟨S32x2048x8x32, .f32⟩
  | 127 => ⟨S32x2048x8x32, .f32⟩
  | _ => ⟨S32x2048x1024, .f32⟩

abbrev hbmTy0_1 (i : Nat) : BufTy := match i % 128 with
  | 0 => ⟨S1x2048x1x32, .f32⟩
  | 1 => ⟨S32x2048x8x32, .f32⟩
  | 2 => ⟨S32x2048x8x32, .f32⟩
  | 3 => ⟨S1x2048x1x32, .f32⟩
  | 4 => ⟨S32x2048x8x32, .f32⟩
  | 5 => ⟨S32x2048x8x32, .f32⟩
  | 6 => ⟨S32x2048x8x32, .f32⟩
  | 7 => ⟨S1x2048x1x32, .f32⟩
  | 8 => ⟨S32x2048x8x32, .f32⟩
  | 9 => ⟨S32x2048x8x32, .f32⟩
  | 10 => ⟨S1x2048x1x32, .f32⟩
  | 11 => ⟨S32x2048x8x32, .f32⟩
  | 12 => ⟨S32x2048x8x32, .f32⟩
  | 13 => ⟨S32x2048x8x32, .f32⟩
  | 14 => ⟨S32x2048x8x64, .f32⟩
  | 15 => ⟨S32x2048x64, .f32⟩
  | 16 => ⟨S32x2048x1x64, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S2048x1x32, .f32⟩
  | 33 => ⟨S2048x32, .f32⟩
  | 34 => ⟨S2048x1x32, .f32⟩
  | 35 => ⟨S32x2048x1x32, .f32⟩
  | 36 => ⟨S32x2048x1x32, .f32⟩
  | 37 => ⟨S1x2048x1x32, .f32⟩
  | 38 => ⟨S32x2048x1x32, .f32⟩
  | 39 => ⟨S32x2048x1x32, .f32⟩
  | 40 => ⟨S1x2048x1x32, .f32⟩
  | 41 => ⟨S32x2048x1x32, .f32⟩
  | 42 => ⟨S32x2048x1x32, .f32⟩
  | 43 => ⟨S32x2048x1x32, .f32⟩
  | 44 => ⟨S1x2048x1x32, .f32⟩
  | 45 => ⟨S32x2048x1x32, .f32⟩
  | 46 => ⟨S32x2048x1x32, .f32⟩
  | 47 => ⟨S1x2048x1x32, .f32⟩
  | 48 => ⟨S32x2048x1x32, .f32⟩
  | 49 => ⟨S32x2048x1x32, .f32⟩
  | 50 => ⟨S32x2048x1x32, .f32⟩
  | 51 => ⟨S32x2048x1x64, .f32⟩
  | 52 => ⟨S32x2048x64, .f32⟩
  | 53 => ⟨S32x2048x2048, .f32⟩
  | 54 => ⟨S2048, .f32⟩
  | 55 => ⟨S1x1x2048, .f32⟩
  | 56 => ⟨S32x2048x2048, .f32⟩
  | 57 => ⟨S32x2048x2048, .f32⟩
  | 58 => ⟨S32x2048x2048, .f32⟩
  | 59 => ⟨S32x2048x2048, .f32⟩
  | 60 => ⟨S_, .f32⟩
  | 61 => ⟨S32x2048x2048, .f32⟩
  | 62 => ⟨S32x2048x2048, .f32⟩
  | 63 => ⟨S_, .f32⟩
  | 64 => ⟨S32x2048x2048, .f32⟩
  | 65 => ⟨S32x2048x2048, .f32⟩
  | 66 => ⟨S_, .f32⟩
  | 67 => ⟨S32x15x512, .f32⟩
  | 68 => ⟨S32x2063x512, .f32⟩
  | 69 => ⟨S32x2063x128, .f32⟩
  | 70 => ⟨S32x2048x128, .f32⟩
  | 71 => ⟨S_, .f32⟩
  | 72 => ⟨S32x2048x128, .f32⟩
  | 73 => ⟨S32x2048x128, .f32⟩
  | 74 => ⟨S32x2048x128, .f32⟩
  | 75 => ⟨S32x2048x128, .f32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S2048, .f32⟩
  | 83 => ⟨S2048x1, .f32⟩
  | 84 => ⟨S1x2048x1, .f32⟩
  | 85 => ⟨S32x2048x128, .f32⟩
  | 86 => ⟨S32x2048x128, .f32⟩
  | 87 => ⟨S32x2048x128, .f32⟩
  | 88 => ⟨S32x2048x128, .f32⟩
  | 89 => ⟨S1x1x128x128, .f32⟩
  | 90 => ⟨S128x128, .f32⟩
  | 91 => ⟨S32x2048x128, .f32⟩
  | 92 => ⟨S32x2063x128, .f32⟩
  | 93 => ⟨S32x2048x128, .f32⟩
  | 94 => ⟨S_, .f32⟩
  | 95 => ⟨S32x2048x128, .f32⟩
  | 96 => ⟨S32x2048x128, .f32⟩
  | 97 => ⟨S32x2048x128, .f32⟩
  | 98 => ⟨S32x2048x128, .f32⟩
  | 99 => ⟨S32x2048x128, .f32⟩
  | 100 => ⟨S32x2048x128, .f32⟩
  | 101 => ⟨S32x2048x128, .f32⟩
  | 102 => ⟨S32x2048x128, .f32⟩
  | 103 => ⟨S_, .i32⟩
  | 104 => ⟨S2048, .i32⟩
  | 105 => ⟨S2048, .i32⟩
  | 106 => ⟨S_, .i32⟩
  | 107 => ⟨S2048, .i32⟩
  | 108 => ⟨S2048, .i32⟩
  | 109 => ⟨S2048, .f32⟩
  | 110 => ⟨S2048x1, .f32⟩
  | 111 => ⟨S1x2048x1, .f32⟩
  | 112 => ⟨S32x2048x128, .f32⟩
  | 113 => ⟨S32x2048x128, .f32⟩
  | 114 => ⟨S32x2048x128, .f32⟩
  | 115 => ⟨S32x2048x128, .f32⟩
  | 116 => ⟨S1x1x128x128, .f32⟩
  | 117 => ⟨S128x128, .f32⟩
  | 118 => ⟨S32x2048x128, .f32⟩
  | 119 => ⟨S32x2063x128, .f32⟩
  | 120 => ⟨S32x2048x128, .f32⟩
  | 121 => ⟨S_, .f32⟩
  | 122 => ⟨S32x2048x128, .f32⟩
  | 123 => ⟨S32x2048x128, .f32⟩
  | 124 => ⟨S32x2048x128, .f32⟩
  | 125 => ⟨S32x2048x128, .f32⟩
  | 126 => ⟨S32x2048x128, .f32⟩
  | 127 => ⟨S32x2048x128, .f32⟩
  | _ => ⟨S32x2048x1024, .f32⟩

abbrev hbmTy0_2 (i : Nat) : BufTy := match i % 128 with
  | 0 => ⟨S32x2048x128, .f32⟩
  | 1 => ⟨S32x2048x128, .f32⟩
  | 2 => ⟨S32x2048x128, .f32⟩
  | 3 => ⟨S32x2048x128, .f32⟩
  | 4 => ⟨S32x2048x128, .f32⟩
  | 5 => ⟨S32x2048x128, .f32⟩
  | 6 => ⟨S32x2048x128, .f32⟩
  | 7 => ⟨S32x2048x128, .f32⟩
  | 8 => ⟨S32x2048x128, .f32⟩
  | 9 => ⟨S32x2048x128, .f32⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S2048, .f32⟩
  | 17 => ⟨S2048x1, .f32⟩
  | 18 => ⟨S1x2048x1, .f32⟩
  | 19 => ⟨S32x2048x128, .f32⟩
  | 20 => ⟨S32x2048x128, .f32⟩
  | 21 => ⟨S32x2048x128, .f32⟩
  | 22 => ⟨S32x2048x128, .f32⟩
  | 23 => ⟨S1x1x128x128, .f32⟩
  | 24 => ⟨S128x128, .f32⟩
  | 25 => ⟨S32x2048x128, .f32⟩
  | 26 => ⟨S32x2063x128, .f32⟩
  | 27 => ⟨S32x2048x128, .f32⟩
  | 28 => ⟨S_, .f32⟩
  | 29 => ⟨S32x2048x128, .f32⟩
  | 30 => ⟨S32x2048x128, .f32⟩
  | 31 => ⟨S32x2048x128, .f32⟩
  | 32 => ⟨S32x2048x128, .f32⟩
  | 33 => ⟨S32x2048x128, .f32⟩
  | 34 => ⟨S32x2048x128, .f32⟩
  | 35 => ⟨S32x2048x128, .f32⟩
  | 36 => ⟨S32x2048x128, .f32⟩
  | 37 => ⟨S32x2048x128, .f32⟩
  | 38 => ⟨S32x2048x128, .f32⟩
  | 39 => ⟨S32x2048x128, .f32⟩
  | 40 => ⟨S32x2048x128, .f32⟩
  | 41 => ⟨S32x2048x128, .f32⟩
  | 42 => ⟨S32x2048x128, .f32⟩
  | 43 => ⟨S32x2048x128, .f32⟩
  | 44 => ⟨S32x2048x128, .f32⟩
  | 45 => ⟨S32x2048x128, .f32⟩
  | 46 => ⟨S32x2048x128, .f32⟩
  | 47 => ⟨S32x2048x128, .f32⟩
  | 48 => ⟨S32x2048x128, .f32⟩
  | 49 => ⟨S32x2048x128, .f32⟩
  | 50 => ⟨S32x2048x128, .f32⟩
  | 51 => ⟨S32x2048x128, .f32⟩
  | 52 => ⟨S32x2048x128, .f32⟩
  | 53 => ⟨S32x2048x128, .f32⟩
  | 54 => ⟨S32x2048x128, .f32⟩
  | 55 => ⟨S32x2048x128, .f32⟩
  | 56 => ⟨S32x2048x128, .f32⟩
  | 57 => ⟨S32x2048x128, .f32⟩
  | 58 => ⟨S32x2048x128, .f32⟩
  | 59 => ⟨S32x2048x128, .f32⟩
  | 60 => ⟨S32x2048x128, .f32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S2048, .f32⟩
  | 68 => ⟨S2048x1, .f32⟩
  | 69 => ⟨S1x2048x1, .f32⟩
  | 70 => ⟨S32x2048x128, .f32⟩
  | 71 => ⟨S32x2048x128, .f32⟩
  | 72 => ⟨S32x2048x128, .f32⟩
  | 73 => ⟨S32x2048x128, .f32⟩
  | 74 => ⟨S1x1x128x128, .f32⟩
  | 75 => ⟨S128x128, .f32⟩
  | 76 => ⟨S32x2048x128, .f32⟩
  | 77 => ⟨S32x2048x512, .f32⟩
  | 78 => ⟨S512, .f32⟩
  | 79 => ⟨S1x1x512, .f32⟩
  | 80 => ⟨S32x2048x512, .f32⟩
  | 81 => ⟨S32x2048x512, .f32⟩
  | 82 => ⟨S32x2048x1024, .f32⟩
  | 83 => ⟨S512x1024, .f32⟩
  | 84 => ⟨S32x2048x1024, .f32⟩
  | 85 => ⟨S32x2048x1024, .f32⟩
  | 86 => ⟨S_, .f32⟩
  | 87 => ⟨S32x16x512, .f32⟩
  | 88 => ⟨S32x2064x512, .f32⟩
  | 89 => ⟨S32x16x512, .f32⟩
  | 90 => ⟨S32x2048x1024, .bf16⟩
  | 91 => ⟨S32x2048x1024, .f32⟩
  | 92 => ⟨S32x2048x1024, .bf16⟩
  | 93 => ⟨S32x2048x512, .f32⟩
  | 94 => ⟨S32x2048x512, .bf16⟩
  | 95 => ⟨S32x2048x512, .f32⟩
  | 96 => ⟨S32x2048x512, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_7 : Ref sig .tc := ⟨.hbm, 110, rfl⟩
abbrev main_v95 : Ref sig .tc := ⟨.hbm, 111, rfl⟩
abbrev main_v96 : Ref sig .tc := ⟨.hbm, 112, rfl⟩
abbrev main_cst_8 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_cst_9 : Ref sig .tc := ⟨.hbm, 147, rfl⟩
abbrev main_v130 : Ref sig .tc := ⟨.hbm, 148, rfl⟩
abbrev main_v131 : Ref sig .tc := ⟨.hbm, 149, rfl⟩
abbrev main_cst_10 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_cst_11 : Ref sig .tc := ⟨.hbm, 188, rfl⟩
abbrev main_v169 : Ref sig .tc := ⟨.hbm, 189, rfl⟩
abbrev main_v170 : Ref sig .tc := ⟨.hbm, 190, rfl⟩
abbrev main_cst_12 : Ref sig .tc := ⟨.hbm, 191, rfl⟩
abbrev main_v171 : Ref sig .tc := ⟨.hbm, 192, rfl⟩
abbrev main_v172 : Ref sig .tc := ⟨.hbm, 193, rfl⟩
abbrev main_cst_13 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_cst_14 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_c : Ref sig .tc := ⟨.hbm, 204, rfl⟩
abbrev main_v181 : Ref sig .tc := ⟨.hbm, 205, rfl⟩
abbrev main_v182 : Ref sig .tc := ⟨.hbm, 206, rfl⟩
abbrev main_c_15 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_cst_16 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_c_17 : Ref sig .tc := ⟨.hbm, 231, rfl⟩
abbrev main_v205 : Ref sig .tc := ⟨.hbm, 232, rfl⟩
abbrev main_v206 : Ref sig .tc := ⟨.hbm, 233, rfl⟩
abbrev main_c_18 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_cst_19 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_c_20 : Ref sig .tc := ⟨.hbm, 266, rfl⟩
abbrev main_v237 : Ref sig .tc := ⟨.hbm, 267, rfl⟩
abbrev main_v238 : Ref sig .tc := ⟨.hbm, 268, rfl⟩
abbrev main_c_21 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_cst_22 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_c_23 : Ref sig .tc := ⟨.hbm, 317, rfl⟩
abbrev main_v285 : Ref sig .tc := ⟨.hbm, 318, rfl⟩
abbrev main_v286 : Ref sig .tc := ⟨.hbm, 319, rfl⟩
abbrev main_c_24 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_cst_25 : Ref sig .tc := ⟨.hbm, 342, rfl⟩
abbrev main_v308 : Ref sig .tc := ⟨.hbm, 343, rfl⟩
abbrev main_v309 : Ref sig .tc := ⟨.hbm, 344, rfl⟩
abbrev main_v310 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩

abbrev nD : Nat := 1
abbrev τ : Topo := Topo.v7x

variable {F : FTy → Type} [FloatOps F]
-- ==== Proof.FrameI.lean ====
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole)
/-- Case A stores nothing into output 13 (the window is idle at its points and not written back there):
    no pieces — a placeholder (junk read back) that nothing consults, since at these points the window is neither
    written back nor read at the next point (Lib/Pipeline.lean "Idle points"). -/
def out0_A_13 (hc0 : cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) : Vec F S1x8x512 .f32 :=
  VO0_13.read (Elt F) (VO0_13.writes (Elt F) VO0_13.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).1)

/-- Case A's pieces for scratch `arg17`, which the kernel carries between points, cover it: 5 pieces of `S64x1` tiling it (Lib/Ring.lean `Piece.tiledL`). -/
theorem scover0_A_0 (hc0 : cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (y : S64x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.1 S64x1.size (by sl_kernel_rfl) y

/-- What case A leaves in scratch `arg17`: its pieces read back over junk. -/
def sout0_A_0 (hc0 : cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) : Vec F S64x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.1)

/-- Case A's pieces for scratch `arg18`, which the kernel carries between points, cover it: 5 pieces of `S64x1` tiling it (Lib/Ring.lean `Piece.tiledL`). -/
theorem scover0_A_1 (hc0 : cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (y : S64x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.2.1 S64x1.size (by sl_kernel_rfl) y

/-- What case A leaves in scratch `arg18`: its pieces read back over junk. -/
def sout0_A_1 (hc0 : cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) : Vec F S64x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.2.1)

/-- Case A's pieces for scratch `arg19`, which the kernel carries between points, cover it: 5 pieces of `S64x64` tiling it (Lib/Ring.lean `Piece.tiledL`). -/
theorem scover0_A_2 (hc0 : cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (y : S64x64.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.2.2.1 S64x64.size (by sl_kernel_rfl) y

/-- What case A leaves in scratch `arg19`: its pieces read back over junk. -/
def sout0_A_2 (hc0 : cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) : Vec F S64x64 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0).2.2.2.1)

/-- Case B stores nothing into output 13 (the window is idle at its points and not written back there):
    no pieces — a placeholder (junk read back) that nothing consults, since at these points the window is neither
    written back nor read at the next point (Lib/Pipeline.lean "Idle points"). -/
def out0_B_13 (hc0 : ¬cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S1x8x512 .f32 :=
  VO0_13.read (Elt F) (VO0_13.writes (Elt F) VO0_13.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).1)

/-- Case B's pieces for scratch `arg17`, which the kernel carries between points, cover it: 4 pieces of `S64x1` tiling it (Lib/Ring.lean `Piece.tiledL`). -/
theorem scover0_B_0 (hc0 : ¬cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) (y : S64x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.1 S64x1.size (by sl_kernel_rfl) y

/-- What case B leaves in scratch `arg17`: its pieces read back over junk. -/
def sout0_B_0 (hc0 : ¬cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S64x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.1)

/-- Case B's pieces for scratch `arg18`, which the kernel carries between points, cover it: 4 pieces of `S64x1` tiling it (Lib/Ring.lean `Piece.tiledL`). -/
theorem scover0_B_1 (hc0 : ¬cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) (y : S64x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.1 S64x1.size (by sl_kernel_rfl) y

/-- What case B leaves in scratch `arg18`: its pieces read back over junk. -/
def sout0_B_1 (hc0 : ¬cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S64x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.1)

/-- Case B's pieces for scratch `arg19`, which the kernel carries between points, cover it: 4 pieces of `S64x64` tiling it (Lib/Ring.lean `Piece.tiledL`). -/
theorem scover0_B_2 (hc0 : ¬cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) (y : S64x64.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.2.1 S64x64.size (by sl_kernel_rfl) y

/-- What case B leaves in scratch `arg19`: its pieces read back over junk. -/
def sout0_B_2 (hc0 : ¬cond0_0 i) (hc1 : ¬cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S64x64 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.2.1)

/-- Case C's pieces for output 13 tile its block (1 store of `S1x8x512`, checked by the kernel's evaluation: Lib/Ring.lean `Piece.tiledL`, linear in the pieces, through a loop's `@[irreducible]` trip theorem too), so they cover it. -/
theorem cover0_C_13 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) (y : S1x8x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).1 S1x8x512.size (by sl_kernel_rfl) y

/-- What case C leaves in output 13's staging buffer: its pieces read back over junk. -/
def out0_C_13 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S1x8x512 .f32 :=
  VO0_13.read (Elt F) (VO0_13.writes (Elt F) VO0_13.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).1)

/-- Case C's pieces for scratch `arg17`, which the kernel carries between points, cover it: 5 pieces of `S64x1` tiling it (Lib/Ring.lean `Piece.tiledL`). -/
theorem scover0_C_0 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) (y : S64x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.1 S64x1.size (by sl_kernel_rfl) y

/-- What case C leaves in scratch `arg17`: its pieces read back over junk. -/
def sout0_C_0 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S64x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.1)

/-- Case C's pieces for scratch `arg18`, which the kernel carries between points, cover it: 5 pieces of `S64x1` tiling it (Lib/Ring.lean `Piece.tiledL`). -/
theorem scover0_C_1 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) (y : S64x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.1 S64x1.size (by sl_kernel_rfl) y

/-- What case C leaves in scratch `arg18`: its pieces read back over junk. -/
def sout0_C_1 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S64x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.1)

/-- Case C's pieces for scratch `arg19`, which the kernel carries between points, cover it: 5 pieces of `S64x64` tiling it (Lib/Ring.lean `Piece.tiledL`). -/
theorem scover0_C_2 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) (y : S64x64.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.2.1 S64x64.size (by sl_kernel_rfl) y

/-- What case C leaves in scratch `arg19`: its pieces read back over junk. -/
def sout0_C_2 (hc0 : ¬cond0_0 i) (hc1 : cond0_1 i)
    (x0 : Vec F S1x8x512 .f32) (x1 : Vec F S1x4x8x128 .f32) (x2 : Vec F S1x1x8x128 .f32) (x3 : Vec F S1x8x512 .f32) (x4 : Vec F S1x8x512 .f32) (x5 : Vec F S1x1x128x8x64 .f32) (x6 : Vec F S1x1x128x8x64 .f32) (x7 : Vec F S1x1x128x8x64 .f32) (x8 : Vec F S1x1x128x8x64 .f32) (x9 : Vec F S1x1x128x8x64 .f32) (x10 : Vec F S1x1x128x8x64 .f32) (x11 : Vec F S1x1x128x8x64 .f32) (x12 : Vec F S1x1x128x8x64 .f32) (xt0 : TbBuf0 (F := F) c tbM0_0) (xs0 : Vec F S64x1 .f32) (xs1 : Vec F S64x1 .f32) (xs2 : Vec F S64x64 .f32) : Vec F S64x64 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x8x512 .f32 × Vec F S64x1 .f32 × Vec F S64x1 .f32 × Vec F S64x64 .f32
  | 0, hn => (out0_A_13 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0))
  | n + 1, hn =>
    if h0 : (n + 1) % 16 = 0 then
      if h1 : (n + 1) % 16 = 15 then
        False.elim (by have hN : n + 1 < 2048 := lt_of_lt_of_eq hn (show (cfgM m hO).N = 2048 from N_0); omega)
      else
        (out0_A_13 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0))
    else
      if h1 : (n + 1) % 16 = 15 then
        (out0_C_13 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_C_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2)
      else
        (out0_B_13 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2)

set_option maxHeartbeats 2000000 in
/-- `outsAt0` at a point of case A: that case's contents. -/
theorem outsAt0_A (hO : Ok m) (c : Dev nD) (t : Fin (cfgM m hO).N) (h0 : t.val % 16 = 0) (h1 : ¬t.val % 16 = 15) :
    outsAt0 m hO c t.val t.isLt = (out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)) := by
  obtain ⟨n, hn⟩ := t
  cases n with
  | zero => exact rfl
  | succ n => exact (dif_pos h0).trans ((dif_neg h1).trans rfl)

set_option maxHeartbeats 2000000 in
/-- `outsAt0` at a point of case B: that case's contents, over what the point before left. -/
theorem outsAt0_B (hO : Ok m) (c : Dev nD) (t : Fin (cfgM m hO).N) (h0 : ¬t.val % 16 = 0) (h1 : ¬t.val % 16 = 15) :
    outsAt0 m hO c t.val t.isLt = (out0_B_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

set_option maxHeartbeats 2000000 in
/-- `outsAt0` at a point of case C: that case's contents, over what the point before left. -/
theorem outsAt0_C (hO : Ok m) (c : Dev nD) (t : Fin (cfgM m hO).N) (h0 : ¬t.val % 16 = 0) (h1 : t.val % 16 = 15) :
    outsAt0 m hO c t.val t.isLt = (out0_C_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 2048 := lt_of_lt_of_eq t.isLt (show (cfgM m hO).N = 2048 from N_0)
  by_cases h0 : t.val % 16 = 0
  · by_cases h1 : t.val % 16 = 15
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [Dat.leavesExact_idle (dats m hO 0 c) 13 t (idleAt0_13_A m hO t ((hcond0_0 t).mpr h0) (fun h => h1 ((hcond0_1 t).mp h))) (noFlush0_13_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13
      · rw [PhiS_castSucc m hO c t, PhiS_pos m hO c _ _ hz, PhiT0_eq]
        rw [outsAt0_A m hO c t h0 h1]
        unfold sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexists _; iexact HS0
        isplitl [HS1]; · iexists _; iexact HS1
        isplitl [HS2]; · iexists _; iexact HS2
        isplitl [HT0]; · iexact HT0
        iintro ⟨H0, H1, H2, H3, H4, H5, H6, H7, H8, H9, H10, H11, H12, H13, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13
  · by_cases h1 : t.val % 16 = 15
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13_C m hO t (fun h => h0 ((hcond0_0 t).mp h)) ((hcond0_1 t).mpr h1)]; try rfl, after0_13]
      by_cases hz : t.val = 0
      · exfalso; have hN : t.val < 2048 := lt_of_lt_of_eq t.isLt (show (cfgM m hO).N = 2048 from N_0); omega
      · rw [PhiS_castSucc m hO c t, PhiS_pos m hO c _ _ hz, PhiT0_eq]
        rw [outsAt0_C m hO c t h0 h1]
        unfold out0_C_13 sout0_C_0 sout0_C_1 sout0_C_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [HS0]; · iexact HS0
        isplitl [HS1]; · iexact HS1
        isplitl [HS2]; · iexact HS2
        isplitl [HT0]; · iexact HT0
        iintro ⟨H0, H1, H2, H3, H4, H5, H6, H7, H8, H9, H10, H11, H12, ⟨%e13, H13⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        unfold owns; iexists _; isplitr
        swap; · iexact H13
        ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [Dat.leavesExact_idle (dats m hO 0 c) 13 t (idleAt0_13_B m hO t (fun h => h0 ((hcond0_0 t).mp h)) (fun h => h1 ((hcond0_1 t).mp h))) (noFlush0_13_B m hO t (fun h => h0 ((hcond0_0 t).mp h)) (fun h => h1 ((hcond0_1 t).mp h)))]
      by_cases hz : t.val = 0
      · exfalso; have hN : t.val < 2048 := lt_of_lt_of_eq t.isLt (show (cfgM m hO).N = 2048 from N_0); omega
      · rw [PhiS_castSucc m hO c t, PhiS_pos m hO c _ _ hz, PhiT0_eq]
        rw [outsAt0_B m hO c t h0 h1]
        unfold sout0_B_0 sout0_B_1 sout0_B_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 2048 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.TabI.lean ====
module
public import proofs.«01_k».proof.Defs
public import proofs.«01_k».proof.Proof.FrameI
public import proofs.«01_k».proof.Proof.Gen.Pre_pages_exist
public import Idealize.ShloMosaic.Lib.Pipeline.ValueKit
public import Idealize.ShloMosaic.Lib.Pointwise
public import Idealize.ShloMosaic.Lib.ReduceAll
public import Idealize.ShloMosaic.Lib.Claim
@[expose] public section
set_option maxRecDepth 16384
noncomputable section
namespace Cert.KernelIdeal.Att
open Idealize.ShloMosaic Idealize.ShloMosaic.TcCoe Idealize.SL Idealize.SL.Sem Cert.KernelIdeal.Gen

variable {F : FTy → Type} [FloatOps F] [Named F]

/-- A position below 128 in rows of 64, in words. -/
theorem pos_word (a b : ℕ) (p : Fin 4) (ha : a < 128) (hb : b < 16) :
    (Scalar.indexCast (Scalar.addi (Scalar.addi (Scalar.muli (BitVec.ofNat 32 a) 64#32) (Scalar.muli (BitVec.ofNat 32 b) 4#32))
      (BitVec.ofNat 32 p.val))).toNat = a * 64 + b * 4 + p.val := by
  have hp := p.isLt
  simp only [Scalar.indexCast, Scalar.addi, IntOp.addi, Scalar.muli, IntOp.muli, BitVec.toNat_add, BitVec.toNat_mul, BitVec.toNat_ofNat]
  omega

/-- A word of the table read at one position. -/
theorem word_at (pf : pre0.Contents (Elt F)) (a b : ℕ) (p : Fin 4) (ha : a < 128) (hb : b < 16)
    (h : ∀ x, (![(Scalar.indexCast (Scalar.addi (Scalar.addi (Scalar.muli (BitVec.ofNat 32 a) 64#32) (Scalar.muli (BitVec.ofNat 32 b) 4#32))
      (BitVec.ofNat 32 p.val))).toNat] : Fin 1 → ℕ) x + S1.size x ≤ S8192.size x) :
    pf.at 0 (Rect.unit (s := S8192) ![(Scalar.indexCast (Scalar.addi (Scalar.addi (Scalar.muli (BitVec.ofNat 32 a) 64#32) (Scalar.muli (BitVec.ofNat 32 b) 4#32))
      (BitVec.ofNat 32 p.val))).toNat] S1.size h) numel1_S1 = pf 0 (ix1 ⟨a * 64 + b * 4 + p.val, by omega⟩) := by
  refine congrArg (pf 0) (funext fun x : Fin 1 => ?_)
  obtain rfl : x = 0 := Subsingleton.elim _ _
  apply Fin.ext
  refine (congrArg₂ (· + ·) (pos_word a b p ha hb) (rfl : 0 * 1 = 0)).trans ?_
  rfl

theorem tr5 (pf : pre0.Contents (Elt F)) (i : grid0.Coords) :
    cc0_transform_5 k0_off1_inb numel1_S1 pf i = ![0, (pf 0 (ix1 ⟨(i 0).val * 64 + (i 1).val * 4 + 0, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 0 (i 0).isLt (i 1).isLt _)

theorem tr6 (pf : pre0.Contents (Elt F)) (i : grid0.Coords) :
    cc0_transform_6 k0_off1_inb numel1_S1 pf i = ![0, (pf 0 (ix1 ⟨(i 0).val * 64 + (i 1).val * 4 + 1, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 1 (i 0).isLt (i 1).isLt _)

theorem tr7 (pf : pre0.Contents (Elt F)) (i : grid0.Coords) :
    cc0_transform_7 k0_off1_inb numel1_S1 pf i = ![0, (pf 0 (ix1 ⟨(i 0).val * 64 + (i 1).val * 4 + 2, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 2 (i 0).isLt (i 1).isLt _)

theorem tr8 (pf : pre0.Contents (Elt F)) (i : grid0.Coords) :
    cc0_transform_8 k0_off1_inb numel1_S1 pf i = ![0, (pf 0 (ix1 ⟨(i 0).val * 64 + (i 1).val * 4 + 3, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 3 (i 0).isLt (i 1).isLt _)

theorem tr9 (pf : pre0.Contents (Elt F)) (i : grid0.Coords) :
    cc0_transform_9 k0_off1_inb numel1_S1 pf i = ![0, (pf 0 (ix1 ⟨(i 0).val * 64 + (i 1).val * 4 + 0, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 0 (i 0).isLt (i 1).isLt _)

theorem tr10 (pf : pre0.Contents (Elt F)) (i : grid0.Coords) :
    cc0_transform_10 k0_off1_inb numel1_S1 pf i = ![0, (pf 0 (ix1 ⟨(i 0).val * 64 + (i 1).val * 4 + 1, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 1 (i 0).isLt (i 1).isLt _)

theorem tr11 (pf : pre0.Contents (Elt F)) (i : grid0.Coords) :
    cc0_transform_11 k0_off1_inb numel1_S1 pf i = ![0, (pf 0 (ix1 ⟨(i 0).val * 64 + (i 1).val * 4 + 2, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 2 (i 0).isLt (i 1).isLt _)

theorem tr12 (pf : pre0.Contents (Elt F)) (i : grid0.Coords) :
    cc0_transform_12 k0_off1_inb numel1_S1 pf i = ![0, (pf 0 (ix1 ⟨(i 0).val * 64 + (i 1).val * 4 + 3, by have h0 : (i 0).val < 128 := (i 0).isLt; have h1 : (i 1).val < 16 := (i 1).isLt; omega⟩) : BitVec 32).toNat, 0, 0, 0] :=
  congrArg (fun w : BitVec 32 => (![0, w.toNat, 0, 0, 0] : Fin 5 → ℕ)) (word_at pf (i 0).val (i 1).val 3 (i 0).isLt (i 1).isLt _)

theorem inb_page (v : ℕ) (hv : v < 10240) (f : Fin 5 → ℕ) (hf : f = ![0, v, 0, 0, 0]) (a : Fin 5) :
    (f a + 1) * S1x1x128x8x64.size a ≤ S1x10240x128x8x64.size a := by
  subst hf
  fin_cases a <;> simp <;> omega

theorem ok_of (pf : pre0.Contents (Elt F)) (h : ∀ n : Fin 8192, (pf 0 (ix1 n) : BitVec 32).toNat < 10240) : ok0 (F := F) pf :=
  ⟨fun i => ⟨inb_page _ (h _) _ (tr5 pf i), Or.inl rfl⟩, fun i => ⟨inb_page _ (h _) _ (tr6 pf i), Or.inl rfl⟩, fun i => ⟨inb_page _ (h _) _ (tr7 pf i), Or.inl rfl⟩, fun i => ⟨inb_page _ (h _) _ (tr8 pf i), Or.inl rfl⟩, fun i => ⟨inb_page _ (h _) _ (tr9 pf i), Or.inl rfl⟩, fun i => ⟨inb_page _ (h _) _ (tr10 pf i), Or.inl rfl⟩, fun i => ⟨inb_page _ (h _) _ (tr11 pf i), Or.inl rfl⟩, fun i => ⟨inb_page _ (h _) _ (tr12 pf i), Or.inl rfl⟩⟩

/-- The table is the page table, read row by row. -/
theorem tbl_at (m : (ℓ : Loc nD τ sig) → Buf (Elt F) ℓ) (n : Fin 8192) :
    (tbl m 0 (ix1 n) : BitVec 32) = m (((0 : Dev nD) : Thread nD τ).loc main_arg0) (ix2 ⟨n.val / 64, by omega⟩ ⟨n.val % 64, by omega⟩) := by
  show V m 0 main_v0 (ix1 n) = _
  entry_read
  show shapeCast (s := S128x64) S8192 (m (((0 : Dev nD) : Thread nD τ).loc main_arg0)) shapeCasts_S128x64_S8192 (ix1 n) = _
  generalize m (((0 : Dev nD) : Thread nD τ).loc main_arg0) = v
  pointwise []

theorem word_lt (w : BitVec 32) (e : IntOp.andi (IntOp.cmpi .sge w 0#32) (IntOp.cmpi .slt w 10240#32) = 1#1) : w.toNat < 10240 := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at e
  have h0 : (0#32 : BitVec 32).toInt = 0 := by decide
  have h4 : (10240#32 : BitVec 32).toInt = 10240 := by decide
  rw [h0, h4] at e
  have := BitVec.toInt_eq_toNat_cond w
  have := w.isLt
  split_ifs at * <;> omega

theorem pages_lt (F' : FTy → Type) [FloatOps F'] (a0 a1 a2 a3 a4 a5 a6)
    (h : Cert.Pre_pages_exist.fn (F := F') a0 a1 a2 a3 a4 a5 a6 = fun _ => 1#1) (i : S128x64.Idx) : (a0 i : BitVec 32).toNat < 10240 :=
  word_lt (a0 i) (Host.reduce_andi_all _ _ _ _ (fun a => a.elim0) (congrFun h (fun a => a.elim0)) i)

theorem ok_of_pre (m : (ℓ : Loc nD τ sig) → Buf (Elt Ideal) ℓ) (h : Cert.Pre_KernelIdeal m) : Ok m :=
  ok_of _ fun n => by
    rw [tbl_at]
    exact pages_lt Ideal _ _ _ _ _ _ _ (h 0) _

end Cert.KernelIdeal.Att
-- ==== Proof.Softmax.lean ====
module
public import Idealize.ShloMosaic.Lib.Pipeline.ValueKit
public import Idealize.ShloMosaic.Lib.Pointwise
@[expose] public section
noncomputable section
/-!
Softmax attention of one row over the extended reals, taken in blocks of columns: the largest
score so far, the sum of the exponentials so far and the weighted sum of the values so far.
-/
namespace Cert.Online
open Finset Idealize.ShloMosaic

/-- The largest score once a block of columns has been seen. -/
def nM {N : ℕ} (s : Fin N → EReal) (M : EReal) : EReal := max M (univ.sup s)

/-- The sum of exponentials, rescaled to the new largest score, with the block's own added. -/
def nL {N : ℕ} (s : Fin N → EReal) (M L : EReal) : EReal :=
  L * Ideal.exp (M - nM s M) + ∑ x, Ideal.exp (s x - nM s M)

/-- The weighted sum of values, rescaled to the new largest score, with the block's own added. -/
def nA {N : ℕ} (s v : Fin N → EReal) (M A : EReal) : EReal :=
  A * Ideal.exp (M - nM s M) + ∑ x, Ideal.exp (s x - nM s M) * v x

theorem nL_eq {N : ℕ} (s : Fin N → EReal) (M L : EReal) : nL s M L = nA s (fun _ => 1) M L := by
  simp [nL, nA]

theorem exp_nonneg (x : EReal) : 0 ≤ Ideal.exp x := by
  induction x with
  | bot => simp
  | top => simp
  | coe x => simpa using (Real.exp_pos x).le

theorem exp_le_one {x : EReal} (h : x ≤ 0) : Ideal.exp x ≤ 1 := by
  induction x with
  | bot => simp
  | top => simp at h
  | coe x =>
    have : x ≤ 0 := by exact_mod_cast h
    simpa using (by exact_mod_cast Real.exp_le_one_iff.mpr this : ((Real.exp x : ℝ) : EReal) ≤ 1)

theorem sub_nonpos' {a b : EReal} (h : a ≤ b) : a - b ≤ 0 := by
  induction b with
  | bot => simp_all
  | top => simp [sub_eq_add_neg]
  | coe b =>
    induction a with
    | bot => simp
    | top => simp at h
    | coe a =>
      have : a ≤ b := by exact_mod_cast h
      exact_mod_cast (by linarith : a - b ≤ 0)

theorem exp_sub_ne_top {a b : EReal} (h : a ≤ b) : Ideal.exp (a - b) ≠ ⊤ := fun e => by
  have := exp_le_one (sub_nonpos' h)
  rw [e] at this
  exact absurd this (by decide)

theorem sum_mul' {ι : Type*} (F : Finset ι) (f : ι → EReal) (x : EReal) (h0 : 0 ≤ x) (ht : x ≠ ⊤) :
    (∑ i ∈ F, f i) * x = ∑ i ∈ F, f i * x := by
  classical
  induction F using Finset.induction_on with
  | empty => simp
  | insert a F ha ih =>
    rw [Finset.sum_insert ha, Finset.sum_insert ha, EReal.right_distrib_of_nonneg_of_ne_top h0 ht, ih]

theorem coe_sum' {ι : Type*} (F : Finset ι) (f : ι → ℝ) :
    ((∑ i ∈ F, f i : ℝ) : EReal) = ∑ i ∈ F, (f i : EReal) := by
  classical
  induction F using Finset.induction_on with
  | empty => simp
  | insert a F ha ih => rw [Finset.sum_insert ha, Finset.sum_insert ha, EReal.coe_add, ih]

theorem exp_mul {f M M' : EReal} (hf : f ≤ M) (hM : M ≤ M') (ht : M' ≠ ⊤) :
    Ideal.exp (f - M) * Ideal.exp (M - M') = Ideal.exp (f - M') := by
  induction M with
  | bot =>
    have : f = ⊥ := by simpa using hf
    simp [this, sub_eq_add_neg]
  | top => exact absurd (top_le_iff.mp hM) ht
  | coe M =>
    induction M' with
    | bot => simp at hM
    | top => exact absurd rfl ht
    | coe M' =>
      induction f with
      | bot => simp [sub_eq_add_neg]
      | top => simp at hf
      | coe f =>
        rw [← EReal.coe_sub, ← EReal.coe_sub, ← EReal.coe_sub, Ideal.exp_coe, Ideal.exp_coe, Ideal.exp_coe,
          ← EReal.coe_mul, ← Real.exp_add]
        congr 2; ring

theorem rescale {ι : Type*} (F : Finset ι) (f v : ι → EReal) {M M' : EReal} (hf : ∀ i ∈ F, f i ≤ M)
    (hM : M ≤ M') (ht : M' ≠ ⊤) :
    (∑ i ∈ F, Ideal.exp (f i - M) * v i) * Ideal.exp (M - M') = ∑ i ∈ F, Ideal.exp (f i - M') * v i := by
  rw [sum_mul' _ _ _ (exp_nonneg _) (exp_sub_ne_top hM)]
  refine Finset.sum_congr rfl fun i hi => ?_
  rw [mul_right_comm, exp_mul (hf i hi) hM ht]

/-- The largest score of the first `k` blocks. -/
def accM {N : ℕ} (S : ℕ → Fin N → EReal) (k : ℕ) : EReal := (range k).sup fun j => univ.sup (S j)

/-- The weighted sum of the first `k` blocks, taken against the score `M`. -/
def accA {N : ℕ} (S V : ℕ → Fin N → EReal) (k : ℕ) (M : EReal) : EReal :=
  ∑ j ∈ range k, ∑ n, Ideal.exp (S j n - M) * V j n

theorem le_accM {N : ℕ} (S : ℕ → Fin N → EReal) {k j : ℕ} (h : j < k) (n : Fin N) : S j n ≤ accM S k :=
  (Finset.le_sup (f := S j) (mem_univ n)).trans
    (Finset.le_sup (f := fun j => univ.sup (S j)) (mem_range.mpr h))

theorem sup_ne_top {ι : Type*} (F : Finset ι) (f : ι → EReal) (h : ∀ i ∈ F, f i ≠ ⊤) : F.sup f ≠ ⊤ := by
  have := (Finset.sup_lt_iff (s := F) (f := f) (a := ⊤) (by decide)).mpr fun i hi => lt_top_iff_ne_top.mpr (h i hi)
  exact this.ne

theorem accM_ne_top {N : ℕ} (S : ℕ → Fin N → EReal) (k : ℕ) (h : ∀ j n, S j n ≠ ⊤) : accM S k ≠ ⊤ :=
  sup_ne_top _ _ fun j _ => sup_ne_top _ _ fun n _ => h j n

theorem accM_succ {N : ℕ} (S : ℕ → Fin N → EReal) (k : ℕ) : nM (S k) (accM S k) = accM S (k + 1) := by
  simp only [nM, accM, Finset.range_add_one, Finset.sup_insert]
  exact max_comm _ _

theorem nM_ne_top {N : ℕ} (s : Fin N → EReal) {M : EReal} (hs : ∀ n, s n ≠ ⊤) (hM : M ≠ ⊤) : nM s M ≠ ⊤ := by
  have := sup_ne_top univ s fun n _ => hs n
  simp only [nM]
  rcases max_choice M (univ.sup s) with h | h <;> rw [h] <;> assumption

/-- One more block of columns, of any width, after `k` blocks. -/
theorem nA_acc {N N' : ℕ} (S V : ℕ → Fin N → EReal) (k : ℕ) (s v : Fin N' → EReal)
    (h : ∀ j n, S j n ≠ ⊤) (hs : ∀ n, s n ≠ ⊤) :
    nA s v (accM S k) (accA S V k (accM S k))
      = accA S V k (nM s (accM S k)) + ∑ n, Ideal.exp (s n - nM s (accM S k)) * v n := by
  have ht := nM_ne_top s hs (accM_ne_top S k h)
  rw [nA, accA, accA, ← Finset.sum_product' (range k) univ (fun j n => Ideal.exp (S j n - accM S k) * V j n),
    ← Finset.sum_product' (range k) univ (fun j n => Ideal.exp (S j n - nM s (accM S k)) * V j n)]
  rw [rescale (range k ×ˢ univ) (fun p => S p.1 p.2) (fun p => V p.1 p.2) (fun p hp => ?_)
    (show accM S k ≤ nM s (accM S k) from le_max_left _ _) ht]
  exact le_accM S (mem_range.mp (mem_product.mp hp).1) p.2

theorem accA_succ {N : ℕ} (S V : ℕ → Fin N → EReal) (k : ℕ) (h : ∀ j n, S j n ≠ ⊤) :
    nA (S k) (V k) (accM S k) (accA S V k (accM S k)) = accA S V (k + 1) (accM S (k + 1)) := by
  rw [nA_acc S V k _ _ h (h k), accM_succ, accA, accA, Finset.sum_range_succ]

/-- Dividing the weighted sum by the sum of weights is the same as weighting by the quotients. -/
theorem quotient {K : ℕ} (e w : Fin K → EReal) (ht : ∀ k, e k ≠ ⊤) (hb : ∃ k, e k ≠ ⊥) {M : EReal}
    (hM : M = univ.sup e) :
    Ideal.div (∑ k, Ideal.exp (e k - M) * w k) (∑ k, Ideal.exp (e k - M))
      = ∑ k, Ideal.div (Ideal.exp (e k - M)) (∑ k, Ideal.exp (e k - M)) * w k := by
  have hle : ∀ k, e k ≤ M := fun k => hM ▸ Finset.le_sup (f := e) (mem_univ k)
  have hMt : M ≠ ⊤ := hM ▸ sup_ne_top _ _ fun k _ => ht k
  obtain ⟨k0, hk0⟩ := hb
  have hMb : M ≠ ⊥ := fun h => hk0 (le_bot_iff.mp (h ▸ hle k0))
  have hr : ∀ k, Ideal.exp (e k - M) = (((Ideal.exp (e k - M)).toReal : ℝ) : EReal) := fun k =>
    (EReal.coe_toReal (exp_sub_ne_top (hle k)) (fun h => by have := exp_nonneg (e k - M); rw [h] at this; simp at this)).symm
  have hy : (∑ k, Ideal.exp (e k - M)) = ((∑ k, (Ideal.exp (e k - M)).toReal : ℝ) : EReal) := by
    rw [coe_sum']
    exact Finset.sum_congr rfl fun k _ => hr k
  have hpos : 0 < ∑ k, (Ideal.exp (e k - M)).toReal := by
    refine Finset.sum_pos' (fun k _ => EReal.toReal_nonneg (exp_nonneg _)) ⟨k0, mem_univ _, ?_⟩
    lift M to ℝ using ⟨hMt, hMb⟩
    obtain ⟨x, hx⟩ : ∃ x : ℝ, (x : EReal) = e k0 := ⟨(e k0).toReal, EReal.coe_toReal (ht k0) hk0⟩
    rw [← hx, ← EReal.coe_sub, Ideal.exp_coe, EReal.toReal_coe]
    exact Real.exp_pos _
  rw [hy, Ideal.div_coe hpos.ne']
  rw [sum_mul' _ _ _ (by exact_mod_cast (one_div_pos.mpr hpos).le) (EReal.coe_ne_top _)]
  refine Finset.sum_congr rfl fun k _ => ?_
  rw [Ideal.div_coe hpos.ne', mul_right_comm]

/-- Columns of all eight heads, those of other heads left out, are the columns of one. -/
theorem sum_heads {N : ℕ} (h : Fin 8) (g : Fin N → EReal) :
    (∑ n : Fin (N * 8), if h.val = n.val % 8 then g ⟨n.val / 8, by have := n.2; omega⟩ else 0) = ∑ c, g c := by
  rw [← (finProdFinEquiv (m := N) (n := 8)).sum_comp, Fintype.sum_prod_type]
  refine Finset.sum_congr rfl fun c _ => ?_
  rw [Finset.sum_eq_single h]
  · have : (finProdFinEquiv (c, h)).val = h.val + 8 * c.val := rfl
    simp only [this]
    rw [if_pos (by omega)]
    congr 1; ext; simp; omega
  · intro b _ hb
    have : (finProdFinEquiv (c, b)).val = b.val + 8 * c.val := rfl
    rw [if_neg]
    rw [this]; intro e; exact hb (Fin.ext (by omega))
  · simp

end Cert.Online
-- ==== Proof.Step.lean ====
module
public import proofs.«01_k».proof.Proof.FrameI
public import proofs.«01_k».proof.Proof.Softmax
public import Idealize.ShloMosaic.Lib.Pipeline.ValueKit
public import Idealize.ShloMosaic.Lib.Pointwise
@[expose] public section
set_option maxRecDepth 16384
noncomputable section
/-!
What one page of the cache, and the last block of new keys, do to the running softmax: the
payloads of the kernel read entry by entry.
-/
namespace Cert.KernelIdeal.Att
open Idealize.ShloMosaic Idealize.ShloMosaic.TcCoe Idealize.SL Idealize.SL.Sem Cert.KernelIdeal.Gen
open Cert.Online

/-- The threshold the mask is compared with. -/
abbrev half : EReal := Ideal.ofBits .f32 0x3F000000#32

/-- The score of row `r` (head `r / 8`, query `r % 8`) at column `n` (key `n / 8`, head `n % 8`) of a page. -/
def psc (x0 : FVec Ideal S1x8x512 .f32) (x1 : FVec Ideal S1x4x8x128 .f32) (p : Fin 4)
    (K : FVec Ideal S1x1x128x8x64 .f32) (r : Fin 64) (n : Fin 1024) : EReal :=
  if half < x1 (ix4 0 p ⟨r.val % 8, by omega⟩ ⟨n.val / 8, by omega⟩) ∧ r.val / 8 = n.val % 8 then
    ∑ x : Fin 64, x0 (ix3 0 ⟨r.val % 8, by omega⟩ ⟨r.val / 8 * 64 + x.val, by omega⟩)
      * K (ix5 0 0 ⟨n.val / 8, by omega⟩ ⟨n.val % 8, by omega⟩ x)
  else ⊥

/-- The score of row `r` at column `n` (head `n / 8`, new key `n % 8`) of the new keys. -/
def nsc (x0 : FVec Ideal S1x8x512 .f32) (x2 : FVec Ideal S1x1x8x128 .f32)
    (K : FVec Ideal S1x8x512 .f32) (r : Fin 64) (n : Fin 64) : EReal :=
  if half < x2 (ix4 0 0 ⟨r.val % 8, by omega⟩ ⟨n.val % 8, by omega⟩) ∧ r.val / 8 = n.val / 8 then
    ∑ x : Fin 64, x0 (ix3 0 ⟨r.val % 8, by omega⟩ ⟨r.val / 8 * 64 + x.val, by omega⟩)
      * K (ix3 0 ⟨n.val % 8, by omega⟩ ⟨n.val / 8 * 64 + x.val, by omega⟩)
  else ⊥

theorem ladder8 (f : Fin 8 → EReal) (r : ℕ) (hr : r < 64) :
    (if h : r < 8 then f ⟨r, h⟩
      else if h : r - 8 < 8 then f ⟨r - 8, h⟩
      else if h : r - 8 - 8 < 8 then f ⟨r - 8 - 8, h⟩
      else if h : r - 8 - 8 - 8 < 8 then f ⟨r - 8 - 8 - 8, h⟩
      else if h : r - 8 - 8 - 8 - 8 < 8 then f ⟨r - 8 - 8 - 8 - 8, h⟩
      else if h : r - 8 - 8 - 8 - 8 - 8 < 8 then f ⟨r - 8 - 8 - 8 - 8 - 8, h⟩
      else if h : r - 8 - 8 - 8 - 8 - 8 - 8 < 8 then f ⟨r - 8 - 8 - 8 - 8 - 8 - 8, h⟩
      else f ⟨r - 8 - 8 - 8 - 8 - 8 - 8 - 8, by omega⟩) = f ⟨r % 8, by omega⟩ := by
  split_ifs <;> (congr 1; ext; simp only []; omega)

theorem e19 (x : FVec Ideal S1x8x512 .f32) (r d : Fin 64) :
   k0_pay19 (F := Ideal) x (ix2 r d) = (x (ix3 0 ⟨r.val % 8, by omega⟩ ⟨r.val / 8 * 64 + d.val, by omega⟩) : EReal) := by
  pointwise [k0_pay19]
  split_ifs <;> blk_ext []
theorem e28 (x : FVec Ideal S1x1x128x8x64 .f32) (n : Fin 1024) (d : Fin 64) :
   k0_pay28 (F := Ideal) x (ix2 n d) = (x (ix5 0 0 ⟨n.val / 8, by omega⟩ ⟨n.val % 8, by omega⟩ d) : EReal) := by
  pointwise [k0_pay28]
theorem wdiv : ∀ n : Fin 1024, Scalar.select
          (IntOp.andi
            (IntOp.cmpi CmpIPredicate.ne
              (IntOp.subi (BitVec.setWidth 32 (IntOp.cmpi CmpIPredicate.sgt (BitVec.ofNat 32 ↑n) 0#32))
                (BitVec.setWidth 32 (IntOp.cmpi CmpIPredicate.slt (BitVec.ofNat 32 ↑n) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 ↑n) 8#32) 0#32))
          (IntOp.subi (IntOp.divsi ArithUnit.vector (BitVec.ofNat 32 ↑n) 8#32) 1#32)
          (IntOp.divsi ArithUnit.vector (BitVec.ofNat 32 ↑n) 8#32) = BitVec.ofNat 32 (n.val / 8) := by decide +kernel
theorem wmod : ∀ n : Fin 1024, Scalar.select
      (IntOp.andi
        (IntOp.xori
          (IntOp.cmpi CmpIPredicate.slt
            (IntOp.remsi ArithUnit.vector (BitVec.ofNat 32 ↑n)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 ↑n)
            (Scalar.select (Scalar.cmpi CmpIPredicate.eq 8#32 0#32) 1#32 8#32))
          0#32))
      (IntOp.addi
        (IntOp.remsi ArithUnit.vector (BitVec.ofNat 32 ↑n)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 ↑n)
        (Scalar.select (Scalar.cmpi CmpIPredicate.eq 8#32 0#32) 1#32 8#32)) =
    BitVec.ofNat 32 (↑n % 8) := by decide +kernel
theorem weq (a b : ℕ) (ha : a < 1024) (hb : b < 1024) :
    IntOp.cmpi .eq (BitVec.ofNat 32 a) (BitVec.ofNat 32 b) = BitVec.ofBool (decide (a = b)) := by
  unfold IntOp.cmpi
  have : (BitVec.ofNat 32 a == BitVec.ofNat 32 b) = decide (a = b) := by
    by_cases h : a = b
    · simp [h]
    · simp [h, ← BitVec.toNat_inj]; omega
  simp [this]
theorem sel (b : Bool) (x y : EReal) : Scalar.select (BitVec.ofBool b) x y = if b then x else y := by
  cases b <;> rfl
theorem andb (a b : Bool) : IntOp.andi (BitVec.ofBool a) (BitVec.ofBool b) = BitVec.ofBool (a && b) := by
  cases a <;> cases b <;> rfl

/-- The matrix that spreads a page's mask over the heads. -/
def EXP : FVec Ideal S128x1024 .bf16 := k0_pay25 (F := Ideal) k0_pay23 (FloatOps.ofBits FTy.f32 0#32) k0_pay24
theorem e25 (c : Fin 128) (n : Fin 1024) : EXP (ix2 c n) = (if n.val / 8 = c.val then 1 else 0 : EReal) := by
  pointwise [EXP, k0_pay25, k0_pay23, k0_pay24]
  rw [wdiv, weq _ _ (by omega) (by omega), sel]
  simp
theorem e26 (r : Fin 64) (n : Fin 1024) : k0_pay26 (ix2 r n) = BitVec.ofNat 32 (n.val % 8) := by
  pointwise [k0_pay26]
  exact wmod n
def RH : IVec S64x1024 32 := iota Kind.tc S64x1024 32 [0] iota_S64x1024_d0_w32
theorem e40 (x : FVec Ideal S1x1x8x128 .f32) (i : Fin 8) (n : Fin 1024) :
    k0_pay40 EXP x (ix2 i n) = (x (ix4 0 0 i ⟨n.val / 8, by omega⟩) : EReal) := by
  pointwise [k0_pay40, e25]
  rw [Finset.sum_eq_single (⟨n.val / 8, by omega⟩ : Fin 128)]
  · simp
  · intro b _ hb
    rw [if_neg (fun e => hb (Fin.ext e.symm)), mul_zero]
  · simp
theorem e32 (q : FVec Ideal S64x64 .bf16) (kp : FVec Ideal S8x1024 .f32)
  (k : FVec Ideal S1024x64 .bf16) (r : Fin 64) (n : Fin 1024) :
   k0_pay32 q k0_pay26 kp k RH 8#32 k0_pay30 k0_pay31 (ix2 r n) =
     (if half < kp (ix2 ⟨r.val % 8, by omega⟩ n) ∧ r.val / 8 = n.val % 8 then
       ∑ x : Fin 64, q (ix2 r x) * k (ix2 n x) else ⊥ : EReal) := by
  pointwise [k0_pay32, k0_pay30, k0_pay31, RH, e26]
  rw [wdiv ⟨r.val, by omega⟩, weq _ _ (by omega) (by omega), andb, sel]
  rw [ladder8 (fun i => kp (ix2 i n)) r.val (by omega)]
  simp only [Bool.and_eq_true, decide_eq_true_eq]
  rfl

/-- The running state: the largest score, the sum and the weighted values of every row. -/
abbrev St := FVec Ideal S64x1 .f32 × FVec Ideal S64x1 .f32 × FVec Ideal S64x64 .f32

/-- The largest score of every row, after a block of columns with scores `s`. -/
def upM {N : ℕ} (s : Fin 64 → Fin N → EReal) (M : FVec Ideal S64x1 .f32) : FVec Ideal S64x1 .f32 :=
  fun i => nM (s (i 0)) (M i)

/-- The sum of every row, after a block of columns with scores `s`. -/
def upL {N : ℕ} (s : Fin 64 → Fin N → EReal) (M L : FVec Ideal S64x1 .f32) : FVec Ideal S64x1 .f32 :=
  fun i => nL (s (i 0)) (M i) (L i)

/-- The weighted values of every row, after a block of columns with scores `s` and values `v`. -/
def upA {N : ℕ} (s : Fin 64 → Fin N → EReal) (v : Fin N → Fin 64 → EReal) (M : FVec Ideal S64x1 .f32)
    (A : FVec Ideal S64x64 .f32) : FVec Ideal S64x64 .f32 :=
  fun i => nA (s (i 0)) (fun n => v n (i 1)) (M (ix2 (i 0) 0)) (A i)

/-- One block of columns with scores `s` and values `v`, into the running state. -/
def upd {N : ℕ} (s : Fin 64 → Fin N → EReal) (v : Fin N → Fin 64 → EReal) (st : St) : St :=
  (upM s st.1, upL s st.1 st.2.1, upA s v st.1 st.2.2)

theorem negInf : Ideal.ofBits .f32 0xFF800000#32 = ⊥ := by
  simp [Ideal.ofBits, Ideal.ieee]
theorem u33 (q : FVec Ideal S64x64 .bf16) (lh : IVec S64x1024 32) (kp : FVec Ideal S8x1024 .f32)
    (k : FVec Ideal S1024x64 .bf16) (a1 a2 a3 a4) (M : FVec Ideal S64x1 .f32) :
    k0_pay33 q lh kp k a1 a2 a3 a4 M
      = fun i => nM (fun n => k0_pay32 (F := Ideal) q lh kp k a1 a2 a3 a4 (ix2 (i 0) n)) (M i) := by
  funext i
  idx_vars i
  pointwise [k0_pay33, nM]
  rw [negInf]
  rfl
theorem u36 (q : FVec Ideal S64x64 .bf16) (lh : IVec S64x1024 32) (kp : FVec Ideal S8x1024 .f32)
    (k : FVec Ideal S1024x64 .bf16) (a1 a2 a3 a4) (M L : FVec Ideal S64x1 .f32) :
    k0_pay37 (k0_pay36 q lh kp k a1 a2 a3 a4 M L)
      = fun i => nL (fun n => k0_pay32 (F := Ideal) q lh kp k a1 a2 a3 a4 (ix2 (i 0) n)) (M i) (L i) := by
  funext i
  idx_vars i
  pointwise [k0_pay37, k0_pay36, k0_pay34, k0_pay35, nL, u33]
  obtain rfl : i1 = 0 := Subsingleton.elim _ _
  rfl
theorem u38 (q : FVec Ideal S64x64 .bf16) (lh : IVec S64x1024 32) (kp : FVec Ideal S8x1024 .f32)
    (k v : FVec Ideal S1024x64 .bf16) (a1 a2 a3 a4) (M : FVec Ideal S64x1 .f32) (A : FVec Ideal S64x64 .f32) :
    k0_pay38 v (k0_pay34 q lh kp k a1 a2 a3 a4 M) (k0_pay35 q lh kp k a1 a2 a3 a4 M) A
      = fun i => nA (fun n => k0_pay32 (F := Ideal) q lh kp k a1 a2 a3 a4 (ix2 (i 0) n)) (fun n => v (ix2 n (i 1)))
        (M (ix2 (i 0) 0)) (A i) := by
  funext i
  idx_vars i
  pointwise [k0_pay38, k0_pay34, k0_pay35, nA, u33]
theorem s46 (q : FVec Ideal S64x64 .bf16) (kp : FVec Ideal S8x1024 .f32) (k : FVec Ideal S1024x64 .bf16) :
    k0_pay46 q k0_pay26 kp k RH 8#32 k0_pay43 k0_pay44 k0_pay45
      = k0_pay32 q k0_pay26 kp k RH 8#32 k0_pay30 k0_pay31 := rfl
theorem s58 (q : FVec Ideal S64x64 .bf16) (kp : FVec Ideal S8x1024 .f32) (k : FVec Ideal S1024x64 .bf16) :
    k0_pay58 q k0_pay26 kp k RH 8#32 k0_pay56 k0_pay57
      = k0_pay32 q k0_pay26 kp k RH 8#32 k0_pay30 k0_pay31 := rfl
theorem s71 (q : FVec Ideal S64x64 .bf16) (kp : FVec Ideal S8x1024 .f32) (k : FVec Ideal S1024x64 .bf16) :
    k0_pay71 q k0_pay26 kp k RH 8#32 k0_pay69 k0_pay70 (Scalar.extui (Scalar.cmpi .sgt 8#32 0#32))
      = k0_pay32 q k0_pay26 kp k RH 8#32 k0_pay30 k0_pay31 := rfl

theorem e6 (x : FVec Ideal S1x1x8x128 .f32) (i : Fin 8) (n : Fin 64) :
    k0_pay6 x (ix2 i n) = (x (ix4 0 0 i ⟨n.val % 8, by omega⟩) : EReal) := by
  pointwise [k0_pay6]
  rw [Finset.sum_eq_single (⟨n.val % 8, by omega⟩ : Fin 128)]
  · rw [wmod ⟨n.val, by omega⟩, weq _ _ (by omega) (by omega), sel]
    simp
  · intro b _ hb
    rw [wmod ⟨n.val, by omega⟩, weq _ _ (by omega) (by omega), sel, if_neg]
    simp only [decide_eq_true_eq]
    exact fun e => hb (Fin.ext e.symm)
  · simp
theorem e7 (x : FVec Ideal S1x8x512 .f32) : k0_pay7 (F := Ideal) x = k0_pay19 (F := Ideal) x := rfl
theorem e9 (x : FVec Ideal S1x8x512 .f32) : k0_pay9 (F := Ideal) (k0_pay8 x) = k0_pay19 (F := Ideal) x := rfl
def RN : IVec S64x64 32 := iota Kind.tc S64x64 32 [0] iota_S64x64_d0_w32
theorem e10 (r : Fin 64) (n : Fin 64) : k0_pay10 (ix2 r n) = BitVec.ofNat 32 (n.val / 8) := by
  pointwise [k0_pay10]
  exact wdiv ⟨n.val, by omega⟩
theorem e13 (q : FVec Ideal S64x64 .bf16) (kp : FVec Ideal S8x64 .f32)
  (k : FVec Ideal S64x64 .bf16) (r : Fin 64) (n : Fin 64) :
   k0_pay13 q kp k k0_pay10 RN 8#32 k0_pay11 k0_pay12 (Scalar.extui (Scalar.cmpi .sgt 8#32 0#32)) (Scalar.cmpi .slt 8#32 0#32) (ix2 r n) =
     (if half < kp (ix2 ⟨r.val % 8, by omega⟩ n) ∧ r.val / 8 = n.val / 8 then
       ∑ x : Fin 64, q (ix2 r x) * k (ix2 n x) else ⊥ : EReal) := by
  pointwise [k0_pay13, k0_pay11, k0_pay12, RN, e10]
  rw [wdiv ⟨r.val, by omega⟩, weq _ _ (by omega) (by omega), andb, sel]
  rw [ladder8 (fun i => kp (ix2 i n)) r.val (by omega)]
  simp only [Bool.and_eq_true, decide_eq_true_eq]
  rfl
theorem u14 (q : FVec Ideal S64x64 .bf16) (kp : FVec Ideal S8x64 .f32)
    (k : FVec Ideal S64x64 .bf16) (a0 a1 a2 a3 a4 a5 a6) (M : FVec Ideal S64x1 .f32) :
    k0_pay14 q kp k a0 a1 a2 a3 a4 a5 a6 M
      = fun i => nM (fun n => k0_pay13 (F := Ideal) q kp k a0 a1 a2 a3 a4 a5 a6 (ix2 (i 0) n)) (M i) := by
  funext i
  idx_vars i
  pointwise [k0_pay14, nM]
  rw [negInf]
  rfl
theorem u17 (q : FVec Ideal S64x64 .bf16) (kp : FVec Ideal S8x64 .f32)
    (k : FVec Ideal S64x64 .bf16) (a0 a1 a2 a3 a4 a5 a6) (M L : FVec Ideal S64x1 .f32) :
    k0_pay17 q kp k a0 a1 a2 a3 a4 a5 a6 M L
      = fun i => nL (fun n => k0_pay13 (F := Ideal) q kp k a0 a1 a2 a3 a4 a5 a6 (ix2 (i 0) n)) (M i) (L i) := by
  funext i
  idx_vars i
  pointwise [k0_pay17, k0_pay15, k0_pay16, nL, u14]
  obtain rfl : i1 = 0 := Subsingleton.elim _ _
  rfl
theorem u18 (q : FVec Ideal S64x64 .bf16) (kp : FVec Ideal S8x64 .f32)
    (k v : FVec Ideal S64x64 .bf16) (a0 a1 a2 a3 a4 a5 a6) (M : FVec Ideal S64x1 .f32) (A : FVec Ideal S64x64 .f32) :
    k0_pay3 (k0_pay18 q kp k v a0 a1 a2 a3 a4 a5 a6 M A)
      = fun i => nA (fun n => k0_pay13 (F := Ideal) q kp k a0 a1 a2 a3 a4 a5 a6 (ix2 (i 0) n)) (fun n => v (ix2 n (i 1)))
        (M (ix2 (i 0) 0)) (A i) := by
  funext i
  idx_vars i
  pointwise [k0_pay3, k0_pay18, k0_pay15, k0_pay16, nA, u14]
theorem e5 (A : FVec Ideal S64x64 .f32) (L : FVec Ideal S64x1 .f32) (i : Fin 8) (x : Fin 512) :
    k0_pay5 (F := Ideal) A L (ix3 0 i x) = (Ideal.div (A (ix2 ⟨x.val / 64 * 8 + i.val, by omega⟩ ⟨x.val % 64, by omega⟩))
      (L (ix2 ⟨x.val / 64 * 8 + i.val, by omega⟩ 0)) : EReal) := by
  pointwise [k0_pay5]
  split_ifs <;> (congr 2 <;> blk_ext [])

/-- The values of a page, by column and lane. -/
def pv (V : FVec Ideal S1x1x128x8x64 .f32) (n : Fin 1024) (d : Fin 64) : EReal :=
  V (ix5 0 0 ⟨n.val / 8, by omega⟩ ⟨n.val % 8, by omega⟩ d)

/-- The new values, by column and lane. -/
def nv (V : FVec Ideal S1x8x512 .f32) (n : Fin 64) (d : Fin 64) : EReal :=
  V (ix3 0 ⟨n.val % 8, by omega⟩ ⟨n.val / 8 * 64 + d.val, by omega⟩)

/-- One page into the running state. -/
def page (x0 : FVec Ideal S1x8x512 .f32) (x1 : FVec Ideal S1x4x8x128 .f32) (p : Fin 4)
    (K V : FVec Ideal S1x1x128x8x64 .f32) (st : St) : St := upd (psc x0 x1 p K) (pv V) st

/-- The new keys into the running state. -/
def last (x0 : FVec Ideal S1x8x512 .f32) (x2 : FVec Ideal S1x1x8x128 .f32) (K V : FVec Ideal S1x8x512 .f32)
    (st : St) : St := upd (nsc x0 x2 K) (nv V) st

/-- The state a row of the grid starts from. -/
def st0 : St := (k0_pay20, k0_pay21, k0_pay22)

end Cert.KernelIdeal.Att
-- ==== Proof.Pre.lean ====
module
public import proofs.«01_k».proof.Proof.TabI
public import proofs.«01_k».proof.Proof.Step
public import proofs.«01_k».proof.Proof.Gen.Pre_pre
@[expose] public section
set_option maxRecDepth 16384
noncomputable section
namespace Cert.KernelIdeal.Att
open Idealize.ShloMosaic Idealize.ShloMosaic.TcCoe Idealize.SL Idealize.SL.Sem Cert.KernelIdeal.Gen

/-- What the precondition says of the arguments. -/
structure Good (a0 : IVec S128x64 32) (q : FVec Ideal S128x8x512 .f32) (keep : FVec Ideal S128x65x8x128 .f32)
    (kn : FVec Ideal S128x8x512 .f32) (ck : FVec Ideal S1x10240x128x8x64 .f32) : Prop where
  pages : ∀ i, (a0 i : BitVec 32).toNat < 10240
  q_fin : ∀ i, q i ≠ ⊤ ∧ q i ≠ ⊥
  kn_fin : ∀ i, kn i ≠ ⊤ ∧ kn i ≠ ⊥
  ck_fin : ∀ i, ck i ≠ ⊤ ∧ ck i ≠ ⊥
  some : ∀ (b : Fin 128) (i : Fin 8), (∃ (p : Fin 64) (c : Fin 128), half < keep (ix4 b ⟨p.val, by omega⟩ i c))
    ∨ ∃ j : Fin 8, half < keep (ix4 b 64 i ⟨j.val, by omega⟩)

theorem of_bool {p : Prop} [Decidable p] (h : BitVec.ofBool (decide p) = 1#1) : p := by
  by_contra hn
  rw [decide_eq_false hn] at h
  exact absurd h (by decide)

theorem fin_of (x : EReal) (h : FloatOps.cmpf (F := Ideal) .olt (FloatOps.absf (F := Ideal) (φ := .f32) x) (FloatOps.ofBits (F := Ideal) .f32 0x7F800000#32) = 1#1) :
    x ≠ ⊤ ∧ x ≠ ⊥ := by
  have ht : Ideal.ofBits .f32 0x7F800000#32 = ⊤ := by simp [Ideal.ofBits, Ideal.ieee]
  have h' : (max x (-x) : EReal) < ⊤ := by
    have : BitVec.ofBool (decide ((max x (-x) : EReal) < Ideal.ofBits .f32 0x7F800000#32)) = 1#1 := h
    rw [ht] at this
    by_contra hn
    rw [decide_eq_false hn] at this
    exact absurd this (by decide)
  constructor <;> rintro rfl <;> simp at h'

set_option maxHeartbeats 1000000 in
theorem good_of_fn (a0 : IVec S128x64 32) (q : FVec Ideal S128x8x512 .f32) (keep : FVec Ideal S128x65x8x128 .f32)
    (kn vn : FVec Ideal S128x8x512 .f32) (ck cv : FVec Ideal S1x10240x128x8x64 .f32)
    (h : Cert.Pre_pre.fn (F := Ideal) a0 q keep kn vn ck cv = fun _ => 1#1) : Good a0 q keep kn ck := by
  have andi_one (a b : BitVec 1) : IntOp.andi a b = 1#1 ↔ a = 1#1 ∧ b = 1#1 := by revert a b; decide
  have e := congrFun h (fun a => a.elim0)
  simp only [Cert.Pre_pre.fn, Cert.Pre_pre.fn_part1, andi, andi_one] at e
  obtain ⟨⟨e1, ⟨e2, e3⟩, e4⟩, e5⟩ := e
  have f1 := Host.reduce_andi_all _ _ _ _ _ e1
  have f2 := Host.reduce_andi_all _ _ _ _ _ e2
  have f3 := Host.reduce_andi_all _ _ _ _ _ e3
  have f4 := Host.reduce_andi_all _ _ _ _ _ e4
  have f5 := Host.reduce_andi_all _ _ _ _ _ e5
  refine ⟨?_, fun i => fin_of _ (f2 i), fun i => fin_of _ (f3 i), fun i => fin_of _ (f4 i), ?_⟩
  · exact fun i => word_lt (a0 i) (f1 i)
  · intro b i
    have g := f5 (ix2 b i)
    revert g
    pointwise []
    intro g
    have hb : ¬ half < Ideal.ofBits .f32 0xFF800000#32 := by rw [negInf]; exact not_lt_bot
    rcases lt_max_iff.1 (of_bool g) with g1 | g1
    · left
      rcases (Finset.lt_fold_max _).1 g1 with g2 | ⟨p, _, g2⟩
      · exact absurd g2 hb
      rcases (Finset.lt_fold_max _).1 g2 with g3 | ⟨c, _, g3⟩
      · exact absurd g3 hb
      exact ⟨p, c, g3⟩
    · right
      rcases (Finset.lt_fold_max _).1 g1 with g2 | ⟨j, _, g2⟩
      · exact absurd g2 hb
      exact ⟨j, g2⟩

theorem good_of_pre (m : (ℓ : Loc nD τ sig) → Buf (Elt Ideal) ℓ) (h : Cert.Pre_KernelIdeal_pre m) (c : Dev nD) :
    Good (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) :=
  good_of_fn _ _ _ _ _ _ _ (h c)

theorem ok_of_pre_pre (m : (ℓ : Loc nD τ sig) → Buf (Elt Ideal) ℓ) (h : Cert.Pre_KernelIdeal_pre m) : Ok m :=
  ok_of _ fun n => by
    rw [tbl_at]
    exact (good_of_pre m h 0).pages _

end Cert.KernelIdeal.Att
-- ==== Proof.Frames.lean ====
module
public import proofs.«01_k».proof.Proof.TabI
public import proofs.«01_k».proof.Proof.TabK
public import proofs.«01_k».proof.Proof.Pre
public import proofs.«01_k».proof.Proof.Gen.ReferenceIdeal
public import proofs.«01_k».proof.Proof.Gen.ReferenceIdeal.Run
@[expose] public section
noncomputable section
namespace Cert.Proof
open Idealize.ShloMosaic Idealize.SL.Sem

/-- The compiled kernel runs and leaves its arguments. -/
theorem frame_k : Cert.quiescent_Kernel := fun m ρ h => Cert.Kernel.Gen.frame m ρ (Cert.Kernel.Att.ok_of_pre m h)

/-- So does the kernel over the extended reals. -/
theorem frame_i : Cert.quiescent_KernelIdeal := fun m ρ h => Cert.KernelIdeal.Gen.frame m ρ (Cert.KernelIdeal.Att.ok_of_pre m h)

theorem frame_ip : Cert.quiescent_KernelIdeal_pre_pre :=
  fun m ρ h => Cert.KernelIdeal.Gen.frame m ρ (Cert.KernelIdeal.Att.ok_of_pre_pre m h)

/-- So does the reference, which declares no counter. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_rp : Cert.quiescent_ReferenceIdeal_pre_pre := fun m ρ _ => frame_r m ρ trivial

/-- The mask constant is read as minus infinity. -/
theorem preserves : Cert.preserves_Kernel_KernelIdeal := IdealRules.named_const.statement _ _ _ _ _ rfl

end Cert.Proof
-- ==== Proof.Grid.lean ====
module
public import proofs.«01_k».proof.Proof.TabI
public import Idealize.ShloMosaic.Lib.Pipeline.ReadBack
@[expose] public section
set_option maxRecDepth 16384
noncomputable section
namespace Cert.KernelIdeal.Att
open Idealize.ShloMosaic Idealize.ShloMosaic.TcCoe Idealize.SL Idealize.SL.Sem Cert.KernelIdeal.Gen

theorem co0 : ∀ t : Fin grid0.N, (grid0.coords t 0).val = t.val / 16 := by decide +kernel
theorem co1 : ∀ t : Fin grid0.N, (grid0.coords t 1).val = t.val % 16 := by decide +kernel
theorem ix_0 : ∀ t : Fin grid0.N, cc0_transform_0 (grid0.coords t) = ![t.val / 16, 0, 0] := by decide +kernel
theorem ix_1 : ∀ t : Fin grid0.N, cc0_transform_1 (grid0.coords t) = ![t.val / 16, t.val % 16, 0, 0] := by decide +kernel
theorem ix_2 : ∀ t : Fin grid0.N, cc0_transform_2 (grid0.coords t) = ![t.val / 16, 64, 0, 0] := by decide +kernel
theorem ix_3 : ∀ t : Fin grid0.N, cc0_transform_3 (grid0.coords t) = ![t.val / 16, 0, 0] := by decide +kernel
theorem ix_4 : ∀ t : Fin grid0.N, cc0_transform_4 (grid0.coords t) = ![t.val / 16, 0, 0] := by decide +kernel
theorem ix_13 : ∀ t : Fin grid0.N, cc0_transform_13 (grid0.coords t) = ![t.val / 16, 0, 0] := by decide +kernel

end Cert.KernelIdeal.Att
-- ==== Proof.Blocks.lean ====
module
public import proofs.«01_k».proof.Proof.TabI
public import proofs.«01_k».proof.Proof.Grid
public import Idealize.ShloMosaic.Lib.Pipeline.ReadBack
@[expose] public section
set_option maxRecDepth 16384
noncomputable section
namespace Cert.KernelIdeal.Att
open Idealize.ShloMosaic Idealize.ShloMosaic.TcCoe Idealize.SL Idealize.SL.Sem Cert.KernelIdeal.Gen

variable (m : (ℓ : Loc nD τ sig) → Buf (Elt Ideal) ℓ)

theorem tN {hO : Ok m} (t : Fin (cfgM m hO).N) : t.val < 2048 := lt_of_lt_of_eq t.isLt N_0

theorem b0 (hO : Ok m) (c : Dev nD) (t : Fin (cfgM m hO).N) (i : Fin 8) (x : Fin 512) :
    (iblk m hO c 0 t : Vec Ideal S1x8x512 .f32) (ix3 0 i x) = m ((c : Thread nD τ).loc main_arg1) (ix3 ⟨t.val / 16, by have := tN m t; omega⟩ i x) := by
  refine (congrFun (V_main_arg1 m c) _).trans (congrArg (m ((c : Thread nD τ).loc main_arg1)) (funext fun a : Fin 3 => Fin.ext ?_))
  have e : ∀ a : Fin 3, cc0_transform_0 (grid0.coords t) a = (![t.val / 16, 0, 0] : Fin 3 → ℕ) a := fun a => congrFun (ix_0 t) a
  show cc0_transform_0 (grid0.coords t) a * S1x8x512.size a + 1 * (ix3 (n0 := 1) 0 i x a).val = _
  rw [e]
  fin_cases a <;> simp

theorem b3 (hO : Ok m) (c : Dev nD) (t : Fin (cfgM m hO).N) (i : Fin 8) (x : Fin 512) :
    (iblk m hO c 3 t : Vec Ideal S1x8x512 .f32) (ix3 0 i x) = m ((c : Thread nD τ).loc main_arg3) (ix3 ⟨t.val / 16, by have := tN m t; omega⟩ i x) := by
  refine (congrFun (V_main_arg3 m c) _).trans (congrArg (m ((c : Thread nD τ).loc main_arg3)) (funext fun a : Fin 3 => Fin.ext ?_))
  have e : ∀ a : Fin 3, cc0_transform_3 (grid0.coords t) a = (![t.val / 16, 0, 0] : Fin 3 → ℕ) a := fun a => congrFun (ix_3 t) a
  show cc0_transform_3 (grid0.coords t) a * S1x8x512.size a + 1 * (ix3 (n0 := 1) 0 i x a).val = _
  rw [e]
  fin_cases a <;> simp

theorem b4 (hO : Ok m) (c : Dev nD) (t : Fin (cfgM m hO).N) (i : Fin 8) (x : Fin 512) :
    (iblk m hO c 4 t : Vec Ideal S1x8x512 .f32) (ix3 0 i x) = m ((c : Thread nD τ).loc main_arg4) (ix3 ⟨t.val / 16, by have := tN m t; omega⟩ i x) := by
  refine (congrFun (V_main_arg4 m c) _).trans (congrArg (m ((c : Thread nD τ).loc main_arg4)) (funext fun a : Fin 3 => Fin.ext ?_))
  have e : ∀ a : Fin 3, cc0_transform_4 (grid0.coords t) a = (![t.val / 16, 0, 0] : Fin 3 → ℕ) a := fun a => congrFun (ix_4 t) a
  show cc0_transform_4 (grid0.coords t) a * S1x8x512.size a + 1 * (ix3 (n0 := 1) 0 i x a).val = _
  rw [e]
  fin_cases a <;> simp

theorem b2 (hO : Ok m) (c : Dev nD) (t : Fin (cfgM m hO).N) (i : Fin 8) (x : Fin 128) :
    (iblk m hO c 2 t : Vec Ideal S1x1x8x128 .f32) (ix4 0 0 i x) = m ((c : Thread nD τ).loc main_arg2) (ix4 ⟨t.val / 16, by have := tN m t; omega⟩ 64 i x) := by
  refine (congrFun (V_main_arg2 m c) _).trans (congrArg (m ((c : Thread nD τ).loc main_arg2)) (funext fun a : Fin 4 => Fin.ext ?_))
  have e : ∀ a : Fin 4, cc0_transform_2 (grid0.coords t) a = (![t.val / 16, 64, 0, 0] : Fin 4 → ℕ) a := fun a => congrFun (ix_2 t) a
  show cc0_transform_2 (grid0.coords t) a * S1x1x8x128.size a + 1 * (ix4 (n0 := 1) (n1 := 1) 0 0 i x a).val = _
  rw [e]
  fin_cases a <;> simp

/-- The mask of the cached pages is the first 64 pages of the mask. -/
theorem V1_at (c : Dev nD) (b : Fin 128) (n : Fin 64) (i : Fin 8) (x : Fin 128) :
    (V m c main_v1 : Vec Ideal S128x64x8x128 .f32) (ix4 b n i x) = m ((c : Thread nD τ).loc main_arg2) (ix4 b ⟨n.val, by omega⟩ i x) := by
  show V m c main_v1 (ix4 b n i x) = _
  entry_read
  show extractStridedSlice S128x64x8x128 ![0, 0, 0, 0] (m ((c : Thread nD τ).loc main_arg2)) slices_S128x65x8x128_S128x64x8x128_0_0_0_0 (ix4 b n i x) = _
  generalize m ((c : Thread nD τ).loc main_arg2) = v
  pointwise []

theorem b1 (hO : Ok m) (c : Dev nD) (t : Fin (cfgM m hO).N) (p : Fin 4) (i : Fin 8) (x : Fin 128) :
    (iblk m hO c 1 t : Vec Ideal S1x4x8x128 .f32) (ix4 0 p i x) = m ((c : Thread nD τ).loc main_arg2) (ix4 ⟨t.val / 16, by have := tN m t; omega⟩ ⟨t.val % 16 * 4 + p.val, by omega⟩ i x) := by
  refine Eq.trans ?_ (V1_at m c ⟨t.val / 16, by have := tN m t; omega⟩ ⟨t.val % 16 * 4 + p.val, by omega⟩ i x)
  refine congrArg (V m c main_v1) (funext fun a : Fin 4 => Fin.ext ?_)
  have e : ∀ a : Fin 4, cc0_transform_1 (grid0.coords t) a = (![t.val / 16, t.val % 16, 0, 0] : Fin 4 → ℕ) a := fun a => congrFun (ix_1 t) a
  show cc0_transform_1 (grid0.coords t) a * S1x4x8x128.size a + 1 * (ix4 (n0 := 1) 0 p i x a).val = _
  rw [e]
  fin_cases a <;> simp

theorem b5 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 5 t : Vec Ideal S1x1x128x8x64 .f32) (ix5 0 0 y h x) = m ((c : Thread nD τ).loc main_arg5)
      (ix5 0 ⟨(m ((c : Thread nD τ).loc main_arg0) (ix2 ⟨t.val / 16, by have := tN m t; omega⟩ ⟨t.val % 16 * 4 + 0, by omega⟩) : BitVec 32).toNat, hw _⟩ y h x) := by
  obtain rfl : c = 0 := Subsingleton.elim _ _
  refine (congrFun (V_main_arg5 m 0) _).trans (congrArg (m (((0 : Dev nD) : Thread nD τ).loc main_arg5)) (funext fun a : Fin 5 => Fin.ext ?_))
  have ht := tN m t
  have e : ∀ a : Fin 5, cc0_transform_5 k0_off1_inb numel1_S1 (tbl m) (grid0.coords t) a = (![0, (m (((0 : Dev nD) : Thread nD τ).loc main_arg0)
      (ix2 ⟨t.val / 16, by have := tN m t; omega⟩ ⟨t.val % 16 * 4 + 0, by omega⟩) : BitVec 32).toNat, 0, 0, 0] : Fin 5 → ℕ) a := fun a => by
    rw [tr5, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 0) / 64 = t.val / 16; omega))
      (Fin.ext (by show ((grid0.coords t 0).val * 64 + (grid0.coords t 1).val * 4 + 0) % 64 = t.val % 16 * 4 + 0; omega))
  show cc0_transform_5 k0_off1_inb numel1_S1 (tbl m) (grid0.coords t) a * S1x1x128x8x64.size a + 1 * (ix5 (n0 := 1) (n1 := 1) 0 0 y h x a).val = _
  rw [e]
  fin_cases a <;> simp

theorem b6 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 6 t : Vec Ideal S1x1x128x8x64 .f32) (ix5 0 0 y h x) = m ((c : Thread nD τ).loc main_arg5)
      (ix5 0 ⟨(m ((c : Thread nD τ).loc main_arg0) (ix2 ⟨t.val / 16, by have := tN m t; omega⟩ ⟨t.val % 16 * 4 + 1, by omega⟩) : BitVec 32).toNat, hw _⟩ y h x) := by
  obtain rfl : c = 0 := Subsingleton.elim _ _
  refine (congrFun (V_main_arg5 m 0) _).trans (congrArg (m (((0 : Dev nD) : Thread nD τ).loc main_arg5)) (funext fun a : Fin 5 => Fin.ext ?_))
  have ht := tN m t
  have e : ∀ a : Fin 5, cc0_transform_6 k0_off1_inb numel1_S1 (tbl m) (grid0.coords t) a = (![0, (m (((0 : Dev nD) : Thread nD τ).loc main_arg0)
      (ix2 ⟨t.val / 16, by have := tN m t; omega⟩ ⟨t.val % 16 * 4 + 1, by omega⟩) : BitVec 32).toNat, 0, 0, 0] : Fin 5 → ℕ) a := fun a => by
    rw [tr6, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 1) / 64 = t.val / 16; omega))
      (Fin.ext (by show ((grid0.coords t 0).val * 64 + (grid0.coords t 1).val * 4 + 1) % 64 = t.val % 16 * 4 + 1; omega))
  show cc0_transform_6 k0_off1_inb numel1_S1 (tbl m) (grid0.coords t) a * S1x1x128x8x64.size a + 1 * (ix5 (n0 := 1) (n1 := 1) 0 0 y h x a).val = _
  rw [e]
  fin_cases a <;> simp

theorem b7 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 7 t : Vec Ideal S1x1x128x8x64 .f32) (ix5 0 0 y h x) = m ((c : Thread nD τ).loc main_arg5)
      (ix5 0 ⟨(m ((c : Thread nD τ).loc main_arg0) (ix2 ⟨t.val / 16, by have := tN m t; omega⟩ ⟨t.val % 16 * 4 + 2, by omega⟩) : BitVec 32).toNat, hw _⟩ y h x) := by
  obtain rfl : c = 0 := Subsingleton.elim _ _
  refine (congrFun (V_main_arg5 m 0) _).trans (congrArg (m (((0 : Dev nD) : Thread nD τ).loc main_arg5)) (funext fun a : Fin 5 => Fin.ext ?_))
  have ht := tN m t
  have e : ∀ a : Fin 5, cc0_transform_7 k0_off1_inb numel1_S1 (tbl m) (grid0.coords t) a = (![0, (m (((0 : Dev nD) : Thread nD τ).loc main_arg0)
      (ix2 ⟨t.val / 16, by have := tN m t; omega⟩ ⟨t.val % 16 * 4 + 2, by omega⟩) : BitVec 32).toNat, 0, 0, 0] : Fin 5 → ℕ) a := fun a => by
    rw [tr7, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 2) / 64 = t.val / 16; omega))
      (Fin.ext (by show ((grid0.coords t 0).val * 64 + (grid0.coords t 1).val * 4 + 2) % 64 = t.val % 16 * 4 + 2; omega))
  show cc0_transform_7 k0_off1_inb numel1_S1 (tbl m) (grid0.coords t) a * S1x1x128x8x64.size a + 1 * (ix5 (n0 := 1) (n1 := 1) 0 0 y h x a).val = _
  rw [e]
  fin_cases a <;> simp

theorem b8 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 8 t : Vec Ideal S1x1x128x8x64 .f32) (ix5 0 0 y h x) = m ((c : Thread nD τ).loc main_arg5)
      (ix5 0 ⟨(m ((c : Thread nD τ).loc main_arg0) (ix2 ⟨t.val / 16, by have := tN m t; omega⟩ ⟨t.val % 16 * 4 + 3, by omega⟩) : BitVec 32).toNat, hw _⟩ y h x) := by
  obtain rfl : c = 0 := Subsingleton.elim _ _
  refine (congrFun (V_main_arg5 m 0) _).trans (congrArg (m (((0 : Dev nD) : Thread nD τ).loc main_arg5)) (funext fun a : Fin 5 => Fin.ext ?_))
  have ht := tN m t
  have e : ∀ a : Fin 5, cc0_transform_8 k0_off1_inb numel1_S1 (tbl m) (grid0.coords t) a = (![0, (m (((0 : Dev nD) : Thread nD τ).loc main_arg0)
      (ix2 ⟨t.val / 16, by have := tN m t; omega⟩ ⟨t.val % 16 * 4 + 3, by omega⟩) : BitVec 32).toNat, 0, 0, 0] : Fin 5 → ℕ) a := fun a => by
    rw [tr8, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 3) / 64 = t.val / 16; omega))
      (Fin.ext (by show ((grid0.coords t 0).val * 64 + (grid0.coords t 1).val * 4 + 3) % 64 = t.val % 16 * 4 + 3; omega))
  show cc0_transform_8 k0_off1_inb numel1_S1 (tbl m) (grid0.coords t) a * S1x1x128x8x64.size a + 1 * (ix5 (n0 := 1) (n1 := 1) 0 0 y h x a).val = _
  rw [e]
  fin_cases a <;> simp

theorem b9 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 9 t : Vec Ideal S1x1x128x8x64 .f32) (ix5 0 0 y h x) = m ((c : Thread nD τ).loc main_arg6)
      (ix5 0 ⟨(m ((c : Thread nD τ).loc main_arg0) (ix2 ⟨t.val / 16, by have := tN m t; omega⟩ ⟨t.val % 16 * 4 + 0, by omega⟩) : BitVec 32).toNat, hw _⟩ y h x) := by
  obtain rfl : c = 0 := Subsingleton.elim _ _
  refine (congrFun (V_main_arg6 m 0) _).trans (congrArg (m (((0 : Dev nD) : Thread nD τ).loc main_arg6)) (funext fun a : Fin 5 => Fin.ext ?_))
  have ht := tN m t
  have e : ∀ a : Fin 5, cc0_transform_9 k0_off1_inb numel1_S1 (tbl m) (grid0.coords t) a = (![0, (m (((0 : Dev nD) : Thread nD τ).loc main_arg0)
      (ix2 ⟨t.val / 16, by have := tN m t; omega⟩ ⟨t.val % 16 * 4 + 0, by omega⟩) : BitVec 32).toNat, 0, 0, 0] : Fin 5 → ℕ) a := fun a => by
    rw [tr9, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 0) / 64 = t.val / 16; omega))
      (Fin.ext (by show ((grid0.coords t 0).val * 64 + (grid0.coords t 1).val * 4 + 0) % 64 = t.val % 16 * 4 + 0; omega))
  show cc0_transform_9 k0_off1_inb numel1_S1 (tbl m) (grid0.coords t) a * S1x1x128x8x64.size a + 1 * (ix5 (n0 := 1) (n1 := 1) 0 0 y h x a).val = _
  rw [e]
  fin_cases a <;> simp

theorem b10 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 10 t : Vec Ideal S1x1x128x8x64 .f32) (ix5 0 0 y h x) = m ((c : Thread nD τ).loc main_arg6)
      (ix5 0 ⟨(m ((c : Thread nD τ).loc main_arg0) (ix2 ⟨t.val / 16, by have := tN m t; omega⟩ ⟨t.val % 16 * 4 + 1, by omega⟩) : BitVec 32).toNat, hw _⟩ y h x) := by
  obtain rfl : c = 0 := Subsingleton.elim _ _
  refine (congrFun (V_main_arg6 m 0) _).trans (congrArg (m (((0 : Dev nD) : Thread nD τ).loc main_arg6)) (funext fun a : Fin 5 => Fin.ext ?_))
  have ht := tN m t
  have e : ∀ a : Fin 5, cc0_transform_10 k0_off1_inb numel1_S1 (tbl m) (grid0.coords t) a = (![0, (m (((0 : Dev nD) : Thread nD τ).loc main_arg0)
      (ix2 ⟨t.val / 16, by have := tN m t; omega⟩ ⟨t.val % 16 * 4 + 1, by omega⟩) : BitVec 32).toNat, 0, 0, 0] : Fin 5 → ℕ) a := fun a => by
    rw [tr10, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 1) / 64 = t.val / 16; omega))
      (Fin.ext (by show ((grid0.coords t 0).val * 64 + (grid0.coords t 1).val * 4 + 1) % 64 = t.val % 16 * 4 + 1; omega))
  show cc0_transform_10 k0_off1_inb numel1_S1 (tbl m) (grid0.coords t) a * S1x1x128x8x64.size a + 1 * (ix5 (n0 := 1) (n1 := 1) 0 0 y h x a).val = _
  rw [e]
  fin_cases a <;> simp

theorem b11 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 11 t : Vec Ideal S1x1x128x8x64 .f32) (ix5 0 0 y h x) = m ((c : Thread nD τ).loc main_arg6)
      (ix5 0 ⟨(m ((c : Thread nD τ).loc main_arg0) (ix2 ⟨t.val / 16, by have := tN m t; omega⟩ ⟨t.val % 16 * 4 + 2, by omega⟩) : BitVec 32).toNat, hw _⟩ y h x) := by
  obtain rfl : c = 0 := Subsingleton.elim _ _
  refine (congrFun (V_main_arg6 m 0) _).trans (congrArg (m (((0 : Dev nD) : Thread nD τ).loc main_arg6)) (funext fun a : Fin 5 => Fin.ext ?_))
  have ht := tN m t
  have e : ∀ a : Fin 5, cc0_transform_11 k0_off1_inb numel1_S1 (tbl m) (grid0.coords t) a = (![0, (m (((0 : Dev nD) : Thread nD τ).loc main_arg0)
      (ix2 ⟨t.val / 16, by have := tN m t; omega⟩ ⟨t.val % 16 * 4 + 2, by omega⟩) : BitVec 32).toNat, 0, 0, 0] : Fin 5 → ℕ) a := fun a => by
    rw [tr11, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 2) / 64 = t.val / 16; omega))
      (Fin.ext (by show ((grid0.coords t 0).val * 64 + (grid0.coords t 1).val * 4 + 2) % 64 = t.val % 16 * 4 + 2; omega))
  show cc0_transform_11 k0_off1_inb numel1_S1 (tbl m) (grid0.coords t) a * S1x1x128x8x64.size a + 1 * (ix5 (n0 := 1) (n1 := 1) 0 0 y h x a).val = _
  rw [e]
  fin_cases a <;> simp

theorem b12 (hO : Ok m) (c : Dev nD) (t : Fin (cfgM m hO).N)
    (hw : ∀ i, (m ((c : Thread nD τ).loc main_arg0) i : BitVec 32).toNat < 10240) (y : Fin 128) (h : Fin 8) (x : Fin 64) :
    (iblk m hO c 12 t : Vec Ideal S1x1x128x8x64 .f32) (ix5 0 0 y h x) = m ((c : Thread nD τ).loc main_arg6)
      (ix5 0 ⟨(m ((c : Thread nD τ).loc main_arg0) (ix2 ⟨t.val / 16, by have := tN m t; omega⟩ ⟨t.val % 16 * 4 + 3, by omega⟩) : BitVec 32).toNat, hw _⟩ y h x) := by
  obtain rfl : c = 0 := Subsingleton.elim _ _
  refine (congrFun (V_main_arg6 m 0) _).trans (congrArg (m (((0 : Dev nD) : Thread nD τ).loc main_arg6)) (funext fun a : Fin 5 => Fin.ext ?_))
  have ht := tN m t
  have e : ∀ a : Fin 5, cc0_transform_12 k0_off1_inb numel1_S1 (tbl m) (grid0.coords t) a = (![0, (m (((0 : Dev nD) : Thread nD τ).loc main_arg0)
      (ix2 ⟨t.val / 16, by have := tN m t; omega⟩ ⟨t.val % 16 * 4 + 3, by omega⟩) : BitVec 32).toNat, 0, 0, 0] : Fin 5 → ℕ) a := fun a => by
    rw [tr12, tbl_at]
    refine congrArg (fun w : BitVec 32 => (![0, w.toNat, 0, 0, 0] : Fin 5 → ℕ) a) (congrArg (m (((0 : Dev nD) : Thread nD τ).loc main_arg0)) ?_)
    have h0 := co0 t
    have h1 := co1 t
    exact congrArg₂ (ix2 (n0 := 128) (n1 := 64)) (Fin.ext (by show ((grid0.coords t 0).val * 64 + (grid0.coords t 1).val * 4 + 3) / 64 = t.val / 16; omega))
      (Fin.ext (by show ((grid0.coords t 0).val * 64 + (grid0.coords t 1).val * 4 + 3) % 64 = t.val % 16 * 4 + 3; omega))
  show cc0_transform_12 k0_off1_inb numel1_S1 (tbl m) (grid0.coords t) a * S1x1x128x8x64.size a + 1 * (ix5 (n0 := 1) (n1 := 1) 0 0 y h x a).val = _
  rw [e]
  fin_cases a <;> simp

end Cert.KernelIdeal.Att
-- ==== Proof.Case.lean ====
module
public import proofs.«01_k».proof.Proof.FrameI
public import proofs.«01_k».proof.Proof.Step
public import Idealize.ShloMosaic.Lib.Pipeline.ValueKit
public import Idealize.ShloMosaic.Lib.Pointwise
public import Idealize.ShloMosaic.Lib.Pipeline.ReadBack
@[expose] public section
set_option maxRecDepth 16384
noncomputable section
namespace Cert.KernelIdeal.Att
open Idealize.ShloMosaic Idealize.ShloMosaic.TcCoe Idealize.SL Idealize.SL.Sem Cert.KernelIdeal.Gen
open Cert.Online

variable (m : (ℓ : Loc nD τ sig) → Buf (Elt Ideal) ℓ)

/-- One page's part of the mask block. -/
def ld0 (x1 : Vec Ideal S1x4x8x128 .f32) : Vec Ideal S1x1x8x128 .f32 :=
  View.ld x1 (Rect.unit ![0, 0, 0, 0] ![1, 1, 8, 128] inb_S1x4x8x128_S1x1x8x128_0_0_0_0)
def ld1 (x1 : Vec Ideal S1x4x8x128 .f32) : Vec Ideal S1x1x8x128 .f32 :=
  View.ld x1 (Rect.unit ![0, 1, 0, 0] ![1, 1, 8, 128] inb_S1x4x8x128_S1x1x8x128_0_1_0_0)
def ld2 (x1 : Vec Ideal S1x4x8x128 .f32) : Vec Ideal S1x1x8x128 .f32 :=
  View.ld x1 (Rect.unit ![0, 2, 0, 0] ![1, 1, 8, 128] inb_S1x4x8x128_S1x1x8x128_0_2_0_0)
def ld3 (x1 : Vec Ideal S1x4x8x128 .f32) : Vec Ideal S1x1x8x128 .f32 :=
  View.ld x1 (Rect.unit ![0, 3, 0, 0] ![1, 1, 8, 128] inb_S1x4x8x128_S1x1x8x128_0_3_0_0)
theorem ld0_at (x1 : Vec Ideal S1x4x8x128 .f32) (i : Fin 8) (c : Fin 128) :
    ld0 x1 (ix4 0 0 i c) = x1 (ix4 0 0 i c) := by
  unfold ld0
  pointwise []
theorem ld1_at (x1 : Vec Ideal S1x4x8x128 .f32) (i : Fin 8) (c : Fin 128) :
    ld1 x1 (ix4 0 0 i c) = x1 (ix4 0 1 i c) := by
  unfold ld1
  pointwise []
theorem ld2_at (x1 : Vec Ideal S1x4x8x128 .f32) (i : Fin 8) (c : Fin 128) :
    ld2 x1 (ix4 0 0 i c) = x1 (ix4 0 2 i c) := by
  unfold ld2
  pointwise []
theorem ld3_at (x1 : Vec Ideal S1x4x8x128 .f32) (i : Fin 8) (c : Fin 128) :
    ld3 x1 (ix4 0 0 i c) = x1 (ix4 0 3 i c) := by
  unfold ld3
  pointwise []

theorem core32 (x0 : Vec Ideal S1x8x512 .f32) (x1 : Vec Ideal S1x4x8x128 .f32) (p : Fin 4) (kp : Vec Ideal S1x1x8x128 .f32)
    (hk : ∀ i c, kp (ix4 0 0 i c) = x1 (ix4 0 p i c)) (K : Vec Ideal S1x1x128x8x64 .f32) (r : Fin 64) (n : Fin 1024) :
    k0_pay32 (F := Ideal) (k0_pay19 x0) k0_pay26 (k0_pay40 EXP kp) (k0_pay28 K) RH 8#32 k0_pay30 k0_pay31 (ix2 r n) = psc x0 x1 p K r n := by
  rw [e32, e40, psc]
  simp only [e19, e28, hk]
theorem core33 (x0 : Vec Ideal S1x8x512 .f32) (x1 : Vec Ideal S1x4x8x128 .f32) (p : Fin 4) (kp : Vec Ideal S1x1x8x128 .f32)
    (hk : ∀ i c, kp (ix4 0 0 i c) = x1 (ix4 0 p i c)) (K : Vec Ideal S1x1x128x8x64 .f32) (M : Vec Ideal S64x1 .f32) :
    k0_pay33 (F := Ideal) (k0_pay19 x0) k0_pay26 (k0_pay40 EXP kp) (k0_pay28 K) RH 8#32 k0_pay30 k0_pay31 M = upM (psc x0 x1 p K) M := by
  rw [u33]
  funext i
  exact congrArg (fun f => nM f (M i)) (funext fun n => core32 x0 x1 p kp hk K (i 0) n)
theorem core36 (x0 : Vec Ideal S1x8x512 .f32) (x1 : Vec Ideal S1x4x8x128 .f32) (p : Fin 4) (kp : Vec Ideal S1x1x8x128 .f32)
    (hk : ∀ i c, kp (ix4 0 0 i c) = x1 (ix4 0 p i c)) (K : Vec Ideal S1x1x128x8x64 .f32) (M L : Vec Ideal S64x1 .f32) :
    k0_pay37 (k0_pay36 (F := Ideal) (k0_pay19 x0) k0_pay26 (k0_pay40 EXP kp) (k0_pay28 K) RH 8#32 k0_pay30 k0_pay31 M L) = upL (psc x0 x1 p K) M L := by
  rw [u36]
  funext i
  exact congrArg (fun f => nL f (M i) (L i)) (funext fun n => core32 x0 x1 p kp hk K (i 0) n)
theorem core38 (x0 : Vec Ideal S1x8x512 .f32) (x1 : Vec Ideal S1x4x8x128 .f32) (p : Fin 4) (kp : Vec Ideal S1x1x8x128 .f32)
    (hk : ∀ i c, kp (ix4 0 0 i c) = x1 (ix4 0 p i c)) (K : Vec Ideal S1x1x128x8x64 .f32) (V : Vec Ideal S1x1x128x8x64 .f32) (M : Vec Ideal S64x1 .f32) (A : Vec Ideal S64x64 .f32) :
    k0_pay38 (F := Ideal) (k0_pay28 V) (k0_pay34 (k0_pay19 x0) k0_pay26 (k0_pay40 EXP kp) (k0_pay28 K) RH 8#32 k0_pay30 k0_pay31 M)
      (k0_pay35 (k0_pay19 x0) k0_pay26 (k0_pay40 EXP kp) (k0_pay28 K) RH 8#32 k0_pay30 k0_pay31 M) A = upA (psc x0 x1 p K) (pv V) M A := by
  rw [u38]
  funext i
  exact congrArg₂ (fun f g => nA f g (M (ix2 (i 0) 0)) (A i)) (funext fun n => core32 x0 x1 p kp hk K (i 0) n)
    (funext fun n => e28 V n (i 1))
theorem p39 (v : FVec Ideal S64x1 .f32) : k0_pay39 v = v := by
  funext i
  idx_vars i
  pointwise [k0_pay39]
theorem p52 (v : FVec Ideal S64x1 .f32) : k0_pay52 v = v := by
  funext i
  idx_vars i
  pointwise [k0_pay52]
theorem p65 (v : FVec Ideal S64x1 .f32) : k0_pay65 v = v := by
  funext i
  idx_vars i
  pointwise [k0_pay65]
theorem p2 (v : FVec Ideal S64x1 .f32) : k0_pay2 v = v := by
  funext i
  idx_vars i
  pointwise [k0_pay2]
theorem q47 (q : FVec Ideal S64x64 .bf16) (kp : FVec Ideal S8x1024 .f32) (k : FVec Ideal S1024x64 .bf16) (M : Vec Ideal S64x1 .f32) :
    k0_pay47 q k0_pay26 kp k RH 8#32 k0_pay43 k0_pay44 k0_pay45 M
      = k0_pay33 q k0_pay26 kp k RH 8#32 k0_pay30 k0_pay31 M := rfl
theorem q59 (q : FVec Ideal S64x64 .bf16) (kp : FVec Ideal S8x1024 .f32) (k : FVec Ideal S1024x64 .bf16) (M : Vec Ideal S64x1 .f32) :
    k0_pay59 q k0_pay26 kp k RH 8#32 k0_pay56 k0_pay57 M
      = k0_pay33 q k0_pay26 kp k RH 8#32 k0_pay30 k0_pay31 M := rfl
theorem q72 (q : FVec Ideal S64x64 .bf16) (kp : FVec Ideal S8x1024 .f32) (k : FVec Ideal S1024x64 .bf16) (M : Vec Ideal S64x1 .f32) :
    k0_pay72 q k0_pay26 kp k RH 8#32 k0_pay69 k0_pay70 (1#32) M
      = k0_pay33 q k0_pay26 kp k RH 8#32 k0_pay30 k0_pay31 M := rfl
theorem q50 (q : FVec Ideal S64x64 .bf16) (kp : FVec Ideal S8x1024 .f32) (k : FVec Ideal S1024x64 .bf16) (M L : Vec Ideal S64x1 .f32) :
    k0_pay50 q k0_pay26 kp k RH 8#32 k0_pay43 k0_pay44 k0_pay45 M L
      = k0_pay37 (k0_pay36 q k0_pay26 kp k RH 8#32 k0_pay30 k0_pay31 M L) := rfl
theorem q62 (q : FVec Ideal S64x64 .bf16) (kp : FVec Ideal S8x1024 .f32) (k : FVec Ideal S1024x64 .bf16) (M L : Vec Ideal S64x1 .f32) :
    k0_pay62 q k0_pay26 kp k RH 8#32 k0_pay56 k0_pay57 M L
      = k0_pay37 (k0_pay36 q k0_pay26 kp k RH 8#32 k0_pay30 k0_pay31 M L) := rfl
theorem q75 (q : FVec Ideal S64x64 .bf16) (kp : FVec Ideal S8x1024 .f32) (k : FVec Ideal S1024x64 .bf16) (M L : Vec Ideal S64x1 .f32) :
    k0_pay75 q k0_pay26 kp k RH 8#32 k0_pay69 k0_pay70 (1#32) M L
      = k0_pay37 (k0_pay36 q k0_pay26 kp k RH 8#32 k0_pay30 k0_pay31 M L) := rfl
theorem q48 (q : FVec Ideal S64x64 .bf16) (kp : FVec Ideal S8x1024 .f32) (k : FVec Ideal S1024x64 .bf16) (M : Vec Ideal S64x1 .f32) :
    k0_pay48 q k0_pay26 kp k RH 8#32 k0_pay43 k0_pay44 k0_pay45 M
      = k0_pay34 q k0_pay26 kp k RH 8#32 k0_pay30 k0_pay31 M := rfl
theorem q60 (q : FVec Ideal S64x64 .bf16) (kp : FVec Ideal S8x1024 .f32) (k : FVec Ideal S1024x64 .bf16) (M : Vec Ideal S64x1 .f32) :
    k0_pay60 q k0_pay26 kp k RH 8#32 k0_pay56 k0_pay57 M
      = k0_pay34 q k0_pay26 kp k RH 8#32 k0_pay30 k0_pay31 M := rfl
theorem q73 (q : FVec Ideal S64x64 .bf16) (kp : FVec Ideal S8x1024 .f32) (k : FVec Ideal S1024x64 .bf16) (M : Vec Ideal S64x1 .f32) :
    k0_pay73 q k0_pay26 kp k RH 8#32 k0_pay69 k0_pay70 (1#32) M
      = k0_pay34 q k0_pay26 kp k RH 8#32 k0_pay30 k0_pay31 M := rfl
theorem q49 (q : FVec Ideal S64x64 .bf16) (kp : FVec Ideal S8x1024 .f32) (k : FVec Ideal S1024x64 .bf16) (M : Vec Ideal S64x1 .f32) :
    k0_pay49 q k0_pay26 kp k RH 8#32 k0_pay43 k0_pay44 k0_pay45 M
      = k0_pay35 q k0_pay26 kp k RH 8#32 k0_pay30 k0_pay31 M := rfl
theorem q61 (q : FVec Ideal S64x64 .bf16) (kp : FVec Ideal S8x1024 .f32) (k : FVec Ideal S1024x64 .bf16) (M : Vec Ideal S64x1 .f32) :
    k0_pay61 q k0_pay26 kp k RH 8#32 k0_pay56 k0_pay57 M
      = k0_pay35 q k0_pay26 kp k RH 8#32 k0_pay30 k0_pay31 M := rfl
theorem q74 (q : FVec Ideal S64x64 .bf16) (kp : FVec Ideal S8x1024 .f32) (k : FVec Ideal S1024x64 .bf16) (M : Vec Ideal S64x1 .f32) :
    k0_pay74 q k0_pay26 kp k RH 8#32 k0_pay69 k0_pay70 (1#32) M
      = k0_pay35 q k0_pay26 kp k RH 8#32 k0_pay30 k0_pay31 M := rfl
theorem w64 (v : FVec Ideal S1024x64 .bf16) (P : FVec Ideal S64x1024 .f32) (C : FVec Ideal S64x1 .f32) (A : Vec Ideal S64x64 .f32) :
    k0_pay51 v P C A = k0_pay38 v P C A := rfl

theorem pM0 (x0 : Vec Ideal S1x8x512 .f32) (x1 : Vec Ideal S1x4x8x128 .f32) (K : Vec Ideal S1x1x128x8x64 .f32) (M : Vec Ideal S64x1 .f32) :
    k0_pay39 (F := Ideal) (k0_pay33 (k0_pay19 x0) k0_pay26
      (k0_pay27 k0_pay23 (FloatOps.ofBits FTy.f32 0#32) k0_pay24 (View.ld x1 (Rect.unit ![0, 0, 0, 0] ![1, 1, 8, 128] inb_S1x4x8x128_S1x1x8x128_0_0_0_0)))
      (k0_pay28 K) (iota Kind.tc S64x1024 32 [0] iota_S64x1024_d0_w32) (8#32) k0_pay30 k0_pay31 M) = upM (psc x0 x1 0 K) M := by
  rw [p39]
  exact (core33 x0 x1 0 (ld0 x1) (ld0_at x1) K M)

theorem pL0 (x0 : Vec Ideal S1x8x512 .f32) (x1 : Vec Ideal S1x4x8x128 .f32) (K : Vec Ideal S1x1x128x8x64 .f32) (M L : Vec Ideal S64x1 .f32) :
    k0_pay37 (k0_pay36 (k0_pay19 x0) k0_pay26
      (k0_pay27 k0_pay23 (FloatOps.ofBits FTy.f32 0#32) k0_pay24 (View.ld x1 (Rect.unit ![0, 0, 0, 0] ![1, 1, 8, 128] inb_S1x4x8x128_S1x1x8x128_0_0_0_0)))
      (k0_pay28 K) (iota Kind.tc S64x1024 32 [0] iota_S64x1024_d0_w32) (8#32) k0_pay30 k0_pay31 M L) = upL (psc x0 x1 0 K) M L :=
  (core36 x0 x1 0 (ld0 x1) (ld0_at x1) K M L)

theorem pM1 (x0 : Vec Ideal S1x8x512 .f32) (x1 : Vec Ideal S1x4x8x128 .f32) (K : Vec Ideal S1x1x128x8x64 .f32) (M : Vec Ideal S64x1 .f32) :
    k0_pay52 (F := Ideal) (k0_pay47 (k0_pay19 x0) k0_pay26
      (k0_pay40 (k0_pay25 k0_pay23 (FloatOps.ofBits FTy.f32 0#32) k0_pay24) (View.ld x1 (Rect.unit ![0, 1, 0, 0] ![1, 1, 8, 128] inb_S1x4x8x128_S1x1x8x128_0_1_0_0)))
      (k0_pay41 K) (iota Kind.tc S64x1024 32 [0] iota_S64x1024_d0_w32) (8#32) k0_pay43 k0_pay44 k0_pay45 M) = upM (psc x0 x1 1 K) M := by
  rw [p52]
  exact (q47 _ _ _ M).trans (core33 x0 x1 1 (ld1 x1) (ld1_at x1) K M)

theorem pL1 (x0 : Vec Ideal S1x8x512 .f32) (x1 : Vec Ideal S1x4x8x128 .f32) (K : Vec Ideal S1x1x128x8x64 .f32) (M L : Vec Ideal S64x1 .f32) :
    k0_pay50 (k0_pay19 x0) k0_pay26
      (k0_pay40 (k0_pay25 k0_pay23 (FloatOps.ofBits FTy.f32 0#32) k0_pay24) (View.ld x1 (Rect.unit ![0, 1, 0, 0] ![1, 1, 8, 128] inb_S1x4x8x128_S1x1x8x128_0_1_0_0)))
      (k0_pay41 K) (iota Kind.tc S64x1024 32 [0] iota_S64x1024_d0_w32) (8#32) k0_pay43 k0_pay44 k0_pay45 M L = upL (psc x0 x1 1 K) M L :=
  (q50 _ _ _ M L).trans (core36 x0 x1 1 (ld1 x1) (ld1_at x1) K M L)

theorem pM2 (x0 : Vec Ideal S1x8x512 .f32) (x1 : Vec Ideal S1x4x8x128 .f32) (K : Vec Ideal S1x1x128x8x64 .f32) (M : Vec Ideal S64x1 .f32) :
    k0_pay65 (F := Ideal) (k0_pay59 (k0_pay19 x0) k0_pay26
      (k0_pay53 (k0_pay25 k0_pay23 (FloatOps.ofBits FTy.f32 0#32) k0_pay24) (View.ld x1 (Rect.unit ![0, 2, 0, 0] ![1, 1, 8, 128] inb_S1x4x8x128_S1x1x8x128_0_2_0_0)))
      (k0_pay54 K) (iota Kind.tc S64x1024 32 [0] iota_S64x1024_d0_w32) (8#32) k0_pay56 k0_pay57 M) = upM (psc x0 x1 2 K) M := by
  rw [p65]
  exact (q59 _ _ _ M).trans (core33 x0 x1 2 (ld2 x1) (ld2_at x1) K M)

theorem pL2 (x0 : Vec Ideal S1x8x512 .f32) (x1 : Vec Ideal S1x4x8x128 .f32) (K : Vec Ideal S1x1x128x8x64 .f32) (M L : Vec Ideal S64x1 .f32) :
    k0_pay62 (k0_pay19 x0) k0_pay26
      (k0_pay53 (k0_pay25 k0_pay23 (FloatOps.ofBits FTy.f32 0#32) k0_pay24) (View.ld x1 (Rect.unit ![0, 2, 0, 0] ![1, 1, 8, 128] inb_S1x4x8x128_S1x1x8x128_0_2_0_0)))
      (k0_pay54 K) (iota Kind.tc S64x1024 32 [0] iota_S64x1024_d0_w32) (8#32) k0_pay56 k0_pay57 M L = upL (psc x0 x1 2 K) M L :=
  (q62 _ _ _ M L).trans (core36 x0 x1 2 (ld2 x1) (ld2_at x1) K M L)

theorem pM3 (x0 : Vec Ideal S1x8x512 .f32) (x1 : Vec Ideal S1x4x8x128 .f32) (K : Vec Ideal S1x1x128x8x64 .f32) (M : Vec Ideal S64x1 .f32) :
    k0_pay2 (F := Ideal) (k0_pay72 (k0_pay19 x0) k0_pay26
      (k0_pay66 (k0_pay25 k0_pay23 (FloatOps.ofBits FTy.f32 0#32) k0_pay24) (View.ld x1 (Rect.unit ![0, 3, 0, 0] ![1, 1, 8, 128] inb_S1x4x8x128_S1x1x8x128_0_3_0_0)))
      (k0_pay67 K) (iota Kind.tc S64x1024 32 [0] iota_S64x1024_d0_w32) (8#32) k0_pay69 k0_pay70 (1#32) M) = upM (psc x0 x1 3 K) M := by
  rw [p2]
  exact (q72 _ _ _ M).trans (core33 x0 x1 3 (ld3 x1) (ld3_at x1) K M)

theorem pL3 (x0 : Vec Ideal S1x8x512 .f32) (x1 : Vec Ideal S1x4x8x128 .f32) (K : Vec Ideal S1x1x128x8x64 .f32) (M L : Vec Ideal S64x1 .f32) :
    k0_pay75 (k0_pay19 x0) k0_pay26
      (k0_pay66 (k0_pay25 k0_pay23 (FloatOps.ofBits FTy.f32 0#32) k0_pay24) (View.ld x1 (Rect.unit ![0, 3, 0, 0] ![1, 1, 8, 128] inb_S1x4x8x128_S1x1x8x128_0_3_0_0)))
      (k0_pay67 K) (iota Kind.tc S64x1024 32 [0] iota_S64x1024_d0_w32) (8#32) k0_pay69 k0_pay70 (1#32) M L = upL (psc x0 x1 3 K) M L :=
  (q75 _ _ _ M L).trans (core36 x0 x1 3 (ld3 x1) (ld3_at x1) K M L)

theorem w63 (v : FVec Ideal S1024x64 .bf16) (q : FVec Ideal S64x64 .bf16) (kp : FVec Ideal S8x1024 .f32) (k : FVec Ideal S1024x64 .bf16) (M : Vec Ideal S64x1 .f32) (A : Vec Ideal S64x64 .f32) :
    k0_pay64 v (k0_pay60 q k0_pay26 kp k RH 8#32 k0_pay56 k0_pay57 M) A (k0_pay63 q k0_pay26 kp k RH 8#32 k0_pay56 k0_pay57 M)
      = k0_pay38 v (k0_pay34 q k0_pay26 kp k RH 8#32 k0_pay30 k0_pay31 M) (k0_pay35 q k0_pay26 kp k RH 8#32 k0_pay30 k0_pay31 M) A := rfl
theorem w77 (v : FVec Ideal S1024x64 .bf16) (q : FVec Ideal S64x64 .bf16) (kp : FVec Ideal S8x1024 .f32) (k : FVec Ideal S1024x64 .bf16) (M : Vec Ideal S64x1 .f32) (A : Vec Ideal S64x64 .f32) :
    k0_pay1 v (k0_pay76 q k0_pay26 kp k RH 8#32 k0_pay69 k0_pay70 1#32 M A) (k0_pay77 q k0_pay26 kp k RH 8#32 k0_pay69 k0_pay70 1#32 M) (constant S64x64 FTy.f32 0#32)
      = k0_pay38 v (k0_pay34 q k0_pay26 kp k RH 8#32 k0_pay30 k0_pay31 M) (k0_pay35 q k0_pay26 kp k RH 8#32 k0_pay30 k0_pay31 M) A := rfl

theorem pA0 (x0 : Vec Ideal S1x8x512 .f32) (x1 : Vec Ideal S1x4x8x128 .f32) (K V : Vec Ideal S1x1x128x8x64 .f32) (M : Vec Ideal S64x1 .f32) (A : Vec Ideal S64x64 .f32) :
    k0_pay38 (F := Ideal) (k0_pay29 V) (k0_pay34 (k0_pay19 x0) k0_pay26 (k0_pay27 k0_pay23 (FloatOps.ofBits FTy.f32 0#32) k0_pay24 (View.ld x1 (Rect.unit ![0, 0, 0, 0] ![1, 1, 8, 128] inb_S1x4x8x128_S1x1x8x128_0_0_0_0))) (k0_pay28 K) (iota Kind.tc S64x1024 32 [0] iota_S64x1024_d0_w32) (8#32) k0_pay30 k0_pay31 M) (k0_pay35 (k0_pay19 x0) k0_pay26 (k0_pay27 k0_pay23 (FloatOps.ofBits FTy.f32 0#32) k0_pay24 (View.ld x1 (Rect.unit ![0, 0, 0, 0] ![1, 1, 8, 128] inb_S1x4x8x128_S1x1x8x128_0_0_0_0))) (k0_pay28 K) (iota Kind.tc S64x1024 32 [0] iota_S64x1024_d0_w32) (8#32) k0_pay30 k0_pay31 M) A = upA (psc x0 x1 0 K) (pv V) M A :=
  (core38 x0 x1 0 (ld0 x1) (ld0_at x1) K V M A)

theorem pA1 (x0 : Vec Ideal S1x8x512 .f32) (x1 : Vec Ideal S1x4x8x128 .f32) (K V : Vec Ideal S1x1x128x8x64 .f32) (M : Vec Ideal S64x1 .f32) (A : Vec Ideal S64x64 .f32) :
    k0_pay51 (F := Ideal) (k0_pay42 V) (k0_pay48 (k0_pay19 x0) k0_pay26 (k0_pay40 (k0_pay25 k0_pay23 (FloatOps.ofBits FTy.f32 0#32) k0_pay24) (View.ld x1 (Rect.unit ![0, 1, 0, 0] ![1, 1, 8, 128] inb_S1x4x8x128_S1x1x8x128_0_1_0_0))) (k0_pay41 K) (iota Kind.tc S64x1024 32 [0] iota_S64x1024_d0_w32) (8#32) k0_pay43 k0_pay44 k0_pay45 M) (k0_pay49 (k0_pay19 x0) k0_pay26 (k0_pay40 (k0_pay25 k0_pay23 (FloatOps.ofBits FTy.f32 0#32) k0_pay24) (View.ld x1 (Rect.unit ![0, 1, 0, 0] ![1, 1, 8, 128] inb_S1x4x8x128_S1x1x8x128_0_1_0_0))) (k0_pay41 K) (iota Kind.tc S64x1024 32 [0] iota_S64x1024_d0_w32) (8#32) k0_pay43 k0_pay44 k0_pay45 M) A = upA (psc x0 x1 1 K) (pv V) M A :=
  (congrArg₂ (fun P c => k0_pay38 (F := Ideal) (k0_pay42 V) P c A) (q48 _ _ _ M) (q49 _ _ _ M)).trans (core38 x0 x1 1 (ld1 x1) (ld1_at x1) K V M A)

theorem pA2 (x0 : Vec Ideal S1x8x512 .f32) (x1 : Vec Ideal S1x4x8x128 .f32) (K V : Vec Ideal S1x1x128x8x64 .f32) (M : Vec Ideal S64x1 .f32) (A : Vec Ideal S64x64 .f32) :
    k0_pay64 (F := Ideal) (k0_pay55 V) (k0_pay60 (k0_pay19 x0) k0_pay26 (k0_pay53 (k0_pay25 k0_pay23 (FloatOps.ofBits FTy.f32 0#32) k0_pay24) (View.ld x1 (Rect.unit ![0, 2, 0, 0] ![1, 1, 8, 128] inb_S1x4x8x128_S1x1x8x128_0_2_0_0))) (k0_pay54 K) (iota Kind.tc S64x1024 32 [0] iota_S64x1024_d0_w32) (8#32) k0_pay56 k0_pay57 M) A (k0_pay63 (k0_pay19 x0) k0_pay26 (k0_pay53 (k0_pay25 k0_pay23 (FloatOps.ofBits FTy.f32 0#32) k0_pay24) (View.ld x1 (Rect.unit ![0, 2, 0, 0] ![1, 1, 8, 128] inb_S1x4x8x128_S1x1x8x128_0_2_0_0))) (k0_pay54 K) (iota Kind.tc S64x1024 32 [0] iota_S64x1024_d0_w32) (8#32) k0_pay56 k0_pay57 M) = upA (psc x0 x1 2 K) (pv V) M A :=
  (w63 _ _ _ _ M A).trans (core38 x0 x1 2 (ld2 x1) (ld2_at x1) K V M A)

theorem pA3 (x0 : Vec Ideal S1x8x512 .f32) (x1 : Vec Ideal S1x4x8x128 .f32) (K V : Vec Ideal S1x1x128x8x64 .f32) (M : Vec Ideal S64x1 .f32) (A : Vec Ideal S64x64 .f32) :
    k0_pay1 (F := Ideal) (k0_pay68 V) (k0_pay76 (k0_pay19 x0) k0_pay26 (k0_pay66 (k0_pay25 k0_pay23 (FloatOps.ofBits FTy.f32 0#32) k0_pay24) (View.ld x1 (Rect.unit ![0, 3, 0, 0] ![1, 1, 8, 128] inb_S1x4x8x128_S1x1x8x128_0_3_0_0))) (k0_pay67 K) (iota Kind.tc S64x1024 32 [0] iota_S64x1024_d0_w32) (8#32) k0_pay69 k0_pay70 (1#32) M A) (k0_pay77 (k0_pay19 x0) k0_pay26 (k0_pay66 (k0_pay25 k0_pay23 (FloatOps.ofBits FTy.f32 0#32) k0_pay24) (View.ld x1 (Rect.unit ![0, 3, 0, 0] ![1, 1, 8, 128] inb_S1x4x8x128_S1x1x8x128_0_3_0_0))) (k0_pay67 K) (iota Kind.tc S64x1024 32 [0] iota_S64x1024_d0_w32) (8#32) k0_pay69 k0_pay70 (1#32) M) (constant S64x64 FTy.f32 0#32) = upA (psc x0 x1 3 K) (pv V) M A :=
  (w77 _ _ _ _ M A).trans (core38 x0 x1 3 (ld3 x1) (ld3_at x1) K V M A)

theorem core13 (x0 : Vec Ideal S1x8x512 .f32) (x2 : Vec Ideal S1x1x8x128 .f32) (x3 : Vec Ideal S1x8x512 .f32) (r n : Fin 64) :
    k0_pay13 (F := Ideal) (k0_pay19 x0) (k0_pay6 x2) (k0_pay7 x3) k0_pay10 (iota Kind.tc S64x64 32 [0] iota_S64x64_d0_w32) (8#32) k0_pay11 k0_pay12 (1#32) (0#1) (ix2 r n) = nsc x0 x2 x3 r n := by
  refine (e13 (k0_pay19 x0) (k0_pay6 x2) (k0_pay19 x3) r n).trans ?_
  rw [nsc]
  simp only [e19, e6]
theorem pL4 (x0 : Vec Ideal S1x8x512 .f32) (x2 : Vec Ideal S1x1x8x128 .f32) (x3 : Vec Ideal S1x8x512 .f32) (M L : Vec Ideal S64x1 .f32) :
    k0_pay17 (F := Ideal) (k0_pay19 x0) (k0_pay6 x2) (k0_pay7 x3) k0_pay10 (iota Kind.tc S64x64 32 [0] iota_S64x64_d0_w32) (8#32) k0_pay11 k0_pay12 (1#32) (0#1) M L = upL (nsc x0 x2 x3) M L := by
  rw [u17]
  funext i
  exact congrArg (fun f => nL f (M i) (L i)) (funext fun n => core13 x0 x2 x3 (i 0) n)
theorem pA4 (x0 : Vec Ideal S1x8x512 .f32) (x2 : Vec Ideal S1x1x8x128 .f32) (x3 x4 : Vec Ideal S1x8x512 .f32) (M : Vec Ideal S64x1 .f32) (A : Vec Ideal S64x64 .f32) :
    k0_pay3 (F := Ideal) (k0_pay18 (k0_pay19 x0) (k0_pay6 x2) (k0_pay7 x3) (k0_pay9 (k0_pay8 x4)) k0_pay10 (iota Kind.tc S64x64 32 [0] iota_S64x64_d0_w32) (8#32) k0_pay11 k0_pay12 (1#32) (0#1) M A) = upA (nsc x0 x2 x3) (nv x4) M A := by
  rw [u18]
  funext i
  exact congrArg₂ (fun f g => nA f g (M (ix2 (i 0) 0)) (A i)) (funext fun n => core13 x0 x2 x3 (i 0) n)
    (funext fun n => e19 x4 n (i 1))

set_option maxHeartbeats 2000000 in
theorem soB0 (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole) (hc0 : ¬cond0_0 i) (hc1 : ¬cond0_1 i) (x0 : Vec Ideal S1x8x512 .f32) (x1 : Vec Ideal S1x4x8x128 .f32) (x2 : Vec Ideal S1x1x8x128 .f32) (x3 : Vec Ideal S1x8x512 .f32) (x4 : Vec Ideal S1x8x512 .f32) (x5 : Vec Ideal S1x1x128x8x64 .f32) (x6 : Vec Ideal S1x1x128x8x64 .f32) (x7 : Vec Ideal S1x1x128x8x64 .f32) (x8 : Vec Ideal S1x1x128x8x64 .f32) (x9 : Vec Ideal S1x1x128x8x64 .f32) (x10 : Vec Ideal S1x1x128x8x64 .f32) (x11 : Vec Ideal S1x1x128x8x64 .f32) (x12 : Vec Ideal S1x1x128x8x64 .f32) (xt0 : TbBuf0 (F := Ideal) c tbM0_0) (xs0 : Vec Ideal S64x1 .f32) (xs1 : Vec Ideal S64x1 .f32) (xs2 : Vec Ideal S64x64 .f32) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2 = (page x0 x1 3 x8 x12 (page x0 x1 2 x7 x11 (page x0 x1 1 x6 x10 (page x0 x1 0 x5 x9 (xs0, xs1, xs2))))).1 := by
  frame_out
  exact ((pM3 x0 x1 x8 _).trans (congrArg (upM (psc x0 x1 3 x8)) ((pM2 x0 x1 x7 _).trans (congrArg (upM (psc x0 x1 2 x7)) ((pM1 x0 x1 x6 _).trans (congrArg (upM (psc x0 x1 1 x6)) (pM0 x0 x1 x5 xs0)))))))

set_option maxHeartbeats 2000000 in
theorem soB1 (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole) (hc0 : ¬cond0_0 i) (hc1 : ¬cond0_1 i) (x0 : Vec Ideal S1x8x512 .f32) (x1 : Vec Ideal S1x4x8x128 .f32) (x2 : Vec Ideal S1x1x8x128 .f32) (x3 : Vec Ideal S1x8x512 .f32) (x4 : Vec Ideal S1x8x512 .f32) (x5 : Vec Ideal S1x1x128x8x64 .f32) (x6 : Vec Ideal S1x1x128x8x64 .f32) (x7 : Vec Ideal S1x1x128x8x64 .f32) (x8 : Vec Ideal S1x1x128x8x64 .f32) (x9 : Vec Ideal S1x1x128x8x64 .f32) (x10 : Vec Ideal S1x1x128x8x64 .f32) (x11 : Vec Ideal S1x1x128x8x64 .f32) (x12 : Vec Ideal S1x1x128x8x64 .f32) (xt0 : TbBuf0 (F := Ideal) c tbM0_0) (xs0 : Vec Ideal S64x1 .f32) (xs1 : Vec Ideal S64x1 .f32) (xs2 : Vec Ideal S64x64 .f32) :
    sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2 = (page x0 x1 3 x8 x12 (page x0 x1 2 x7 x11 (page x0 x1 1 x6 x10 (page x0 x1 0 x5 x9 (xs0, xs1, xs2))))).2.1 := by
  frame_out
  exact ((pL3 x0 x1 x8 _ _).trans (congrArg₂ (upL (psc x0 x1 3 x8)) ((pM2 x0 x1 x7 _).trans (congrArg (upM (psc x0 x1 2 x7)) ((pM1 x0 x1 x6 _).trans (congrArg (upM (psc x0 x1 1 x6)) (pM0 x0 x1 x5 xs0))))) ((pL2 x0 x1 x7 _ _).trans (congrArg₂ (upL (psc x0 x1 2 x7)) ((pM1 x0 x1 x6 _).trans (congrArg (upM (psc x0 x1 1 x6)) (pM0 x0 x1 x5 xs0))) ((pL1 x0 x1 x6 _ _).trans (congrArg₂ (upL (psc x0 x1 1 x6)) (pM0 x0 x1 x5 xs0) (pL0 x0 x1 x5 xs0 xs1)))))))

set_option maxHeartbeats 2000000 in
theorem soB2 (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole) (hc0 : ¬cond0_0 i) (hc1 : ¬cond0_1 i) (x0 : Vec Ideal S1x8x512 .f32) (x1 : Vec Ideal S1x4x8x128 .f32) (x2 : Vec Ideal S1x1x8x128 .f32) (x3 : Vec Ideal S1x8x512 .f32) (x4 : Vec Ideal S1x8x512 .f32) (x5 : Vec Ideal S1x1x128x8x64 .f32) (x6 : Vec Ideal S1x1x128x8x64 .f32) (x7 : Vec Ideal S1x1x128x8x64 .f32) (x8 : Vec Ideal S1x1x128x8x64 .f32) (x9 : Vec Ideal S1x1x128x8x64 .f32) (x10 : Vec Ideal S1x1x128x8x64 .f32) (x11 : Vec Ideal S1x1x128x8x64 .f32) (x12 : Vec Ideal S1x1x128x8x64 .f32) (xt0 : TbBuf0 (F := Ideal) c tbM0_0) (xs0 : Vec Ideal S64x1 .f32) (xs1 : Vec Ideal S64x1 .f32) (xs2 : Vec Ideal S64x64 .f32) :
    sout0_B_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2 = (page x0 x1 3 x8 x12 (page x0 x1 2 x7 x11 (page x0 x1 1 x6 x10 (page x0 x1 0 x5 x9 (xs0, xs1, xs2))))).2.2 := by
  frame_out
  exact ((pA3 x0 x1 x8 x12 _ _).trans (congrArg₂ (upA (psc x0 x1 3 x8) (pv x12)) ((pM2 x0 x1 x7 _).trans (congrArg (upM (psc x0 x1 2 x7)) ((pM1 x0 x1 x6 _).trans (congrArg (upM (psc x0 x1 1 x6)) (pM0 x0 x1 x5 xs0))))) ((pA2 x0 x1 x7 x11 _ _).trans (congrArg₂ (upA (psc x0 x1 2 x7) (pv x11)) ((pM1 x0 x1 x6 _).trans (congrArg (upM (psc x0 x1 1 x6)) (pM0 x0 x1 x5 xs0))) ((pA1 x0 x1 x6 x10 _ _).trans (congrArg₂ (upA (psc x0 x1 1 x6) (pv x10)) (pM0 x0 x1 x5 xs0) (pA0 x0 x1 x5 x9 xs0 xs2)))))))

set_option maxHeartbeats 2000000 in
theorem soA0 (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole) (hc0 : cond0_0 i) (hc1 : ¬cond0_1 i) (x0 : Vec Ideal S1x8x512 .f32) (x1 : Vec Ideal S1x4x8x128 .f32) (x2 : Vec Ideal S1x1x8x128 .f32) (x3 : Vec Ideal S1x8x512 .f32) (x4 : Vec Ideal S1x8x512 .f32) (x5 : Vec Ideal S1x1x128x8x64 .f32) (x6 : Vec Ideal S1x1x128x8x64 .f32) (x7 : Vec Ideal S1x1x128x8x64 .f32) (x8 : Vec Ideal S1x1x128x8x64 .f32) (x9 : Vec Ideal S1x1x128x8x64 .f32) (x10 : Vec Ideal S1x1x128x8x64 .f32) (x11 : Vec Ideal S1x1x128x8x64 .f32) (x12 : Vec Ideal S1x1x128x8x64 .f32) (xt0 : TbBuf0 (F := Ideal) c tbM0_0) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 = (page x0 x1 3 x8 x12 (page x0 x1 2 x7 x11 (page x0 x1 1 x6 x10 (page x0 x1 0 x5 x9 st0)))).1 := by
  frame_out
  exact ((pM3 x0 x1 x8 _).trans (congrArg (upM (psc x0 x1 3 x8)) ((pM2 x0 x1 x7 _).trans (congrArg (upM (psc x0 x1 2 x7)) ((pM1 x0 x1 x6 _).trans (congrArg (upM (psc x0 x1 1 x6)) (pM0 x0 x1 x5 (k0_pay20 (F := Ideal)))))))))

set_option maxHeartbeats 2000000 in
theorem soA1 (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole) (hc0 : cond0_0 i) (hc1 : ¬cond0_1 i) (x0 : Vec Ideal S1x8x512 .f32) (x1 : Vec Ideal S1x4x8x128 .f32) (x2 : Vec Ideal S1x1x8x128 .f32) (x3 : Vec Ideal S1x8x512 .f32) (x4 : Vec Ideal S1x8x512 .f32) (x5 : Vec Ideal S1x1x128x8x64 .f32) (x6 : Vec Ideal S1x1x128x8x64 .f32) (x7 : Vec Ideal S1x1x128x8x64 .f32) (x8 : Vec Ideal S1x1x128x8x64 .f32) (x9 : Vec Ideal S1x1x128x8x64 .f32) (x10 : Vec Ideal S1x1x128x8x64 .f32) (x11 : Vec Ideal S1x1x128x8x64 .f32) (x12 : Vec Ideal S1x1x128x8x64 .f32) (xt0 : TbBuf0 (F := Ideal) c tbM0_0) :
    sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 = (page x0 x1 3 x8 x12 (page x0 x1 2 x7 x11 (page x0 x1 1 x6 x10 (page x0 x1 0 x5 x9 st0)))).2.1 := by
  frame_out
  exact ((pL3 x0 x1 x8 _ _).trans (congrArg₂ (upL (psc x0 x1 3 x8)) ((pM2 x0 x1 x7 _).trans (congrArg (upM (psc x0 x1 2 x7)) ((pM1 x0 x1 x6 _).trans (congrArg (upM (psc x0 x1 1 x6)) (pM0 x0 x1 x5 (k0_pay20 (F := Ideal))))))) ((pL2 x0 x1 x7 _ _).trans (congrArg₂ (upL (psc x0 x1 2 x7)) ((pM1 x0 x1 x6 _).trans (congrArg (upM (psc x0 x1 1 x6)) (pM0 x0 x1 x5 (k0_pay20 (F := Ideal))))) ((pL1 x0 x1 x6 _ _).trans (congrArg₂ (upL (psc x0 x1 1 x6)) (pM0 x0 x1 x5 (k0_pay20 (F := Ideal))) (pL0 x0 x1 x5 (k0_pay20 (F := Ideal)) (k0_pay21 (F := Ideal)))))))))

set_option maxHeartbeats 2000000 in
theorem soA2 (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole) (hc0 : cond0_0 i) (hc1 : ¬cond0_1 i) (x0 : Vec Ideal S1x8x512 .f32) (x1 : Vec Ideal S1x4x8x128 .f32) (x2 : Vec Ideal S1x1x8x128 .f32) (x3 : Vec Ideal S1x8x512 .f32) (x4 : Vec Ideal S1x8x512 .f32) (x5 : Vec Ideal S1x1x128x8x64 .f32) (x6 : Vec Ideal S1x1x128x8x64 .f32) (x7 : Vec Ideal S1x1x128x8x64 .f32) (x8 : Vec Ideal S1x1x128x8x64 .f32) (x9 : Vec Ideal S1x1x128x8x64 .f32) (x10 : Vec Ideal S1x1x128x8x64 .f32) (x11 : Vec Ideal S1x1x128x8x64 .f32) (x12 : Vec Ideal S1x1x128x8x64 .f32) (xt0 : TbBuf0 (F := Ideal) c tbM0_0) :
    sout0_A_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 = (page x0 x1 3 x8 x12 (page x0 x1 2 x7 x11 (page x0 x1 1 x6 x10 (page x0 x1 0 x5 x9 st0)))).2.2 := by
  frame_out
  exact ((pA3 x0 x1 x8 x12 _ _).trans (congrArg₂ (upA (psc x0 x1 3 x8) (pv x12)) ((pM2 x0 x1 x7 _).trans (congrArg (upM (psc x0 x1 2 x7)) ((pM1 x0 x1 x6 _).trans (congrArg (upM (psc x0 x1 1 x6)) (pM0 x0 x1 x5 (k0_pay20 (F := Ideal))))))) ((pA2 x0 x1 x7 x11 _ _).trans (congrArg₂ (upA (psc x0 x1 2 x7) (pv x11)) ((pM1 x0 x1 x6 _).trans (congrArg (upM (psc x0 x1 1 x6)) (pM0 x0 x1 x5 (k0_pay20 (F := Ideal))))) ((pA1 x0 x1 x6 x10 _ _).trans (congrArg₂ (upA (psc x0 x1 1 x6) (pv x10)) (pM0 x0 x1 x5 (k0_pay20 (F := Ideal))) (pA0 x0 x1 x5 x9 (k0_pay20 (F := Ideal)) (k0_pay22 (F := Ideal)))))))))

set_option maxHeartbeats 2000000 in
theorem soC (c : Dev nD) (i : grid0.Coords) (arg3 : Memref sig .tc .vmem S1x8x512 .f32) (harg3 : arg3.IsWhole) (arg4 : Memref sig .tc .vmem S1x4x8x128 .f32) (harg4 : arg4.IsWhole) (arg5 : Memref sig .tc .vmem S1x1x8x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x1x128x8x64 .f32) (harg8 : arg8.IsWhole) (arg9 : Memref sig .tc .vmem S1x1x128x8x64 .f32) (harg9 : arg9.IsWhole) (arg10 : Memref sig .tc .vmem S1x1x128x8x64 .f32) (harg10 : arg10.IsWhole) (arg11 : Memref sig .tc .vmem S1x1x128x8x64 .f32) (harg11 : arg11.IsWhole) (arg12 : Memref sig .tc .vmem S1x1x128x8x64 .f32) (harg12 : arg12.IsWhole) (arg13 : Memref sig .tc .vmem S1x1x128x8x64 .f32) (harg13 : arg13.IsWhole) (arg14 : Memref sig .tc .vmem S1x1x128x8x64 .f32) (harg14 : arg14.IsWhole) (arg15 : Memref sig .tc .vmem S1x1x128x8x64 .f32) (harg15 : arg15.IsWhole) (arg16 : Memref sig .tc .vmem S1x8x512 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x64 .f32) (harg19 : arg19.IsWhole) (hc0 : ¬cond0_0 i) (hc1 : cond0_1 i) (x0 : Vec Ideal S1x8x512 .f32) (x1 : Vec Ideal S1x4x8x128 .f32) (x2 : Vec Ideal S1x1x8x128 .f32) (x3 : Vec Ideal S1x8x512 .f32) (x4 : Vec Ideal S1x8x512 .f32) (x5 : Vec Ideal S1x1x128x8x64 .f32) (x6 : Vec Ideal S1x1x128x8x64 .f32) (x7 : Vec Ideal S1x1x128x8x64 .f32) (x8 : Vec Ideal S1x1x128x8x64 .f32) (x9 : Vec Ideal S1x1x128x8x64 .f32) (x10 : Vec Ideal S1x1x128x8x64 .f32) (x11 : Vec Ideal S1x1x128x8x64 .f32) (x12 : Vec Ideal S1x1x128x8x64 .f32) (xt0 : TbBuf0 (F := Ideal) c tbM0_0) (xs0 : Vec Ideal S64x1 .f32) (xs1 : Vec Ideal S64x1 .f32) (xs2 : Vec Ideal S64x64 .f32) :
    out0_C_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xt0 xs0 xs1 xs2 = k0_pay5 (F := Ideal) (last x0 x2 x3 x4 (page x0 x1 3 x8 x12 (page x0 x1 2 x7 x11 (page x0 x1 1 x6 x10 (page x0 x1 0 x5 x9 (xs0, xs1, xs2)))))).2.2 (last x0 x2 x3 x4 (page x0 x1 3 x8 x12 (page x0 x1 2 x7 x11 (page x0 x1 1 x6 x10 (page x0 x1 0 x5 x9 (xs0, xs1, xs2)))))).2.1 := by
  frame_out
  exact congrArg₂ (k0_pay5 (F := Ideal)) ((pA4 x0 x2 x3 x4 _ _).trans (congrArg₂ (upA (nsc x0 x2 x3) (nv x4)) ((pM3 x0 x1 x8 _).trans (congrArg (upM (psc x0 x1 3 x8)) ((pM2 x0 x1 x7 _).trans (congrArg (upM (psc x0 x1 2 x7)) ((pM1 x0 x1 x6 _).trans (congrArg (upM (psc x0 x1 1 x6)) (pM0 x0 x1 x5 xs0))))))) ((pA3 x0 x1 x8 x12 _ _).trans (congrArg₂ (upA (psc x0 x1 3 x8) (pv x12)) ((pM2 x0 x1 x7 _).trans (congrArg (upM (psc x0 x1 2 x7)) ((pM1 x0 x1 x6 _).trans (congrArg (upM (psc x0 x1 1 x6)) (pM0 x0 x1 x5 xs0))))) ((pA2 x0 x1 x7 x11 _ _).trans (congrArg₂ (upA (psc x0 x1 2 x7) (pv x11)) ((pM1 x0 x1 x6 _).trans (congrArg (upM (psc x0 x1 1 x6)) (pM0 x0 x1 x5 xs0))) ((pA1 x0 x1 x6 x10 _ _).trans (congrArg₂ (upA (psc x0 x1 1 x6) (pv x10)) (pM0 x0 x1 x5 xs0) (pA0 x0 x1 x5 x9 xs0 xs2))))))))) ((pL4 x0 x2 x3 _ _).trans (congrArg₂ (upL (nsc x0 x2 x3)) ((pM3 x0 x1 x8 _).trans (congrArg (upM (psc x0 x1 3 x8)) ((pM2 x0 x1 x7 _).trans (congrArg (upM (psc x0 x1 2 x7)) ((pM1 x0 x1 x6 _).trans (congrArg (upM (psc x0 x1 1 x6)) (pM0 x0 x1 x5 xs0))))))) ((pL3 x0 x1 x8 _ _).trans (congrArg₂ (upL (psc x0 x1 3 x8)) ((pM2 x0 x1 x7 _).trans (congrArg (upM (psc x0 x1 2 x7)) ((pM1 x0 x1 x6 _).trans (congrArg (upM (psc x0 x1 1 x6)) (pM0 x0 x1 x5 xs0))))) ((pL2 x0 x1 x7 _ _).trans (congrArg₂ (upL (psc x0 x1 2 x7)) ((pM1 x0 x1 x6 _).trans (congrArg (upM (psc x0 x1 1 x6)) (pM0 x0 x1 x5 xs0))) ((pL1 x0 x1 x6 _ _).trans (congrArg₂ (upL (psc x0 x1 1 x6)) (pM0 x0 x1 x5 xs0) (pL0 x0 x1 x5 xs0 xs1)))))))))

end Cert.KernelIdeal.Att
-- ==== Proof.Value.lean ====
module
public import proofs.«01_k».proof.Proof.Blocks
public import proofs.«01_k».proof.Proof.Case
public import proofs.«01_k».proof.Proof.Pre
@[expose] public section
set_option maxRecDepth 16384
noncomputable section
/-!
What the kernel leaves in its result: at every point of the grid the running softmax holds the
pages seen so far, and the last point divides.
-/
namespace Cert.KernelIdeal.Att
open Idealize.ShloMosaic Idealize.ShloMosaic.TcCoe Idealize.SL Idealize.SL.Sem Cert.KernelIdeal.Gen
open Cert.Online

section Pure
variable (a0 : IVec S128x64 32) (hw : ∀ i, (a0 i : BitVec 32).toNat < 10240) (q : FVec Ideal S128x8x512 .f32)
  (keep : FVec Ideal S128x65x8x128 .f32) (kn vn : FVec Ideal S128x8x512 .f32) (ck cv : FVec Ideal S1x10240x128x8x64 .f32)

/-- The score of row `r` at column `n` of page `p` of batch entry `b`. -/
def PS (b : Fin 128) (p : Fin 64) (r : Fin 64) (n : Fin 1024) : EReal :=
  if half < keep (ix4 b ⟨p.val, by omega⟩ ⟨r.val % 8, by omega⟩ ⟨n.val / 8, by omega⟩) ∧ r.val / 8 = n.val % 8 then
    ∑ x : Fin 64, q (ix3 b ⟨r.val % 8, by omega⟩ ⟨r.val / 8 * 64 + x.val, by omega⟩)
      * ck (ix5 0 ⟨(a0 (ix2 b p) : BitVec 32).toNat, hw _⟩ ⟨n.val / 8, by omega⟩ ⟨n.val % 8, by omega⟩ x)
  else ⊥

/-- The value at column `n` of page `p` of batch entry `b`, in lane `d`. -/
def PV (b : Fin 128) (p : Fin 64) (n : Fin 1024) (d : Fin 64) : EReal :=
  cv (ix5 0 ⟨(a0 (ix2 b p) : BitVec 32).toNat, hw _⟩ ⟨n.val / 8, by omega⟩ ⟨n.val % 8, by omega⟩ d)

/-- The score of row `r` at column `n` of the new keys. -/
def NS (b : Fin 128) (r : Fin 64) (n : Fin 64) : EReal :=
  if half < keep (ix4 b 64 ⟨r.val % 8, by omega⟩ ⟨n.val % 8, by omega⟩) ∧ r.val / 8 = n.val / 8 then
    ∑ x : Fin 64, q (ix3 b ⟨r.val % 8, by omega⟩ ⟨r.val / 8 * 64 + x.val, by omega⟩)
      * kn (ix3 b ⟨n.val % 8, by omega⟩ ⟨n.val / 8 * 64 + x.val, by omega⟩)
  else ⊥

/-- The new value at column `n`, in lane `d`. -/
def NV (b : Fin 128) (n : Fin 64) (d : Fin 64) : EReal :=
  vn (ix3 b ⟨n.val % 8, by omega⟩ ⟨n.val / 8 * 64 + d.val, by omega⟩)

/-- The scores of row `r`, page after page. -/
def SS (b : Fin 128) (r : Fin 64) (k : ℕ) : Fin 1024 → EReal :=
  PS a0 hw q keep ck b ⟨k % 64, by omega⟩ r

/-- The values in lane `d`, page after page. -/
def VV (b : Fin 128) (d : Fin 64) (k : ℕ) (n : Fin 1024) : EReal :=
  PV a0 hw cv b ⟨k % 64, by omega⟩ n d

/-- The running state after `k` pages. -/
structure Inv (b : Fin 128) (k : ℕ) (st : St) : Prop where
  M : ∀ r, st.1 (ix2 r 0) = accM (SS a0 hw q keep ck b r) k
  L : ∀ r, st.2.1 (ix2 r 0) = accA (SS a0 hw q keep ck b r) (fun _ _ => 1) k (accM (SS a0 hw q keep ck b r) k)
  A : ∀ r d, st.2.2 (ix2 r d) = accA (SS a0 hw q keep ck b r) (VV a0 hw cv b d) k (accM (SS a0 hw q keep ck b r) k)

theorem sum_ne_top {ι : Type*} (F : Finset ι) (f : ι → EReal) (h : ∀ i ∈ F, f i ≠ ⊤ ∧ f i ≠ ⊥) :
    ∑ i ∈ F, f i ≠ ⊤ ∧ ∑ i ∈ F, f i ≠ ⊥ := by
  classical
  induction F using Finset.induction_on with
  | empty => simp
  | insert a F ha ih =>
    have h1 := h a (Finset.mem_insert_self _ _)
    have h2 := ih fun i hi => h i (Finset.mem_insert_of_mem hi)
    rw [Finset.sum_insert ha]
    lift f a to ℝ using h1 with y
    lift ∑ i ∈ F, f i to ℝ using h2 with z
    exact ⟨by rw [← EReal.coe_add]; exact EReal.coe_ne_top _, by rw [← EReal.coe_add]; exact EReal.coe_ne_bot _⟩

theorem mul_fin {a b : EReal} (ha : a ≠ ⊤ ∧ a ≠ ⊥) (hb : b ≠ ⊤ ∧ b ≠ ⊥) : a * b ≠ ⊤ ∧ a * b ≠ ⊥ := by
  lift a to ℝ using ha with y
  lift b to ℝ using hb with z
  exact ⟨by rw [← EReal.coe_mul]; exact EReal.coe_ne_top _, by rw [← EReal.coe_mul]; exact EReal.coe_ne_bot _⟩

variable {a0 hw q keep kn vn ck cv}

theorem PS_ne_top (hg : Good a0 q keep kn ck) (b p r n) : PS a0 hw q keep ck b p r n ≠ ⊤ := by
  unfold PS
  split_ifs
  · exact (sum_ne_top _ _ fun x _ => mul_fin (hg.q_fin _) (hg.ck_fin _)).1
  · decide

theorem NS_ne_top (hg : Good a0 q keep kn ck) (b r n) : NS q keep kn b r n ≠ ⊤ := by
  unfold NS
  split_ifs
  · exact (sum_ne_top _ _ fun x _ => mul_fin (hg.q_fin _) (hg.kn_fin _)).1
  · decide

theorem inv_zero (b : Fin 128) : Inv a0 hw q keep ck cv b 0 st0 := by
  refine ⟨fun r => ?_, fun r => ?_, fun r d => ?_⟩
  · show k0_pay20 (F := Ideal) (ix2 r 0) = _
    pointwise [k0_pay20]
    simp only [accM, Finset.range_zero, Finset.sup_empty]
    rfl
  · show k0_pay21 (F := Ideal) (ix2 r 0) = _
    pointwise [k0_pay21]
    simp [accA]
  · show k0_pay22 (F := Ideal) (ix2 r d) = _
    pointwise [k0_pay22]
    simp [accA]

theorem inv_page (hg : Good a0 q keep kn ck) (b : Fin 128) (k : ℕ) (st : St) (h : Inv a0 hw q keep ck cv b k st)
    (x0 x1 p K V) (hs : ∀ r n, psc x0 x1 p K r n = SS a0 hw q keep ck b r k n)
    (hv : ∀ n d, pv V n d = VV a0 hw cv b d k n) : Inv a0 hw q keep ck cv b (k + 1) (page x0 x1 p K V st) := by
  have hs' : ∀ r, psc x0 x1 p K r = SS a0 hw q keep ck b r k := fun r => funext (hs r)
  have ht : ∀ r j n, SS a0 hw q keep ck b r j n ≠ ⊤ := fun r j n => PS_ne_top hg _ _ _ _
  refine ⟨fun r => ?_, fun r => ?_, fun r d => ?_⟩
  · show nM (psc x0 x1 p K r) (st.1 (ix2 r 0)) = _
    rw [hs', h.M, accM_succ]
  · show nL (psc x0 x1 p K r) (st.1 (ix2 r 0)) (st.2.1 (ix2 r 0)) = _
    rw [hs', h.M, h.L, nL_eq, ← accA_succ _ _ _ (ht r)]
  · show nA (psc x0 x1 p K r) (fun n => pv V n d) (st.1 (ix2 r 0)) (st.2.2 (ix2 r d)) = _
    rw [hs', h.M, h.A, ← accA_succ _ _ _ (ht r)]
    exact congrArg (fun v => nA _ v _ _) (funext fun n => hv n d)

end Pure

variable (m : (ℓ : Loc nD τ sig) → Buf (Elt Ideal) ℓ)

/-- The four pages of a grid point, into the running state. -/
def pages4 (hO : Ok m) (c : Dev nD) (t : Fin (cfgM m hO).N) (st : St) : St :=
  page (iblk m hO c 0 t) (iblk m hO c 1 t) 3 (iblk m hO c 8 t) (iblk m hO c 12 t)
    (page (iblk m hO c 0 t) (iblk m hO c 1 t) 2 (iblk m hO c 7 t) (iblk m hO c 11 t)
      (page (iblk m hO c 0 t) (iblk m hO c 1 t) 1 (iblk m hO c 6 t) (iblk m hO c 10 t)
        (page (iblk m hO c 0 t) (iblk m hO c 1 t) 0 (iblk m hO c 5 t) (iblk m hO c 9 t) st)))

theorem stA (hO : Ok m) (c : Dev nD) (t : Fin (cfgM m hO).N) (h0 : t.val % 16 = 0) (h1 : ¬t.val % 16 = 15) :
    (outsAt0 m hO c t.val t.isLt).2 = pages4 m hO c t st0 := by
  rw [outsAt0_A m hO c t h0 h1]
  exact Prod.ext (soA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)) (Prod.ext (soA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)) (soA2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)))

theorem stB (hO : Ok m) (c : Dev nD) (t : Fin (cfgM m hO).N) (h0 : ¬t.val % 16 = 0) (h1 : ¬t.val % 16 = 15) :
    (outsAt0 m hO c t.val t.isLt).2 = pages4 m hO c t (outsAt0 m hO c (t.val - 1) (by omega)).2 := by
  rw [outsAt0_B m hO c t h0 h1]
  exact Prod.ext (soB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) (Prod.ext (soB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) (soB2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2))

set_option maxHeartbeats 200000 in
theorem outC (hO : Ok m) (c : Dev nD) (t : Fin (cfgM m hO).N) (h0 : ¬t.val % 16 = 0) (h1 : t.val % 16 = 15) :
    (outsAt0 m hO c t.val t.isLt).1 = k0_pay5 (F := Ideal)
      (last (iblk m hO c 0 t) (iblk m hO c 2 t) (iblk m hO c 3 t) (iblk m hO c 4 t) (pages4 m hO c t ((outsAt0 m hO c (t.val - 1) (Nat.lt_of_le_of_lt (Nat.sub_le _ _) t.isLt)).2.1, (outsAt0 m hO c (t.val - 1) (Nat.lt_of_le_of_lt (Nat.sub_le _ _) t.isLt)).2.2.1, (outsAt0 m hO c (t.val - 1) (Nat.lt_of_le_of_lt (Nat.sub_le _ _) t.isLt)).2.2.2))).2.2
      (last (iblk m hO c 0 t) (iblk m hO c 2 t) (iblk m hO c 3 t) (iblk m hO c 4 t) (pages4 m hO c t ((outsAt0 m hO c (t.val - 1) (Nat.lt_of_le_of_lt (Nat.sub_le _ _) t.isLt)).2.1, (outsAt0 m hO c (t.val - 1) (Nat.lt_of_le_of_lt (Nat.sub_le _ _) t.isLt)).2.2.1, (outsAt0 m hO c (t.val - 1) (Nat.lt_of_le_of_lt (Nat.sub_le _ _) t.isLt)).2.2.2))).2.1 := by
  unfold pages4
  have h := soC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2
  refine (congrArg Prod.fst (outsAt0_C m hO c t h0 h1)).trans ?_
  dsimp only
  exact h

section Points
variable (c : Dev nD)

theorem sc0 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (r : Fin 64) (n : Fin 1024) :
    psc (iblk m hO c 0 t) (iblk m hO c 1 t) 0 (iblk m hO c 5 t) r n
      = SS (m ((c : Thread nD τ).loc main_arg0)) hg.pages (m ((c : Thread nD τ).loc main_arg1)) (m ((c : Thread nD τ).loc main_arg2)) (m ((c : Thread nD τ).loc main_arg5)) ⟨t.val / 16, by have := tN m t; omega⟩ r (t.val % 16 * 4 + 0) n := by
  have e : (⟨(t.val % 16 * 4 + 0) % 64, by omega⟩ : Fin 64) = ⟨t.val % 16 * 4 + 0, by omega⟩ := Fin.ext (Nat.mod_eq_of_lt (by omega))
  unfold psc SS
  rw [e]
  unfold PS
  rw [b1]
  refine if_congr Iff.rfl (Finset.sum_congr rfl fun x _ => ?_) rfl
  rw [b0, b5 m hO c t hg.pages]

theorem va0 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (n : Fin 1024) (d : Fin 64) :
    pv (iblk m hO c 9 t) n d = VV (m ((c : Thread nD τ).loc main_arg0)) hg.pages (m ((c : Thread nD τ).loc main_arg6)) ⟨t.val / 16, by have := tN m t; omega⟩ d (t.val % 16 * 4 + 0) n := by
  have e : (⟨(t.val % 16 * 4 + 0) % 64, by omega⟩ : Fin 64) = ⟨t.val % 16 * 4 + 0, by omega⟩ := Fin.ext (Nat.mod_eq_of_lt (by omega))
  unfold pv VV
  rw [e]
  unfold PV
  rw [b9 m hO c t hg.pages]

theorem sc1 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (r : Fin 64) (n : Fin 1024) :
    psc (iblk m hO c 0 t) (iblk m hO c 1 t) 1 (iblk m hO c 6 t) r n
      = SS (m ((c : Thread nD τ).loc main_arg0)) hg.pages (m ((c : Thread nD τ).loc main_arg1)) (m ((c : Thread nD τ).loc main_arg2)) (m ((c : Thread nD τ).loc main_arg5)) ⟨t.val / 16, by have := tN m t; omega⟩ r (t.val % 16 * 4 + 1) n := by
  have e : (⟨(t.val % 16 * 4 + 1) % 64, by omega⟩ : Fin 64) = ⟨t.val % 16 * 4 + 1, by omega⟩ := Fin.ext (Nat.mod_eq_of_lt (by omega))
  unfold psc SS
  rw [e]
  unfold PS
  rw [b1]
  refine if_congr Iff.rfl (Finset.sum_congr rfl fun x _ => ?_) rfl
  rw [b0, b6 m hO c t hg.pages]

theorem va1 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (n : Fin 1024) (d : Fin 64) :
    pv (iblk m hO c 10 t) n d = VV (m ((c : Thread nD τ).loc main_arg0)) hg.pages (m ((c : Thread nD τ).loc main_arg6)) ⟨t.val / 16, by have := tN m t; omega⟩ d (t.val % 16 * 4 + 1) n := by
  have e : (⟨(t.val % 16 * 4 + 1) % 64, by omega⟩ : Fin 64) = ⟨t.val % 16 * 4 + 1, by omega⟩ := Fin.ext (Nat.mod_eq_of_lt (by omega))
  unfold pv VV
  rw [e]
  unfold PV
  rw [b10 m hO c t hg.pages]

theorem sc2 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (r : Fin 64) (n : Fin 1024) :
    psc (iblk m hO c 0 t) (iblk m hO c 1 t) 2 (iblk m hO c 7 t) r n
      = SS (m ((c : Thread nD τ).loc main_arg0)) hg.pages (m ((c : Thread nD τ).loc main_arg1)) (m ((c : Thread nD τ).loc main_arg2)) (m ((c : Thread nD τ).loc main_arg5)) ⟨t.val / 16, by have := tN m t; omega⟩ r (t.val % 16 * 4 + 2) n := by
  have e : (⟨(t.val % 16 * 4 + 2) % 64, by omega⟩ : Fin 64) = ⟨t.val % 16 * 4 + 2, by omega⟩ := Fin.ext (Nat.mod_eq_of_lt (by omega))
  unfold psc SS
  rw [e]
  unfold PS
  rw [b1]
  refine if_congr Iff.rfl (Finset.sum_congr rfl fun x _ => ?_) rfl
  rw [b0, b7 m hO c t hg.pages]

theorem va2 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (n : Fin 1024) (d : Fin 64) :
    pv (iblk m hO c 11 t) n d = VV (m ((c : Thread nD τ).loc main_arg0)) hg.pages (m ((c : Thread nD τ).loc main_arg6)) ⟨t.val / 16, by have := tN m t; omega⟩ d (t.val % 16 * 4 + 2) n := by
  have e : (⟨(t.val % 16 * 4 + 2) % 64, by omega⟩ : Fin 64) = ⟨t.val % 16 * 4 + 2, by omega⟩ := Fin.ext (Nat.mod_eq_of_lt (by omega))
  unfold pv VV
  rw [e]
  unfold PV
  rw [b11 m hO c t hg.pages]

theorem sc3 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (r : Fin 64) (n : Fin 1024) :
    psc (iblk m hO c 0 t) (iblk m hO c 1 t) 3 (iblk m hO c 8 t) r n
      = SS (m ((c : Thread nD τ).loc main_arg0)) hg.pages (m ((c : Thread nD τ).loc main_arg1)) (m ((c : Thread nD τ).loc main_arg2)) (m ((c : Thread nD τ).loc main_arg5)) ⟨t.val / 16, by have := tN m t; omega⟩ r (t.val % 16 * 4 + 3) n := by
  have e : (⟨(t.val % 16 * 4 + 3) % 64, by omega⟩ : Fin 64) = ⟨t.val % 16 * 4 + 3, by omega⟩ := Fin.ext (Nat.mod_eq_of_lt (by omega))
  unfold psc SS
  rw [e]
  unfold PS
  rw [b1]
  refine if_congr Iff.rfl (Finset.sum_congr rfl fun x _ => ?_) rfl
  rw [b0, b8 m hO c t hg.pages]

theorem va3 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (n : Fin 1024) (d : Fin 64) :
    pv (iblk m hO c 12 t) n d = VV (m ((c : Thread nD τ).loc main_arg0)) hg.pages (m ((c : Thread nD τ).loc main_arg6)) ⟨t.val / 16, by have := tN m t; omega⟩ d (t.val % 16 * 4 + 3) n := by
  have e : (⟨(t.val % 16 * 4 + 3) % 64, by omega⟩ : Fin 64) = ⟨t.val % 16 * 4 + 3, by omega⟩ := Fin.ext (Nat.mod_eq_of_lt (by omega))
  unfold pv VV
  rw [e]
  unfold PV
  rw [b12 m hO c t hg.pages]

theorem inv_pages4 (hO : Ok m) (t : Fin (cfgM m hO).N) (hg : Good (m ((c : Thread nD τ).loc main_arg0)) (m ((c : Thread nD τ).loc main_arg1)) (m ((c : Thread nD τ).loc main_arg2)) (m ((c : Thread nD τ).loc main_arg3)) (m ((c : Thread nD τ).loc main_arg5))) (st : St)
    (h : Inv (m ((c : Thread nD τ).loc main_arg0)) hg.pages (m ((c : Thread nD τ).loc main_arg1)) (m ((c : Thread nD τ).loc main_arg2)) (m ((c : Thread nD τ).loc main_arg5)) (m ((c : Thread nD τ).loc main_arg6)) ⟨t.val / 16, by have := tN m t; omega⟩ (t.val % 16 * 4) st) : Inv (m ((c : Thread nD τ).loc main_arg0)) hg.pages (m ((c : Thread nD τ).loc main_arg1)) (m ((c : Thread nD τ).loc main_arg2)) (m ((c : Thread nD τ).loc main_arg5)) (m ((c : Thread nD τ).loc main_arg6)) ⟨t.val / 16, by have := tN m t; omega⟩ (t.val % 16 * 4 + 4) (pages4 m hO c t st) :=
  inv_page hg _ _ _ (inv_page hg _ _ _ (inv_page hg _ _ _ (inv_page hg _ _ _ h _ _ _ _ _
    (sc0 m c hO t hg) (va0 m c hO t hg)) _ _ _ _ _ (sc1 m c hO t hg) (va1 m c hO t hg)) _ _ _ _ _
    (sc2 m c hO t hg) (va2 m c hO t hg)) _ _ _ _ _ (sc3 m c hO t hg) (va3 m c hO t hg)

theorem inv_at (hO : Ok m) (hg : Good (m ((c : Thread nD τ).loc main_arg0)) (m ((c : Thread nD τ).loc main_arg1)) (m ((c : Thread nD τ).loc main_arg2)) (m ((c : Thread nD τ).loc main_arg3)) (m ((c : Thread nD τ).loc main_arg5))) (k : ℕ) : ∀ t : Fin (cfgM m hO).N, t.val % 16 = k → k < 15 →
    Inv (m ((c : Thread nD τ).loc main_arg0)) hg.pages (m ((c : Thread nD τ).loc main_arg1)) (m ((c : Thread nD τ).loc main_arg2)) (m ((c : Thread nD τ).loc main_arg5)) (m ((c : Thread nD τ).loc main_arg6)) ⟨t.val / 16, by have := tN m t; omega⟩ (t.val % 16 * 4 + 4) (outsAt0 m hO c t.val t.isLt).2 := by
  induction k with
  | zero =>
    intro t h0 _
    rw [stA m hO c t h0 (by omega)]
    refine inv_pages4 m c hO t hg _ ?_
    rw [h0]
    exact inv_zero _
  | succ k ih =>
    intro t h0 hk
    rw [stB m hO c t (by omega) (by omega)]
    refine inv_pages4 m c hO t hg _ ?_
    have h := ih ⟨t.val - 1, by omega⟩ (by show (t.val - 1) % 16 = k; omega) (by omega)
    have e1 : (t.val - 1) % 16 * 4 + 4 = t.val % 16 * 4 := by omega
    have e2 : (⟨(t.val - 1) / 16, by have := tN m t; omega⟩ : Fin 128) = ⟨t.val / 16, by have := tN m t; omega⟩ := Fin.ext (by show (t.val - 1) / 16 = t.val / 16; omega)
    have h' : Inv (m ((c : Thread nD τ).loc main_arg0)) hg.pages (m ((c : Thread nD τ).loc main_arg1)) (m ((c : Thread nD τ).loc main_arg2)) (m ((c : Thread nD τ).loc main_arg5)) (m ((c : Thread nD τ).loc main_arg6)) ⟨(t.val - 1) / 16, by have := tN m t; omega⟩ ((t.val - 1) % 16 * 4 + 4) (outsAt0 m hO c (t.val - 1) (by omega)).2 := h
    rw [e1, e2] at h'
    exact h'

theorem scn (hO : Ok m) (t : Fin (cfgM m hO).N) (r n : Fin 64) :
    nsc (iblk m hO c 0 t) (iblk m hO c 2 t) (iblk m hO c 3 t) r n = NS (m ((c : Thread nD τ).loc main_arg1)) (m ((c : Thread nD τ).loc main_arg2)) (m ((c : Thread nD τ).loc main_arg3)) ⟨t.val / 16, by have := tN m t; omega⟩ r n := by
  unfold nsc NS
  rw [b2]
  refine if_congr Iff.rfl (Finset.sum_congr rfl fun x _ => ?_) rfl
  rw [b0, b3]

theorem van (hO : Ok m) (t : Fin (cfgM m hO).N) (n d : Fin 64) :
    nv (iblk m hO c 4 t) n d = NV (m ((c : Thread nD τ).loc main_arg4)) ⟨t.val / 16, by have := tN m t; omega⟩ n d := by
  unfold nv NV
  rw [b4]

end Points

section Result
variable (a0 : IVec S128x64 32) (hw : ∀ i, (a0 i : BitVec 32).toNat < 10240) (q : FVec Ideal S128x8x512 .f32)
  (keep : FVec Ideal S128x65x8x128 .f32) (kn vn : FVec Ideal S128x8x512 .f32) (ck cv : FVec Ideal S1x10240x128x8x64 .f32)

/-- The largest score of row `r`. -/
def topS (b : Fin 128) (r : Fin 64) : EReal := nM (NS q keep kn b r) (accM (SS a0 hw q keep ck b r) 64)

/-- The weighted values of row `r` in lane `d`, over pages and new keys. -/
def sumV (b : Fin 128) (r d : Fin 64) : EReal :=
  accA (SS a0 hw q keep ck b r) (VV a0 hw cv b d) 64 (topS a0 hw q keep kn ck b r)
    + ∑ n, Ideal.exp (NS q keep kn b r n - topS a0 hw q keep kn ck b r) * NV vn b n d

/-- The sum of weights of row `r`, over pages and new keys. -/
def sumW (b : Fin 128) (r : Fin 64) : EReal :=
  accA (SS a0 hw q keep ck b r) (fun _ _ => 1) 64 (topS a0 hw q keep kn ck b r)
    + ∑ n, Ideal.exp (NS q keep kn b r n - topS a0 hw q keep kn ck b r) * 1

/-- The kernel's result. -/
def resK : FVec Ideal S128x8x512 .f32 := fun j =>
  Ideal.div (sumV a0 hw q keep kn vn ck cv (j 0) ⟨(j 2).val / 64 * 8 + (j 1).val, by have h1 : (j 1).val < 8 := (j 1).isLt; have h2 : (j 2).val < 512 := (j 2).isLt; omega⟩ ⟨(j 2).val % 64, by omega⟩)
    (sumW a0 hw q keep kn ck (j 0) ⟨(j 2).val / 64 * 8 + (j 1).val, by have h1 : (j 1).val < 8 := (j 1).isLt; have h2 : (j 2).val < 512 := (j 2).isLt; omega⟩)

end Result

theorem out_at (c : Dev nD) (hO : Ok m) (hg : Good (m ((c : Thread nD τ).loc main_arg0)) (m ((c : Thread nD τ).loc main_arg1)) (m ((c : Thread nD τ).loc main_arg2)) (m ((c : Thread nD τ).loc main_arg3)) (m ((c : Thread nD τ).loc main_arg5))) (t : Fin (cfgM m hO).N) (h : t.val % 16 = 15) (i : Fin 8) (x : Fin 512) :
    (outsAt0 m hO c t.val t.isLt).1 (ix3 0 i x)
      = resK (m ((c : Thread nD τ).loc main_arg0)) hg.pages (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val / 16, by have := tN m t; omega⟩ i x) := by
  have hi : Inv (m ((c : Thread nD τ).loc main_arg0)) hg.pages (m ((c : Thread nD τ).loc main_arg1)) (m ((c : Thread nD τ).loc main_arg2)) (m ((c : Thread nD τ).loc main_arg5)) (m ((c : Thread nD τ).loc main_arg6)) ⟨t.val / 16, by have := tN m t; omega⟩ 64 (pages4 m hO c t (outsAt0 m hO c (t.val - 1) (by omega)).2) := by
    have h4 := inv_pages4 m c hO t hg (outsAt0 m hO c (t.val - 1) (by omega)).2 (by
      have h := inv_at m c hO hg 14 ⟨t.val - 1, by omega⟩ (by show (t.val - 1) % 16 = 14; omega) (by omega)
      have e1 : (t.val - 1) % 16 * 4 + 4 = t.val % 16 * 4 := by omega
      have e2 : (⟨(t.val - 1) / 16, by have := tN m t; omega⟩ : Fin 128) = ⟨t.val / 16, by have := tN m t; omega⟩ := Fin.ext (by show (t.val - 1) / 16 = t.val / 16; omega)
      have h' : Inv (m ((c : Thread nD τ).loc main_arg0)) hg.pages (m ((c : Thread nD τ).loc main_arg1)) (m ((c : Thread nD τ).loc main_arg2)) (m ((c : Thread nD τ).loc main_arg5)) (m ((c : Thread nD τ).loc main_arg6)) ⟨(t.val - 1) / 16, by have := tN m t; omega⟩ ((t.val - 1) % 16 * 4 + 4) (outsAt0 m hO c (t.val - 1) (by omega)).2 := h
      rw [e1, e2] at h'
      exact h')
    have e : t.val % 16 * 4 + 4 = 64 := by omega
    rw [e] at h4
    exact h4
  rw [outC m hO c t (by omega) h, e5]
  have hi : Inv (m ((c : Thread nD τ).loc main_arg0)) hg.pages (m ((c : Thread nD τ).loc main_arg1)) (m ((c : Thread nD τ).loc main_arg2)) (m ((c : Thread nD τ).loc main_arg5)) (m ((c : Thread nD τ).loc main_arg6)) ⟨t.val / 16, by have := tN m t; omega⟩ 64 (pages4 m hO c t ((outsAt0 m hO c (t.val - 1) (Nat.lt_of_le_of_lt (Nat.sub_le _ _) t.isLt)).2.1, (outsAt0 m hO c (t.val - 1) (Nat.lt_of_le_of_lt (Nat.sub_le _ _) t.isLt)).2.2.1, (outsAt0 m hO c (t.val - 1) (Nat.lt_of_le_of_lt (Nat.sub_le _ _) t.isLt)).2.2.2)) := hi
  generalize pages4 m hO c t ((outsAt0 m hO c (t.val - 1) (Nat.lt_of_le_of_lt (Nat.sub_le _ _) t.isLt)).2.1, (outsAt0 m hO c (t.val - 1) (Nat.lt_of_le_of_lt (Nat.sub_le _ _) t.isLt)).2.2.1, (outsAt0 m hO c (t.val - 1) (Nat.lt_of_le_of_lt (Nat.sub_le _ _) t.isLt)).2.2.2) = st at hi ⊢
  have ht : ∀ r j n, SS (m ((c : Thread nD τ).loc main_arg0)) hg.pages (m ((c : Thread nD τ).loc main_arg1)) (m ((c : Thread nD τ).loc main_arg2)) (m ((c : Thread nD τ).loc main_arg5)) ⟨t.val / 16, by have := tN m t; omega⟩ r j n ≠ ⊤ := fun r j n => PS_ne_top hg _ _ _ _
  have hs : ∀ r, nsc (iblk m hO c 0 t) (iblk m hO c 2 t) (iblk m hO c 3 t) r = NS (m ((c : Thread nD τ).loc main_arg1)) (m ((c : Thread nD τ).loc main_arg2)) (m ((c : Thread nD τ).loc main_arg3)) ⟨t.val / 16, by have := tN m t; omega⟩ r :=
    fun r => funext (scn m c hO t r)
  refine congrArg₂ Ideal.div ?_ ?_
  · show nA (nsc (iblk m hO c 0 t) (iblk m hO c 2 t) (iblk m hO c 3 t) (⟨x.val / 64 * 8 + i.val, by omega⟩ : Fin 64)) (fun n => nv (iblk m hO c 4 t) n (⟨x.val % 64, by omega⟩ : Fin 64)) (st.1 (ix2 (⟨x.val / 64 * 8 + i.val, by omega⟩ : Fin 64) 0)) (st.2.2 (ix2 (⟨x.val / 64 * 8 + i.val, by omega⟩ : Fin 64) (⟨x.val % 64, by omega⟩ : Fin 64))) = _
    rw [hs, hi.M, hi.A, nA_acc _ _ _ _ _ (ht _) (NS_ne_top hg _ _)]
    refine congrArg (_ + ·) (Finset.sum_congr rfl fun n _ => ?_)
    rw [van]
    rfl
  · show nL (nsc (iblk m hO c 0 t) (iblk m hO c 2 t) (iblk m hO c 3 t) (⟨x.val / 64 * 8 + i.val, by omega⟩ : Fin 64)) (st.1 (ix2 (⟨x.val / 64 * 8 + i.val, by omega⟩ : Fin 64) 0)) (st.2.1 (ix2 (⟨x.val / 64 * 8 + i.val, by omega⟩ : Fin 64) 0)) = _
    rw [hs, hi.M, hi.L, nL_eq, nA_acc _ _ _ _ _ (ht _) (NS_ne_top hg _ _)]
    rfl

end Cert.KernelIdeal.Att
-- ==== Proof.Out.lean ====
module
public import proofs.«01_k».proof.Proof.Value
public import Idealize.ShloMosaic.Lib.Pipeline.Covers
@[expose] public section
set_option maxRecDepth 16384
noncomputable section
/-!
The kernel's result array after the run.
-/
namespace Cert.KernelIdeal.Att
open Idealize.ShloMosaic Idealize.ShloMosaic.TcCoe Idealize.SL Idealize.SL.Sem Cert.KernelIdeal.Gen Idealize.ShloMosaic.Pipeline

variable (m : (ℓ : Loc nD τ sig) → Buf (Elt Ideal) ℓ)

theorem cov13 (hO : Ok m) : ((cfgM m hO).win 13).Covers := by
  refine Window.covers_of_index_surj _ rfl (fun a => ?_) fun β => ?_
  · exact (by decide : ∀ a : Fin 3, 0 < S1x8x512.size a) a
  · have h : ∀ b : Fin 128, b.val * 16 < grid0.N := by decide +kernel
    have n0 : ((cfgM m hO).win 13).nblk (0 : Fin 3) = 128 := (by decide +kernel : (S128x8x512.size 0 + S1x8x512.size 0 - 1) / S1x8x512.size 0 = 128)
    have n1 : ((cfgM m hO).win 13).nblk (1 : Fin 3) = 1 := (by decide +kernel : (S128x8x512.size 1 + S1x8x512.size 1 - 1) / S1x8x512.size 1 = 1)
    have n2 : ((cfgM m hO).win 13).nblk (2 : Fin 3) = 1 := (by decide +kernel : (S128x8x512.size 2 + S1x8x512.size 2 - 1) / S1x8x512.size 2 = 1)
    have b0 : (β (0 : Fin 3)).val < 128 := lt_of_lt_of_eq (β (0 : Fin 3)).isLt n0
    have b1 : (β (1 : Fin 3)).val < 1 := lt_of_lt_of_eq (β (1 : Fin 3)).isLt n1
    have b2 : (β (2 : Fin 3)).val < 1 := lt_of_lt_of_eq (β (2 : Fin 3)).isLt n2
    refine ⟨⟨(β (0 : Fin 3)).val * 16, h ⟨_, b0⟩⟩, fun a : Fin 3 => ?_⟩
    have e : ∀ a : Fin 3, cc0_transform_13 (grid0.coords ⟨(β (0 : Fin 3)).val * 16, h ⟨_, b0⟩⟩) a = (![(β (0 : Fin 3)).val * 16 / 16, 0, 0] : Fin 3 → ℕ) a :=
      fun a => congrFun (ix_13 _) a
    show cc0_transform_13 (grid0.coords ⟨(β (0 : Fin 3)).val * 16, h ⟨_, b0⟩⟩) a = (β a).val
    rw [e]
    fin_cases a
    · show (β (0 : Fin 3)).val * 16 / 16 = (β (0 : Fin 3)).val
      omega
    · show 0 = (β (1 : Fin 3)).val
      omega
    · show 0 = (β (2 : Fin 3)).val
      omega

theorem out_eq (c : Dev nD) (hO : Ok m) (hg : Good (m ((c : Thread nD τ).loc main_arg0)) (m ((c : Thread nD τ).loc main_arg1)) (m ((c : Thread nD τ).loc main_arg2)) (m ((c : Thread nD τ).loc main_arg3)) (m ((c : Thread nD τ).loc main_arg5))) :
    (dats m hO 0 c).arrAt 13 (cfgM m hO).N = resK (m ((c : Thread nD τ).loc main_arg0)) hg.pages (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 13 _ (cov13 m hO) fun t hf y => ?_
  refine (congrFun (after0_13 m hO c t) y).trans ?_
  have h := (flush0_13 (adm m hO) t).mp hf
  have hy : ∀ y : S1x8x512.Idx, y = ix3 (n0 := 1) 0 (y 1) (y 2) := fun y => by
    idx_vars y
    obtain rfl : y0 = 0 := Subsingleton.elim _ _
    rfl
  refine (congrArg (outsAt0 m hO c t.val t.isLt).1 (hy y)).trans ((out_at m c hO hg t h (y (1 : Fin 3)) (y (2 : Fin 3))).trans ?_)
  refine congrArg (resK (m ((c : Thread nD τ).loc main_arg0)) hg.pages (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (funext fun a : Fin 3 => Fin.ext ?_)
  have e : ∀ a : Fin 3, cc0_transform_13 (grid0.coords t) a = (![t.val / 16, 0, 0] : Fin 3 → ℕ) a := fun a => congrFun (ix_13 t) a
  show _ = cc0_transform_13 (grid0.coords t) a * S1x8x512.size a + 1 * (y a).val
  rw [e]
  have y0 : (y (0 : Fin 3)).val < 1 := (y (0 : Fin 3)).isLt
  fin_cases a
  · show t.val / 16 = t.val / 16 * 1 + 1 * (y (0 : Fin 3)).val
    omega
  · show (y (1 : Fin 3)).val = 0 * 8 + 1 * (y (1 : Fin 3)).val
    omega
  · show (y (2 : Fin 3)).val = 0 * 512 + 1 * (y (2 : Fin 3)).val
    omega

end Cert.KernelIdeal.Att
-- ==== Proof.Fold.lean ====
module
public import proofs.«01_k».proof.Proof.Softmax
@[expose] public section
noncomputable section
/-!
The columns of the pages and of the new keys, gathered into one row of all positions.
-/
namespace Cert.Online
open Idealize.ShloMosaic Finset

theorem exp_bot_sub (M : EReal) : Ideal.exp (⊥ - M) = 0 := by
  rw [sub_eq_add_neg, EReal.bot_add, Ideal.exp_bot]

/-- A sum over columns head by head, only one head counting. -/
theorem sum_new (h : Fin 8) (g : ℕ → EReal) :
    (∑ n : Fin 64, if h.val = n.val / 8 then g (n.val % 8) else 0) = ∑ j : Fin 8, g j.val := by
  show (∑ n : Fin (8 * 8), if h.val = n.val / 8 then g (n.val % 8) else 0) = _
  rw [← (finProdFinEquiv (m := 8) (n := 8)).sum_comp, Fintype.sum_prod_type, Finset.sum_eq_single h]
  · refine Finset.sum_congr rfl fun j _ => ?_
    have e : (finProdFinEquiv (h, j)).val = j.val + 8 * h.val := rfl
    rw [e, if_pos (by omega)]
    congr 1
    omega
  · intro c _ hc
    refine Finset.sum_eq_zero fun j _ => ?_
    have e : (finProdFinEquiv (c, j)).val = j.val + 8 * c.val := rfl
    rw [e, if_neg]
    intro hh
    exact hc (Fin.ext (by omega))
  · exact fun hh => absurd (Finset.mem_univ _) hh

theorem sum_page (h : Fin 8) (g : ℕ → EReal) :
    (∑ n : Fin 1024, if h.val = n.val % 8 then g (n.val / 8) else 0) = ∑ c : Fin 128, g c.val :=
  sum_heads (N := 128) h fun c => g c.val

theorem sum_all (F : ℕ → EReal) :
    (∑ j ∈ range 64, ∑ c : Fin 128, F (j * 128 + c.val)) + ∑ j : Fin 8, F (8192 + j.val) = ∑ k : Fin 8200, F k.val := by
  have e1 : ∑ k : Fin 8200, F k.val = ∑ k ∈ range (8192 + 8), F k := (Finset.sum_range F).symm
  have e2 : ∑ k ∈ range 8192, F k = ∑ j ∈ range 64, ∑ c : Fin 128, F (j * 128 + c.val) := by
    have : ∀ n, ∑ k ∈ range (n * 128), F k = ∑ j ∈ range n, ∑ c : Fin 128, F (j * 128 + c.val) := fun n => by
      induction n with
      | zero => simp
      | succ n ih =>
        rw [Finset.sum_range_succ, ← ih, Nat.succ_mul, Finset.sum_range_add]
        exact congrArg (_ + ·) (Finset.sum_range fun x => F (n * 128 + x))
    exact this 64
  rw [e1, Finset.sum_range_add, e2]
  exact congrArg (_ + ·) (Finset.sum_range fun x => F (8192 + x)).symm

section
variable (h : Fin 8) (e w : ℕ → EReal) (S V : ℕ → Fin 1024 → EReal) (s v : Fin 64 → EReal)

theorem gather_sum (hS : ∀ j n, S j n = if h.val = n.val % 8 then e (j % 64 * 128 + n.val / 8) else ⊥)
    (hV : ∀ j n, h.val = n.val % 8 → V j n = w (j % 64 * 128 + n.val / 8))
    (hs : ∀ n, s n = if h.val = n.val / 8 then e (8192 + n.val % 8) else ⊥)
    (hv : ∀ n, h.val = n.val / 8 → v n = w (8192 + n.val % 8)) (M : EReal) :
    accA S V 64 M + ∑ n, Ideal.exp (s n - M) * v n = ∑ k : Fin 8200, Ideal.exp (e k.val - M) * w k.val := by
  rw [← sum_all fun k => Ideal.exp (e k - M) * w k]
  refine congrArg₂ (· + ·) ?_ ?_
  · refine Finset.sum_congr rfl fun j hj => ?_
    have hj' : j % 64 = j := Nat.mod_eq_of_lt (Finset.mem_range.mp hj)
    rw [← sum_page h fun c => Ideal.exp (e (j * 128 + c) - M) * w (j * 128 + c)]
    refine Finset.sum_congr rfl fun n _ => ?_
    rw [hS]
    split_ifs with hh
    · rw [hV j n hh, hj']
    · rw [exp_bot_sub, zero_mul]
  · rw [← sum_new h fun j => Ideal.exp (e (8192 + j) - M) * w (8192 + j)]
    refine Finset.sum_congr rfl fun n _ => ?_
    rw [hs]
    split_ifs with hh
    · rw [hv n hh]
    · rw [exp_bot_sub, zero_mul]

theorem gather_top (hS : ∀ j n, S j n = if h.val = n.val % 8 then e (j % 64 * 128 + n.val / 8) else ⊥)
    (hs : ∀ n, s n = if h.val = n.val / 8 then e (8192 + n.val % 8) else ⊥) :
    nM s (accM S 64) = univ.sup fun k : Fin 8200 => e k.val := by
  have hle : ∀ k, k < 8200 → e k ≤ univ.sup fun k : Fin 8200 => e k.val :=
    fun k hk => Finset.le_sup (f := fun k : Fin 8200 => e k.val) (mem_univ ⟨k, hk⟩)
  refine le_antisymm (max_le (Finset.sup_le fun j hj => Finset.sup_le fun n _ => ?_) (Finset.sup_le fun n _ => ?_))
    (Finset.sup_le fun k _ => ?_)
  · rw [hS]
    split_ifs
    · exact hle _ (by have := n.2; omega)
    · exact bot_le
  · rw [hs]
    split_ifs
    · exact hle _ (by have := n.2; omega)
    · exact bot_le
  · have hk := k.2
    by_cases hk' : k.val < 8192
    · refine le_trans ?_ (le_max_left _ _)
      have h1 := le_accM S (show k.val / 128 < 64 by omega) ⟨k.val % 128 * 8 + h.val, by omega⟩
      rw [hS, if_pos (by show h.val = (k.val % 128 * 8 + h.val) % 8; omega)] at h1
      have h2 : k.val / 128 % 64 * 128 + (k.val % 128 * 8 + h.val) / 8 = k.val := by omega
      exact h2 ▸ h1
    · refine le_trans ?_ (le_max_right _ _)
      have h1 := Finset.le_sup (f := s) (mem_univ ⟨h.val * 8 + (k.val - 8192), by omega⟩)
      rw [hs, if_pos (by show h.val = (h.val * 8 + (k.val - 8192)) / 8; omega)] at h1
      have h2 : 8192 + (h.val * 8 + (k.val - 8192)) % 8 = k.val := by omega
      exact h2 ▸ h1
end

end Cert.Online
-- ==== Proof.Ref.lean ====
module
public import proofs.«01_k».proof.Proof.Gen.ReferenceIdeal.Run
public import Idealize.ShloMosaic.Lib.Pointwise
@[expose] public section
set_option maxRecDepth 16384
noncomputable section
/-!
The reference read entry by entry.
-/
namespace Cert.ReferenceIdeal.Att
open Cert.ReferenceIdeal Cert.ReferenceIdeal.Gen Idealize.ShloMosaic Idealize.ShloMosaic.TcCoe Idealize.SL.Sem Idealize.ShloMosaic.StableHlo

/-- The page numbers the reference gathers with. -/
def pgs (a0 : IVec S128x64 32) : IVec S128x64x1 32 :=
  broadcastInDim S128x64x1 ![0, 1] bcast_S128x64_S128x64x1_0_1 (select (cmpi .slt a0 (broadcastInDim S128x64 ![] bcast_S_S128x64 (constantI S_ 32 0#32))) (addi a0 (broadcastInDim S128x64 ![] bcast_S_S128x64 (constantI S_ 32 10240#32))) a0)

/-- The gathered pages. -/
def past (a0 : IVec S128x64 32) (ck : FVec Ideal S1x10240x128x8x64 .f32) : FVec Ideal S128x64x128x8x64 .f32 :=
  Host.gather gather_S10240x128x8x64_S128x64x1_S128x64x128x8x64_234_0_n_n_0_2_1128864 (shapeCast _ ck shapeCasts_S1x10240x128x8x64_S10240x128x8x64) (pgs a0)

/-- The keys, or values, of all positions. -/
def allK (a0 : IVec S128x64 32) (ck : FVec Ideal S1x10240x128x8x64 .f32) (kn : FVec Ideal S128x8x512 .f32) : FVec Ideal S128x8200x8x64 .f32 :=
  concatenate S128x8200x8x64 1 [⟨S128x8192x8x64, (shapeCast _ (past a0 ck) shapeCasts_S128x64x128x8x64_S128x8192x8x64)⟩, ⟨S128x8x8x64, (shapeCast _ kn shapeCasts_S128x8x512_S128x8x8x64)⟩] concatenates_S128x8192x8x64_S128x8x8x64_S128x8200x8x64_d1

/-- Which positions are kept. -/
def valid (keep : FVec Ideal S128x65x8x128 .f32) : IVec S128x8x8200 1 :=
  cmpf .ogt (extractStridedSlice S128x8x8200 ![0, 0, 0] (shapeCast _ (transpose S128x8x65x128 [0, 2, 1, 3] keep transposes_S128x65x8x128_S128x8x65x128_0_2_1_3) shapeCasts_S128x8x65x128_S128x8x8320) slices_S128x8x8320_S128x8x8200_0_0_0) (broadcastInDim S128x8x8200 ![] bcast_S_S128x8x8200 (constant S_ .f32 0x3F000000#32))

/-- The scores over all positions. -/
def scores (q : FVec Ideal S128x8x512 .f32) (al : FVec Ideal S128x8200x8x64 .f32) (va : IVec S128x8x8200 1) : FVec Ideal S128x8x8x8200 .f32 :=
  select (broadcastInDim S128x8x8x8200 ![0, 1, 2, 3] bcast_S128x8x1x8200_S128x8x8x8200_0_1_2_3 (broadcastInDim S128x8x1x8200 ![0, 1, 3] bcast_S128x8x8200_S128x8x1x8200_0_1_3 va)) (transpose S128x8x8x8200 [0, 3, 1, 2] (Host.dotGeneral dot_S128x8200x8x64_S128x8x8x64_S128x8x8200x8_3_3_1_1_02_02 none al (shapeCast _ q shapeCasts_S128x8x512_S128x8x8x64)) transposes_S128x8x8200x8_S128x8x8x8200_0_3_1_2) (broadcastInDim S128x8x8x8200 ![] bcast_S_S128x8x8x8200 (id (constant S_ .f32 0xFF800000#32)))

/-- The largest scores. -/
def tops (s : FVec Ideal S128x8x8x8200 .f32) : FVec Ideal S128x8x8 .f32 :=
  maximumf (broadcastInDim S128x8x8 ![] bcast_S_S128x8x8 (constant S_ .f32 0xFF800000#32)) (Host.reduce FloatOps.maximumf s (constant S_ .f32 0xFF800000#32) reducesTo_S128x8x8x8200_S128x8x8_d3 h_S_)

/-- The weights, not yet normalised. -/
def exps (s : FVec Ideal S128x8x8x8200 .f32) : FVec Ideal S128x8x8x8200 .f32 :=
  Host.exp (subf s (broadcastInDim S128x8x8x8200 ![0, 1, 2, 3] bcast_S128x8x8x1_S128x8x8x8200_0_1_2_3 (broadcastInDim S128x8x8x1 ![0, 1, 2] bcast_S128x8x8_S128x8x8x1_0_1_2 (tops s))))

/-- The normalised weights. -/
def probs (s : FVec Ideal S128x8x8x8200 .f32) : FVec Ideal S128x8x8x8200 .f32 :=
  Host.divf (exps s) (broadcastInDim S128x8x8x8200 ![0, 1, 2, 3] bcast_S128x8x8x1_S128x8x8x8200_0_1_2_3 (broadcastInDim S128x8x8x1 ![0, 1, 2] bcast_S128x8x8_S128x8x8x1_0_1_2 (Host.reduceAdd (exps s) (constant S_ .f32 0x00000000#32) reducesTo_S128x8x8x8200_S128x8x8_d3 h_S_)))

/-- The result of the reference from its weights and values. -/
def mix (p : FVec Ideal S128x8x8x8200 .f32) (al : FVec Ideal S128x8200x8x64 .f32) : FVec Ideal S128x8x512 .f32 :=
  shapeCast _ (transpose S128x8x8x64 [0, 3, 1, 2] (Host.dotGeneral dot_S128x8200x8x64_S128x8x8x8200_S128x8x64x8_1_3_3_1_02_02 none al p) transposes_S128x8x64x8_S128x8x8x64_0_3_1_2) shapeCasts_S128x8x8x64_S128x8x512

/-- The reference's result. -/
def resR (a0 : IVec S128x64 32) (q : FVec Ideal S128x8x512 .f32) (keep : FVec Ideal S128x65x8x128 .f32) (kn vn : FVec Ideal S128x8x512 .f32) (ck cv : FVec Ideal S1x10240x128x8x64 .f32) : FVec Ideal S128x8x512 .f32 :=
  mix (probs (scores q (allK a0 ck kn) (valid keep))) (allK a0 cv vn)

theorem res_eq (m : (ℓ : Loc nD τ sig) → Buf (Elt Ideal) ℓ) (c : Dev nD) :
    Value.res_main_v45 m c = resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

theorem red3 : S128x8x8x8200.Reduces [3] S128x8x8 := by decide

theorem negInf : Ideal.ofBits .f32 0xFF800000#32 = ⊥ := by simp [Ideal.ofBits, Ideal.ieee]

theorem max_at {s : Shape} (x y : FVec Ideal s .f32) (j : s.Idx) : maximumf x y j = (max (x j) (y j) : EReal) := rfl

theorem fold_sup {n : ℕ} (f : Fin n → EReal) (i0 : EReal) (h : i0 = ⊥) :
    Finset.univ.fold (FloatOps.maximumf (F := Ideal) (φ := .f32)) i0 f = Finset.univ.sup f := by
  subst h
  rfl

theorem sup_cast {n n' : ℕ} (e : n = n') (f : Fin n → EReal) (g : Fin n' → EReal) (h : ∀ k, f k = g (k.cast e)) :
    Finset.univ.sup f = Finset.univ.sup g := by
  subst e
  exact Finset.sup_congr rfl fun k _ => h k

theorem const_first : (constant (F := Ideal) S_ .f32 0xFF800000#32 (Shape.Idx.first h_S_) : EReal) = ⊥ := negInf

theorem lift3 (b : Fin 128) (i h : Fin 8) (k : Fin 8200) : red3.lift (ix3 b i h) k = ix4 b i h k := by
  funext a
  refine Fin.ext ?_
  match a with
  | ⟨0, _⟩ => rfl
  | ⟨1, _⟩ => rfl
  | ⟨2, _⟩ => rfl
  | ⟨3, _⟩ => rfl

theorem tops_at (s : FVec Ideal S128x8x8x8200 .f32) (b : Fin 128) (i h : Fin 8) :
    tops s (ix3 b i h) = (Finset.univ : Finset (Fin 8200)).sup fun k => s (ix4 b i h k) := by
  unfold tops
  rw [max_at]
  have e := Host.reduce_eq_fold_single (FloatOps.maximumf (F := Ideal) (φ := .f32)) s (constant S_ .f32 0xFF800000#32) reducesTo_S128x8x8x8200_S128x8x8_d3 red3 h_S_ (ix3 b i h)
  have e2 := e.trans (fold_sup _ _ const_first)
  have e3 := e2.trans (sup_cast (n' := 8200) rfl _ (fun k => s (ix4 b i h k)) fun k => congrArg s (lift3 b i h k))
  have e4 : (broadcastInDim S128x8x8 ![] bcast_S_S128x8x8 (constant (F := Ideal) S_ .f32 0xFF800000#32) (ix3 b i h) : EReal) = ⊥ := negInf
  generalize Host.reduce (FloatOps.maximumf (F := Ideal) (φ := .f32)) s (constant S_ .f32 0xFF800000#32) reducesTo_S128x8x8x8200_S128x8x8_d3 h_S_ (ix3 b i h) = w at e3 ⊢
  rw [e4, ← e3]
  exact max_eq_right bot_le

theorem exps_at (s : FVec Ideal S128x8x8x8200 .f32) (b : Fin 128) (i h : Fin 8) (k : Fin 8200) :
    exps s (ix4 b i h k) = (Ideal.exp (s (ix4 b i h k) - tops s (ix3 b i h)) : EReal) := by
  pointwise [exps]

theorem probs_at (s : FVec Ideal S128x8x8x8200 .f32) (b : Fin 128) (i h : Fin 8) (k : Fin 8200) :
    probs s (ix4 b i h k) = (Ideal.div (exps s (ix4 b i h k)) (∑ k, exps s (ix4 b i h k)) : EReal) := by
  pointwise [probs]

theorem mix_at (p : FVec Ideal S128x8x8x8200 .f32) (al : FVec Ideal S128x8200x8x64 .f32) (b : Fin 128) (i : Fin 8) (x : Fin 512) :
    mix p al (ix3 b i x) = (∑ k : Fin 8200, al (ix4 b k ⟨x.val / 64, by omega⟩ ⟨x.val % 64, by omega⟩) * p (ix4 b i ⟨x.val / 64, by omega⟩ k) : EReal) := by
  pointwise [mix]

theorem scores_at (q : FVec Ideal S128x8x512 .f32) (al : FVec Ideal S128x8200x8x64 .f32) (va : IVec S128x8x8200 1) (b : Fin 128) (i h : Fin 8) (k : Fin 8200) :
    scores q al va (ix4 b i h k) = (Scalar.select (va (ix3 b i k)) (∑ x : Fin 64, al (ix4 b k h x) * q (ix3 b i ⟨h.val * 64 + x.val, by omega⟩)) ⊥ : EReal) := by
  pointwise [scores]
  exact congrArg (Scalar.select (va (ix3 b i k)) _) negInf

theorem valid_at (keep : FVec Ideal S128x65x8x128 .f32) (b : Fin 128) (i : Fin 8) (k : Fin 8200) :
    valid keep (ix3 b i k) = BitVec.ofBool (decide ((Ideal.ofBits .f32 0x3F000000#32 : EReal) < keep (ix4 b ⟨k.val / 128, by omega⟩ i ⟨k.val % 128, by omega⟩))) := by
  pointwise [valid]

theorem allK_old (a0 : IVec S128x64 32) (ck : FVec Ideal S1x10240x128x8x64 .f32) (kn : FVec Ideal S128x8x512 .f32) (b : Fin 128) (k : Fin 8200) (h : Fin 8) (x : Fin 64) :
    allK a0 ck kn (ix4 b k h x) = if hk : k.val < 8192 then past a0 ck (ix5 b ⟨k.val / 128, by omega⟩ ⟨k.val % 128, by omega⟩ h x)
      else kn (ix3 b ⟨k.val - 8192, by omega⟩ ⟨h.val * 64 + x.val, by omega⟩) := by
  pointwise [allK]

theorem pgs_at (a0 : IVec S128x64 32) (hw : ∀ i, (a0 i : BitVec 32).toNat < 10240) (b : Fin 128) (p : Fin 64) :
    pgs a0 (ix3 b p 0) = (a0 (ix2 b p) : BitVec 32) := by
  pointwise [pgs]
  have h := hw (ix2 b p)
  generalize (a0 (ix2 b p) : BitVec 32) = w at h ⊢
  have : IntOp.cmpi .slt w 0#32 = 0#1 := by
    have e : w.slt 0#32 = false := by
      rw [BitVec.slt_eq_decide, decide_eq_false_iff_not, BitVec.toInt_eq_toNat_of_lt (by omega)]
      simp
    show BitVec.ofBool (w.slt 0#32) = 0#1
    rw [e]
    rfl
  rw [this]
  rfl

theorem past_at (a0 : IVec S128x64 32) (hw : ∀ i, (a0 i : BitVec 32).toNat < 10240) (ck : FVec Ideal S1x10240x128x8x64 .f32) (b : Fin 128) (p : Fin 64) (c : Fin 128) (h : Fin 8) (x : Fin 64) :
    past a0 ck (ix5 b p c h x) = ck (ix5 0 ⟨(a0 (ix2 b p) : BitVec 32).toNat, hw _⟩ c h x) := by
  have e : (gather_S10240x128x8x64_S128x64x1_S128x64x128x8x64_234_0_n_n_0_2_1128864).operandIdx (ix5 b p c h x) (pgs a0)
      = ix4 ⟨(a0 (ix2 b p) : BitVec 32).toNat, hw _⟩ c h x := by
    funext a
    refine Fin.ext ?_
    match a with
    | ⟨0, _⟩ =>
      show min ((pgs a0 _ : BitVec 32)).toInt.toNat 10239 + 0 + 0 = (a0 (ix2 b p) : BitVec 32).toNat
      have hs : (gather_S10240x128x8x64_S128x64x1_S128x64x128x8x64_234_0_n_n_0_2_1128864).siIdx (ix5 b p c h x) ⟨0, by decide⟩ = ix3 b p 0 := by
        funext a
        refine Fin.ext ?_
        match a with
        | ⟨0, _⟩ => rfl
        | ⟨1, _⟩ => rfl
        | ⟨2, _⟩ => rfl
      refine (congrArg (fun i => min ((pgs a0 i : BitVec 32)).toInt.toNat 10239) hs).trans ?_
      have := hw (ix2 b p)
      show min ((pgs a0 (ix3 b p 0) : BitVec 32)).toInt.toNat 10239 = _
      rw [pgs_at a0 hw, BitVec.toInt_eq_toNat_of_lt (by omega)]
      simp
      omega
    | ⟨1, _⟩ => exact Nat.zero_add _
    | ⟨2, _⟩ => exact Nat.zero_add _
    | ⟨3, _⟩ => exact Nat.zero_add _
  show shapeCast S10240x128x8x64 ck shapeCasts_S1x10240x128x8x64_S10240x128x8x64 ((gather_S10240x128x8x64_S128x64x1_S128x64x128x8x64_234_0_n_n_0_2_1128864).operandIdx (ix5 b p c h x) (pgs a0)) = _
  rw [e]
  pointwise []

end Cert.ReferenceIdeal.Att
-- ==== Proof.Match.lean ====
module
public import proofs.«01_k».proof.Proof.Out
public import proofs.«01_k».proof.Proof.Fold
public import proofs.«01_k».proof.Proof.Ref
@[expose] public section
set_option maxRecDepth 16384
noncomputable section
/-!
The kernel's result is the reference's.
-/
namespace Cert.KernelIdeal.Att
open Idealize.ShloMosaic Idealize.ShloMosaic.TcCoe Idealize.SL Idealize.SL.Sem
open Cert.Online Cert.ReferenceIdeal.Att

variable {a0 : IVec S128x64 32} {q : FVec Ideal S128x8x512 .f32}
  {keep : FVec Ideal S128x65x8x128 .f32} {kn : FVec Ideal S128x8x512 .f32} {ck : FVec Ideal S1x10240x128x8x64 .f32}
  (vn : FVec Ideal S128x8x512 .f32) (cv : FVec Ideal S1x10240x128x8x64 .f32)

theorem all_at (hw : ∀ i, (a0 i : BitVec 32).toNat < 10240) (ck : FVec Ideal S1x10240x128x8x64 .f32) (kn : FVec Ideal S128x8x512 .f32)
    (b : Fin 128) (k : Fin 8200) (h : Fin 8) (x : Fin 64) :
    allK a0 ck kn (ix4 b k h x) = if hk : k.val < 8192 then
        ck (ix5 0 ⟨(a0 (ix2 b ⟨k.val / 128, by omega⟩) : BitVec 32).toNat, hw _⟩ ⟨k.val % 128, by omega⟩ h x)
      else kn (ix3 b ⟨k.val - 8192, by omega⟩ ⟨h.val * 64 + x.val, by omega⟩) := by
  rw [allK_old]
  split_ifs with hk
  · exact past_at a0 hw ck b _ _ h x
  · rfl

/-- The reference's score at position `k`, as a function of any number. -/
def eR (a0 : IVec S128x64 32) (q : FVec Ideal S128x8x512 .f32) (keep : FVec Ideal S128x65x8x128 .f32) (kn : FVec Ideal S128x8x512 .f32)
    (ck : FVec Ideal S1x10240x128x8x64 .f32) (b : Fin 128) (i h : Fin 8) (k : ℕ) : EReal :=
  if hk : k < 8200 then scores q (allK a0 ck kn) (valid keep) (ix4 b i h ⟨k, hk⟩) else ⊥

/-- The reference's value at position `k`, as a function of any number. -/
def wR (a0 : IVec S128x64 32) (vn : FVec Ideal S128x8x512 .f32) (cv : FVec Ideal S1x10240x128x8x64 .f32) (b : Fin 128) (h : Fin 8) (d : Fin 64)
    (k : ℕ) : EReal :=
  if hk : k < 8200 then allK a0 cv vn (ix4 b ⟨k, hk⟩ h d) else 0

theorem sel_dec (p : Prop) [Decidable p] (x y : EReal) : Scalar.select (BitVec.ofBool (decide p)) x y = if p then x else y := by
  by_cases h : p
  · rw [decide_eq_true h, if_pos h]
    rfl
  · rw [decide_eq_false h, if_neg h]
    rfl

theorem eR_old (hw : ∀ i, (a0 i : BitVec 32).toNat < 10240) (b : Fin 128) (i h : Fin 8) (p : Fin 64) (c : Fin 128) :
    eR a0 q keep kn ck b i h (p.val * 128 + c.val) = if half < keep (ix4 b ⟨p.val, by omega⟩ i c) then
      ∑ x : Fin 64, q (ix3 b i ⟨h.val * 64 + x.val, by omega⟩) * ck (ix5 0 ⟨(a0 (ix2 b p) : BitVec 32).toNat, hw _⟩ c h x) else ⊥ := by
  have h1 : (p.val * 128 + c.val) / 128 = p.val := by omega
  have h2 : (p.val * 128 + c.val) % 128 = c.val := by omega
  unfold eR
  rw [dif_pos (by omega), scores_at, valid_at, sel_dec]
  simp only [h1, h2]
  refine if_congr Iff.rfl (Finset.sum_congr rfl fun x _ => ?_) rfl
  rw [all_at hw, dif_pos (by show p.val * 128 + c.val < 8192; omega), mul_comm]
  simp only [h1, h2]

theorem eR_new (hw : ∀ i, (a0 i : BitVec 32).toNat < 10240) (b : Fin 128) (i h : Fin 8) (j : Fin 8) :
    eR a0 q keep kn ck b i h (8192 + j.val) = if half < keep (ix4 b 64 i ⟨j.val, by omega⟩) then
      ∑ x : Fin 64, q (ix3 b i ⟨h.val * 64 + x.val, by omega⟩) * kn (ix3 b j ⟨h.val * 64 + x.val, by omega⟩) else ⊥ := by
  have h1 : (8192 + j.val) / 128 = 64 := by omega
  have h2 : (8192 + j.val) % 128 = j.val := by omega
  have h3 : 8192 + j.val - 8192 = j.val := by omega
  unfold eR
  rw [dif_pos (by omega), scores_at, valid_at, sel_dec]
  simp only [h1, h2]
  refine if_congr Iff.rfl (Finset.sum_congr rfl fun x _ => ?_) rfl
  rw [all_at hw, dif_neg (by show ¬ (8192 + j.val < 8192); omega), mul_comm]
  simp only [h3]

theorem wR_old (hw : ∀ i, (a0 i : BitVec 32).toNat < 10240) (b : Fin 128) (h : Fin 8) (d : Fin 64) (p : Fin 64) (c : Fin 128) :
    wR a0 vn cv b h d (p.val * 128 + c.val) = cv (ix5 0 ⟨(a0 (ix2 b p) : BitVec 32).toNat, hw _⟩ c h d) := by
  have h1 : (p.val * 128 + c.val) / 128 = p.val := by omega
  have h2 : (p.val * 128 + c.val) % 128 = c.val := by omega
  unfold wR
  rw [dif_pos (by omega), all_at hw, dif_pos (by show p.val * 128 + c.val < 8192; omega)]
  simp only [h1, h2]

theorem wR_new (hw : ∀ i, (a0 i : BitVec 32).toNat < 10240) (b : Fin 128) (h : Fin 8) (d : Fin 64) (j : Fin 8) :
    wR a0 vn cv b h d (8192 + j.val) = vn (ix3 b j ⟨h.val * 64 + d.val, by omega⟩) := by
  have h3 : 8192 + j.val - 8192 = j.val := by omega
  unfold wR
  rw [dif_pos (by omega), all_at hw, dif_neg (by show ¬ (8192 + j.val < 8192); omega)]
  simp only [h3]

theorem SS_eq (hw : ∀ i, (a0 i : BitVec 32).toNat < 10240) (b : Fin 128) (i h : Fin 8) (r : Fin 64) (hr : r.val / 8 = h.val) (hm : r.val % 8 = i.val)
    (k : ℕ) (n : Fin 1024) :
    SS a0 hw q keep ck b r k n = if h.val = n.val % 8 then eR a0 q keep kn ck b i h (k % 64 * 128 + n.val / 8) else ⊥ := by
  unfold SS PS
  have e := eR_old (q := q) (keep := keep) (kn := kn) (ck := ck) hw b i h ⟨k % 64, by omega⟩ ⟨n.val / 8, by omega⟩
  rw [e]
  simp only [hr, hm]
  by_cases hh : h.val = n.val % 8
  · simp only [hh, and_true, if_true]
    have e1 : (⟨n.val % 8, by omega⟩ : Fin 8) = h := Fin.ext hh.symm
    rw [e1]
  · simp only [hh, and_false, if_false]

theorem NS_eq (hw : ∀ i, (a0 i : BitVec 32).toNat < 10240) (b : Fin 128) (i h : Fin 8) (r : Fin 64) (hr : r.val / 8 = h.val) (hm : r.val % 8 = i.val)
    (n : Fin 64) :
    NS q keep kn b r n = if h.val = n.val / 8 then eR a0 q keep kn ck b i h (8192 + n.val % 8) else ⊥ := by
  unfold NS
  have e := eR_new (q := q) (keep := keep) (kn := kn) (ck := ck) hw b i h ⟨n.val % 8, by omega⟩
  rw [e]
  simp only [hr, hm]
  by_cases hh : h.val = n.val / 8
  · simp only [hh, and_true, if_true]
  · simp only [hh, and_false, if_false]

theorem VV_eq (hw : ∀ i, (a0 i : BitVec 32).toNat < 10240) (b : Fin 128) (h : Fin 8) (d : Fin 64) (k : ℕ) (n : Fin 1024) (hh : h.val = n.val % 8) :
    VV a0 hw cv b d k n = wR a0 vn cv b h d (k % 64 * 128 + n.val / 8) := by
  unfold VV PV
  have e := wR_old vn cv hw b h d ⟨k % 64, by omega⟩ ⟨n.val / 8, by omega⟩
  rw [e]
  have e1 : (⟨n.val % 8, by omega⟩ : Fin 8) = h := Fin.ext hh.symm
  rw [e1]

theorem NV_eq (hw : ∀ i, (a0 i : BitVec 32).toNat < 10240) (b : Fin 128) (h : Fin 8) (d : Fin 64) (n : Fin 64) (hh : h.val = n.val / 8) :
    NV vn b n d = wR a0 vn cv b h d (8192 + n.val % 8) := by
  unfold NV
  have e := wR_new vn cv hw b h d ⟨n.val % 8, by omega⟩
  rw [e]
  simp only [hh]

theorem eR_ne_top (hg : Good a0 q keep kn ck) (b : Fin 128) (i h : Fin 8) (k : ℕ) : eR a0 q keep kn ck b i h k ≠ ⊤ := by
  by_cases hk : k < 8200
  · by_cases hk' : k < 8192
    · have e := eR_old (q := q) (keep := keep) (kn := kn) (ck := ck) hg.pages b i h ⟨k / 128, by omega⟩ ⟨k % 128, by omega⟩
      have hk2 : k / 128 * 128 + k % 128 = k := by omega
      simp only [hk2] at e
      rw [e]
      split_ifs
      · exact (sum_ne_top _ _ fun x _ => mul_fin (hg.q_fin _) (hg.ck_fin _)).1
      · decide
    · have e := eR_new (q := q) (keep := keep) (kn := kn) (ck := ck) hg.pages b i h ⟨k - 8192, by omega⟩
      have hk2 : 8192 + (k - 8192) = k := by omega
      simp only [hk2] at e
      rw [e]
      split_ifs
      · exact (sum_ne_top _ _ fun x _ => mul_fin (hg.q_fin _) (hg.kn_fin _)).1
      · decide
  · unfold eR
    rw [dif_neg hk]
    decide

theorem eR_some (hg : Good a0 q keep kn ck) (b : Fin 128) (i h : Fin 8) : ∃ k : Fin 8200, eR a0 q keep kn ck b i h k.val ≠ ⊥ := by
  rcases hg.some b i with ⟨p, c, hpc⟩ | ⟨j, hj⟩
  · refine ⟨⟨p.val * 128 + c.val, by omega⟩, ?_⟩
    rw [eR_old hg.pages b i h p c, if_pos hpc]
    exact (sum_ne_top _ _ fun x _ => mul_fin (hg.q_fin _) (hg.ck_fin _)).2
  · refine ⟨⟨8192 + j.val, by omega⟩, ?_⟩
    rw [eR_new hg.pages b i h j, if_pos hj]
    exact (sum_ne_top _ _ fun x _ => mul_fin (hg.q_fin _) (hg.kn_fin _)).2

theorem res_match (hg : Good a0 q keep kn ck) : resK a0 hg.pages q keep kn vn ck cv = resR a0 q keep kn vn ck cv := by
  funext j
  idx_vars j
  have h1 := j1.2
  have h2 := j2.2
  set h : Fin 8 := ⟨j2.val / 64, by omega⟩ with hh
  set d : Fin 64 := ⟨j2.val % 64, by omega⟩ with hd
  set r : Fin 64 := ⟨j2.val / 64 * 8 + j1.val, by omega⟩ with hr
  have hr1 : r.val / 8 = h.val := by show (j2.val / 64 * 8 + j1.val) / 8 = j2.val / 64; omega
  have hr2 : r.val % 8 = j1.val := by show (j2.val / 64 * 8 + j1.val) % 8 = j1.val; omega
  have hS := SS_eq (q := q) (keep := keep) (kn := kn) (ck := ck) hg.pages j0 j1 h r hr1 hr2
  have hs := NS_eq (q := q) (keep := keep) (kn := kn) (ck := ck) hg.pages j0 j1 h r hr1 hr2
  have hV := VV_eq vn cv hg.pages j0 h d
  have hv := NV_eq vn cv hg.pages j0 h d
  have ht : topS a0 hg.pages q keep kn ck j0 r = Finset.univ.sup fun k : Fin 8200 => eR a0 q keep kn ck j0 j1 h k.val :=
    gather_top h (eR a0 q keep kn ck j0 j1 h) _ _ hS hs
  have hA : sumV a0 hg.pages q keep kn vn ck cv j0 r d = _ :=
    gather_sum h (eR a0 q keep kn ck j0 j1 h) (wR a0 vn cv j0 h d) _ _ _ _ hS hV hs hv (topS a0 hg.pages q keep kn ck j0 r)
  have hW : sumW a0 hg.pages q keep kn ck j0 r = _ :=
    gather_sum h (eR a0 q keep kn ck j0 j1 h) (fun _ => 1) _ _ _ _ hS (fun _ _ _ => rfl) hs (fun _ _ => rfl) (topS a0 hg.pages q keep kn ck j0 r)
  simp only [mul_one] at hW
  have hL : resK a0 hg.pages q keep kn vn ck cv (ix3 j0 j1 j2) = Ideal.div (sumV a0 hg.pages q keep kn vn ck cv j0 r d) (sumW a0 hg.pages q keep kn ck j0 r) := rfl
  rw [hL, hA, hW, quotient (fun k : Fin 8200 => eR a0 q keep kn ck j0 j1 h k.val) (fun k : Fin 8200 => wR a0 vn cv j0 h d k.val)
    (fun k => eR_ne_top hg _ _ _ _) (eR_some hg _ _ _) ht]
  unfold resR
  rw [mix_at]
  have he : ∀ k : Fin 8200, eR a0 q keep kn ck j0 j1 h k.val = scores q (allK a0 ck kn) (valid keep) (ix4 j0 j1 h k) := fun k => dif_pos k.2
  have hwk : ∀ k : Fin 8200, wR a0 vn cv j0 h d k.val = allK a0 cv vn (ix4 j0 k h d) := fun k => dif_pos k.2
  have htop : topS a0 hg.pages q keep kn ck j0 r = tops (scores q (allK a0 ck kn) (valid keep)) (ix3 j0 j1 h) := by
    rw [ht, tops_at]
    exact Finset.sup_congr rfl fun k _ => he k
  refine Finset.sum_congr rfl fun k _ => ?_
  rw [mul_comm]
  refine congrArg₂ (· * ·) (hwk k) ?_
  rw [probs_at, exps_at, htop]
  refine congrArg₂ Ideal.div (by rw [he]) (Finset.sum_congr rfl fun k _ => ?_)
  rw [exps_at, he]

end Cert.KernelIdeal.Att
-- ==== Proof.Alg.lean ====
module
public import proofs.«01_k».proof.Proof.Match
public import proofs.«01_k».proof.Proof.Frames
@[expose] public section
noncomputable section
namespace Cert.Proof
open Idealize.ShloMosaic Idealize.SL.Sem Cert.KernelIdeal.Att

/-- The kernel and the reference leave the same result. -/
theorem algebraic : Cert.algebraic_KernelIdeal_ReferenceIdeal_pre_pre := by
  intro m g m' g' hp hm
  have hO := ok_of_pre_pre m hp
  have hg := good_of_pre m hp
  refine ⟨fun c => resK _ (hg c).pages (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · refine (θ_run _ _ _).mono (fun r h c => ⟨?_, h.1 c⟩)
      (θ_run_and (Cert.KernelIdeal.Gen.unchanged m g hO) (Cert.KernelIdeal.Gen.run_main m g hO))
    exact ((h.2 c).1 13).trans (out_eq m c hO (hg c))
  · refine (θ_run _ _ _).mono (fun r h c => ⟨(h c).1.trans ?_, (h c).2⟩) (Cert.ReferenceIdeal.Value.run m' g')
    obtain ⟨e0, e1, e2, e3, e4, e5, e6⟩ := hm c
    refine (Cert.ReferenceIdeal.Att.res_eq m' c).trans ?_
    rw [e0, e1, e2, e3, e4, e5, e6]
    exact (res_match _ _ (hg c)).symm

end Cert.Proof
-- ==== Proof.Stage.lean ====
module
public import Idealize.ShloMosaic.Lib.Pointwise
@[expose] public section
noncomputable section
/-!
The output stage over the extended reals: the two branches joined, the norm, the up-projection, the causal convolution
of width three, the gated unit, the down-projection and the final norm.
-/
namespace Cert.Stage
open Idealize.ShloMosaic

/-- The arrays that the stage is given. -/
structure Args where
  x : Fin 32 → Fin 2048 → Fin 1024 → EReal
  pa : Fin 32 → Fin 2048 → Fin 1024 → EReal
  gb : Fin 32 → Fin 2048 → Fin 1024 → EReal
  att : Fin 32 → Fin 2048 → Fin 512 → EReal
  wao : Fin 512 → Fin 1024 → EReal
  wout : Fin 1024 → Fin 1024 → EReal
  g2 : Fin 1024 → EReal
  wup : Fin 1024 → Fin 5632 → EReal
  cw : Fin 3 → Fin 5632 → EReal
  cb : Fin 5632 → EReal
  wdn : Fin 2816 → Fin 1024 → EReal
  gf : Fin 1024 → EReal

/-- The norm of a row by its mean square, scaled. -/
def rms (v g : Fin 1024 → EReal) (d : Fin 1024) : EReal :=
  v d * Ideal.rsqrt (Ideal.div (∑ x, v x * v x) (Ideal.ofBits FTy.f32 1149239296#32) + Ideal.ofBits FTy.f32 897988541#32) * g d

/-- The gated unit of a gate and a value. -/
def unit (g v : EReal) : EReal :=
  Ideal.ofBits .f32 0x3F000000#32 * g
    * (1 + Ideal.tanh (Ideal.ofBits FTy.f32 1061962282#32 * (g + Ideal.ofBits .f32 0x3D372713#32 * (g * g * g)))) * v

variable (A : Args)

/-- A row after the branches are joined. -/
def x1 (b : Fin 32) (l : Fin 2048) (d : Fin 1024) : EReal :=
  A.x b l d + ∑ k, (A.pa b l k + A.gb b l k * ∑ e, A.att b l e * A.wao e k) * A.wout k d

/-- A row after the up-projection. -/
def u (b : Fin 32) (l : Fin 2048) (c : Fin 5632) : EReal :=
  ∑ k, rms (x1 A b l) A.g2 k * A.wup k c

/-- The row `k` before row `l`, zero before the first. -/
def prev (b : Fin 32) (l : Fin 2048) (k : ℕ) (c : Fin 5632) : EReal :=
  if k ≤ l.val then u A b ⟨l.val - k, by omega⟩ c else 0

/-- The convolution. -/
def conv (b : Fin 32) (l : Fin 2048) (c : Fin 5632) : EReal :=
  A.cb c + A.cw 0 c * prev A b l 2 c + A.cw 1 c * prev A b l 1 c + A.cw 2 c * u A b l c

/-- The gated unit's column `k`. -/
def act (b : Fin 32) (l : Fin 2048) (k : Fin 2816) : EReal :=
  unit (conv A b l ⟨k.val, by omega⟩) (conv A b l ⟨2816 + k.val, by omega⟩)

/-- A row after the down-projection is added. -/
def x2 (b : Fin 32) (l : Fin 2048) (d : Fin 1024) : EReal :=
  x1 A b l d + ∑ k, act A b l k * A.wdn k d

/-- The result. -/
def y (b : Fin 32) (l : Fin 2048) (d : Fin 1024) : EReal := rms (x2 A b l) A.gf d

/-- A sum cut in runs of equal length. -/
theorem sum_runs (n k : ℕ) (f : Fin (n * k) → EReal) (h : ∀ (i : Fin n) (j : Fin k), i.val * k + j.val < n * k) :
    ∑ x, f x = ∑ i : Fin n, ∑ j : Fin k, f ⟨i.val * k + j.val, h i j⟩ := by
  rw [← finProdFinEquiv.sum_comp, Fintype.sum_prod_type]
  refine Finset.sum_congr rfl fun i _ => Finset.sum_congr rfl fun j _ => congrArg f (Fin.ext ?_)
  show j.val + k * i.val = _
  rw [mul_comm, add_comm]

end Cert.Stage
-- ==== Proof.Body2.lean ====
module
public import proofs.«01_k».proof.Proof.Gen.Kernel2Ideal.Value
public import proofs.«01_k».proof.Proof.Stage
public import Idealize.ShloMosaic.Lib.Pipeline.ValueKit
public import Idealize.ShloMosaic.Lib.Pointwise
public import Idealize.ShloMosaic.Lib.Pipeline.ReadBack
@[expose] public section
set_option maxRecDepth 16384
noncomputable section
/-!
The body of the output stage in uniform steps over the column blocks of the up-projection.
-/
namespace Cert.Kernel2Ideal.Out
open Idealize.ShloMosaic Idealize.ShloMosaic.TcCoe Idealize.SL Idealize.SL.Sem Cert.Kernel2Ideal.Gen

theorem inbW (o : ℕ) (h : o + 256 ≤ 5632) (a : Fin S1024x5632.rank) :
    (![0, o] : Fin 2 → ℕ) a + (![1024, 256] : Fin 2 → ℕ) a ≤ S1024x5632.size a := by
  match a with
  | ⟨0, _⟩ => exact Nat.le_refl _
  | ⟨1, _⟩ => exact h
theorem inbC (o : ℕ) (h : o + 256 ≤ 5632) (a : Fin S3x5632.rank) :
    (![0, o] : Fin 2 → ℕ) a + (![3, 256] : Fin 2 → ℕ) a ≤ S3x5632.size a := by
  match a with
  | ⟨0, _⟩ => exact Nat.le_refl _
  | ⟨1, _⟩ => exact h
theorem inbB (o : ℕ) (h : o + 256 ≤ 5632) (a : Fin S1x5632.rank) :
    (![0, o] : Fin 2 → ℕ) a + (![1, 256] : Fin 2 → ℕ) a ≤ S1x5632.size a := by
  match a with
  | ⟨0, _⟩ => exact Nat.le_refl _
  | ⟨1, _⟩ => exact h
theorem inbP (o : ℕ) (h : o + 256 ≤ 5632) (a : Fin S1x8x5632.rank) :
    (![0, 0, o] : Fin 3 → ℕ) a + (![1, 8, 256] : Fin 3 → ℕ) a ≤ S1x8x5632.size a := by
  match a with
  | ⟨0, _⟩ => exact Nat.le_refl _
  | ⟨1, _⟩ => exact Nat.le_refl _
  | ⟨2, _⟩ => exact h
theorem inbD (o : ℕ) (h : o + 256 ≤ 2816) (a : Fin S2816x1024.rank) :
    (![o, 0] : Fin 2 → ℕ) a + (![256, 1024] : Fin 2 → ℕ) a ≤ S2816x1024.size a := by
  match a with
  | ⟨0, _⟩ => exact h
  | ⟨1, _⟩ => exact Nat.le_refl _

def ldW (x : Vec Ideal S1024x5632 .bf16) (o : ℕ) (h : o + 256 ≤ 5632) : Vec Ideal S1024x256 .bf16 :=
  View.ld x (Rect.unit ![0, o] ![1024, 256] (inbW o h))
def ldC (x : Vec Ideal S3x5632 .f32) (o : ℕ) (h : o + 256 ≤ 5632) : Vec Ideal S3x256 .f32 :=
  View.ld x (Rect.unit ![0, o] ![3, 256] (inbC o h))
def ldB (x : Vec Ideal S1x5632 .f32) (o : ℕ) (h : o + 256 ≤ 5632) : Vec Ideal S1x256 .f32 :=
  View.ld x (Rect.unit ![0, o] ![1, 256] (inbB o h))
def ldP (x : Vec Ideal S1x8x5632 .f32) (o : ℕ) (h : o + 256 ≤ 5632) : Vec Ideal S1x8x256 .f32 :=
  View.ld x (Rect.unit ![0, 0, o] ![1, 8, 256] (inbP o h))
def ldD (x : Vec Ideal S2816x1024 .bf16) (o : ℕ) (h : o + 256 ≤ 2816) : Vec Ideal S256x1024 .bf16 :=
  View.ld x (Rect.unit ![o, 0] ![256, 1024] (inbD o h))

theorem ldW_at (x : Vec Ideal S1024x5632 .bf16) (o : ℕ) (h : o + 256 ≤ 5632) (k : Fin 1024) (c : Fin 256) :
    ldW x o h (ix2 k c) = x (ix2 k ⟨o + c.val, by omega⟩) := by
  unfold ldW
  pointwise []
theorem ldC_at (x : Vec Ideal S3x5632 .f32) (o : ℕ) (h : o + 256 ≤ 5632) (k : Fin 3) (c : Fin 256) :
    ldC x o h (ix2 k c) = x (ix2 k ⟨o + c.val, by omega⟩) := by
  unfold ldC
  pointwise []
theorem ldB_at (x : Vec Ideal S1x5632 .f32) (o : ℕ) (h : o + 256 ≤ 5632) (c : Fin 256) :
    ldB x o h (ix2 0 c) = x (ix2 0 ⟨o + c.val, by omega⟩) := by
  unfold ldB
  pointwise []
theorem ldP_at (x : Vec Ideal S1x8x5632 .f32) (o : ℕ) (h : o + 256 ≤ 5632) (k : Fin 8) (c : Fin 256) :
    ldP x o h (ix3 0 k c) = x (ix3 0 k ⟨o + c.val, by omega⟩) := by
  unfold ldP
  pointwise []
theorem ldD_at (x : Vec Ideal S2816x1024 .bf16) (o : ℕ) (h : o + 256 ≤ 2816) (k : Fin 256) (c : Fin 1024) :
    ldD x o h (ix2 k c) = x (ix2 ⟨o + k.val, by omega⟩ c) := by
  unfold ldD
  pointwise []

/-- A column block of the convolution, with the rows `P` before it. -/
def cv (H : FVec Ideal S256x1024 .bf16) (P : Vec Ideal S1x8x5632 .f32) (x8 : Vec Ideal S1024x5632 .bf16)
    (x9 : Vec Ideal S3x5632 .f32) (x10 : Vec Ideal S1x5632 .f32) (o : ℕ) (h : o + 256 ≤ 5632) : FVec Ideal S256x256 .f32 :=
  k0_pay17 (F := Ideal) H (ldW x8 o h) (ldP P o h) (ldC x9 o h) (ldB x10 o h)

/-- A column block of the last rows of the up-projection. -/
def cn (H : FVec Ideal S256x1024 .bf16) (P : Vec Ideal S1x8x5632 .f32) (x8 : Vec Ideal S1024x5632 .bf16)
    (o : ℕ) (h : o + 256 ≤ 5632) : FVec Ideal S1x8x256 .f32 :=
  k0_pay16 (F := Ideal) H (ldW x8 o h) (ldP P o h)

/-- One block of the gated unit and its part of the down-projection. -/
def stp (f : FVec Ideal S256x1024 .f32) (g v : FVec Ideal S256x256 .f32) (w : Vec Ideal S256x1024 .bf16) : FVec Ideal S256x1024 .f32 :=
  k0_pay21 (F := Ideal) f g v (mulf (broadcast S256x256 (Scalar.ofBits .f32 0x3F000000#32)) g) (mulf (mulf g g) g) (k0_pay20 (F := Ideal)) w

/-- The sum of the first `n` blocks. -/
def fsum (H : FVec Ideal S256x1024 .bf16) (P : Vec Ideal S1x8x5632 .f32) (x8 : Vec Ideal S1024x5632 .bf16)
    (x9 : Vec Ideal S3x5632 .f32) (x10 : Vec Ideal S1x5632 .f32) (x11 : Vec Ideal S2816x1024 .bf16) :
    (n : ℕ) → n ≤ 11 → FVec Ideal S256x1024 .f32
  | 0, _ => k0_pay6 (F := Ideal)
  | n + 1, h => stp (fsum H P x8 x9 x10 x11 n (by omega)) (cv H P x8 x9 x10 (256 * n) (by omega))
      (cv H P x8 x9 x10 (2816 + 256 * n) (by omega)) (ldD x11 (256 * n) (by omega))

theorem stp_at (f : FVec Ideal S256x1024 .f32) (g v : FVec Ideal S256x256 .f32) (w : Vec Ideal S256x1024 .bf16) (t : Fin 256) (d : Fin 1024) :
    stp f g v w (ix2 t d) = (f (ix2 t d) + ∑ x : Fin 256, Cert.Stage.unit (g (ix2 t x)) (v (ix2 t x)) * w (ix2 x d) : EReal) := by
  unfold Cert.Stage.unit
  pointwise [stp, k0_pay21, k0_pay20]

/-- A row before a tile's row or the tile's row itself. -/
def ext (U : Fin 256 → EReal) (P : Fin 8 → EReal) (p : ℕ) (h : p < 264) : EReal :=
  if h8 : p < 8 then P ⟨p, h8⟩ else U ⟨p - 8, by omega⟩

theorem cv_at (H : FVec Ideal S256x1024 .bf16) (P : Vec Ideal S1x8x5632 .f32) (x8 : Vec Ideal S1024x5632 .bf16)
    (x9 : Vec Ideal S3x5632 .f32) (x10 : Vec Ideal S1x5632 .f32) (o : ℕ) (h : o + 256 ≤ 5632) (t c : Fin 256) :
    cv H P x8 x9 x10 o h (ix2 t c) = (x10 (ix2 0 ⟨o + c.val, by omega⟩)
      + x9 (ix2 0 ⟨o + c.val, by omega⟩) * ext (fun s => ∑ k : Fin 1024, H (ix2 s k) * x8 (ix2 k ⟨o + c.val, by omega⟩)) (fun p => P (ix3 0 p ⟨o + c.val, by omega⟩)) (t.val + 6) (by omega)
      + x9 (ix2 1 ⟨o + c.val, by omega⟩) * ext (fun s => ∑ k : Fin 1024, H (ix2 s k) * x8 (ix2 k ⟨o + c.val, by omega⟩)) (fun p => P (ix3 0 p ⟨o + c.val, by omega⟩)) (t.val + 7) (by omega)
      + x9 (ix2 2 ⟨o + c.val, by omega⟩) * ∑ k : Fin 1024, H (ix2 t k) * x8 (ix2 k ⟨o + c.val, by omega⟩) : EReal) := by
  pointwise [cv, k0_pay17, k0_pay15, k0_pay14]
  have e2 : (8 + t.val + 264 - 2) % 264 = t.val + 6 := by omega
  have e1 : (8 + t.val + 264 - 1) % 264 = t.val + 7 := by omega
  simp only [ldW_at, ldC_at, ldB_at, ldP_at, ext, e1, e2]

theorem cn_at (H : FVec Ideal S256x1024 .bf16) (P : Vec Ideal S1x8x5632 .f32) (x8 : Vec Ideal S1024x5632 .bf16)
    (o : ℕ) (h : o + 256 ≤ 5632) (a : Fin 8) (c : Fin 256) :
    cn H P x8 o h (ix3 0 a c) = (∑ k : Fin 1024, H (ix2 ⟨248 + a.val, by omega⟩ k) * x8 (ix2 k ⟨o + c.val, by omega⟩) : EReal) := by
  pointwise [cn, k0_pay16, k0_pay15, k0_pay14]
  rw [dif_neg (by omega)]
  have e : 256 + a.val - 8 = 248 + a.val := by omega
  simp only [ldW_at, e]

end Cert.Kernel2Ideal.Out
-- ==== Proof.Case2.lean ====
module
public import proofs.«01_k».proof.Proof.Body2
@[expose] public section
set_option maxRecDepth 16384
noncomputable section
/-!
What each case of the output stage leaves, as the uniform steps.
-/
namespace Cert.Kernel2Ideal.Out
open Idealize.ShloMosaic Idealize.ShloMosaic.TcCoe Idealize.SL Idealize.SL.Sem Cert.Kernel2Ideal.Gen
variable {c : Dev nD} {i : grid0.Coords} {arg2 : Memref sig .tc .vmem S1x256x1024 .f32} {harg2 : arg2.IsWhole} {arg3 : Memref sig .tc .vmem S1x256x1024 .bf16} {harg3 : arg3.IsWhole} {arg4 : Memref sig .tc .vmem S1x256x1024 .bf16} {harg4 : arg4.IsWhole} {arg5 : Memref sig .tc .vmem S1x256x512 .f32} {harg5 : arg5.IsWhole} {arg6 : Memref sig .tc .vmem S1x8x5632 .f32} {harg6 : arg6.IsWhole} {arg7 : Memref sig .tc .vmem S512x1024 .bf16} {harg7 : arg7.IsWhole} {arg8 : Memref sig .tc .vmem S1024x1024 .bf16} {harg8 : arg8.IsWhole} {arg9 : Memref sig .tc .vmem S1x1024 .f32} {harg9 : arg9.IsWhole} {arg10 : Memref sig .tc .vmem S1024x5632 .bf16} {harg10 : arg10.IsWhole} {arg11 : Memref sig .tc .vmem S3x5632 .f32} {harg11 : arg11.IsWhole} {arg12 : Memref sig .tc .vmem S1x5632 .f32} {harg12 : arg12.IsWhole} {arg13 : Memref sig .tc .vmem S2816x1024 .bf16} {harg13 : arg13.IsWhole} {arg14 : Memref sig .tc .vmem S1x1024 .f32} {harg14 : arg14.IsWhole} {arg15 : Memref sig .tc .vmem S1x256x1024 .f32} {harg15 : arg15.IsWhole} {arg16 : Memref sig .tc .vmem S1x8x5632 .f32} {harg16 : arg16.IsWhole} {arg17 : Memref sig .tc .vmem S1x8x5632 .f32} {harg17 : arg17.IsWhole} {hc0 : cond0_0 i} {hB : ¬cond0_0 i} {x0 : Vec Ideal S1x256x1024 .f32} {x1 : Vec Ideal S1x256x1024 .bf16} {x2 : Vec Ideal S1x256x1024 .bf16} {x3 : Vec Ideal S1x256x512 .f32} {x4 : Vec Ideal S1x8x5632 .f32} {x5 : Vec Ideal S512x1024 .bf16} {x6 : Vec Ideal S1024x1024 .bf16} {x7 : Vec Ideal S1x1024 .f32} {x8 : Vec Ideal S1024x5632 .bf16} {x9 : Vec Ideal S3x5632 .f32} {x10 : Vec Ideal S1x5632 .f32} {x11 : Vec Ideal S2816x1024 .bf16} {x12 : Vec Ideal S1x1024 .f32} {xs0 : Vec Ideal S1x8x5632 .f32}

set_option maxHeartbeats 2000000 in
theorem A13 :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = k0_pay1 (F := Ideal) (k0_pay2 (F := Ideal) x0 x3 x1 x2 x5 x6) (fsum (k0_pay4 (F := Ideal) (k0_pay3 (F := Ideal) x0 x3 x1 x2 x5 x6 x7)) (k0_pay5 (F := Ideal) x4) x8 x9 x10 x11 11 (Nat.le_refl _)) x12 := by
  frame_open
  simp (config := { decide := true }) only [↓View.readCov_skip, ↓View.readCov_fill]
  frame_out
  rfl
set_option maxHeartbeats 2000000 in
theorem B13 :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hB x0 x1 x2 x3 x4 x5 x6 x7 x8 x9 x10 x11 x12 xs0 = k0_pay1 (F := Ideal) (k0_pay2 (F := Ideal) x0 x3 x1 x2 x5 x6) (fsum (k0_pay4 (F := Ideal) (k0_pay3 (F := Ideal) x0 x3 x1 x2 x5 x6 x7)) xs0 x8 x9 x10 x11 11 (Nat.le_refl _)) x12 := by
  frame_out
  rfl
end Cert.Kernel2Ideal.Out
-- ==== Proof.Carry2.lean ====
module
public import proofs.«01_k».proof.Proof.Body2
@[expose] public section
set_option maxRecDepth 16384
noncomputable section
/-!
What each case of the output stage leaves in the carried rows.
-/
namespace Cert.Kernel2Ideal.Out
open Idealize.ShloMosaic Idealize.ShloMosaic.TcCoe Idealize.SL Idealize.SL.Sem Cert.Kernel2Ideal.Gen

/-- The last rows of a tile's up-projection. -/
def last (H : FVec Ideal S256x1024 .bf16) (x8 : Vec Ideal S1024x5632 .bf16) : Vec Ideal S1x8x5632 .f32 :=
  fun i => (∑ k : Fin 1024, H (ix2 ⟨248 + (i 1).val, by have := (i 1).isLt; change (i 1).val < 8 at this; omega⟩ k) * x8 (ix2 k (i 2)) : EReal)

/-- The pieces stored, column block by column block. -/
def pcs (H : FVec Ideal S256x1024 .bf16) (P : Vec Ideal S1x8x5632 .f32) (x8 : Vec Ideal S1024x5632 .bf16) :
    List (View.Piece (Elt Ideal) S1x8x5632 .f32) :=
  [⟨Rect.unit ![0, 0, 5376] ![1, 8, 256] (inbP 5376 (by decide)), cn H P x8 5376 (by decide)⟩,
   ⟨Rect.unit ![0, 0, 2560] ![1, 8, 256] (inbP 2560 (by decide)), cn H P x8 2560 (by decide)⟩,
   ⟨Rect.unit ![0, 0, 5120] ![1, 8, 256] (inbP 5120 (by decide)), cn H P x8 5120 (by decide)⟩,
   ⟨Rect.unit ![0, 0, 2304] ![1, 8, 256] (inbP 2304 (by decide)), cn H P x8 2304 (by decide)⟩,
   ⟨Rect.unit ![0, 0, 4864] ![1, 8, 256] (inbP 4864 (by decide)), cn H P x8 4864 (by decide)⟩,
   ⟨Rect.unit ![0, 0, 2048] ![1, 8, 256] (inbP 2048 (by decide)), cn H P x8 2048 (by decide)⟩,
   ⟨Rect.unit ![0, 0, 4608] ![1, 8, 256] (inbP 4608 (by decide)), cn H P x8 4608 (by decide)⟩,
   ⟨Rect.unit ![0, 0, 1792] ![1, 8, 256] (inbP 1792 (by decide)), cn H P x8 1792 (by decide)⟩,
   ⟨Rect.unit ![0, 0, 4352] ![1, 8, 256] (inbP 4352 (by decide)), cn H P x8 4352 (by decide)⟩,
   ⟨Rect.unit ![0, 0, 1536] ![1, 8, 256] (inbP 1536 (by decide)), cn H P x8 1536 (by decide)⟩,
   ⟨Rect.unit ![0, 0, 4096] ![1, 8, 256] (inbP 4096 (by decide)), cn H P x8 4096 (by decide)⟩,
   ⟨Rect.unit ![0, 0, 1280] ![1, 8, 256] (inbP 1280 (by decide)), cn H P x8 1280 (by decide)⟩,
   ⟨Rect.unit ![0, 0, 3840] ![1, 8, 256] (inbP 3840 (by decide)), cn H P x8 3840 (by decide)⟩,
   ⟨Rect.unit ![0, 0, 1024] ![1, 8, 256] (inbP 1024 (by decide)), cn H P x8 1024 (by decide)⟩,
   ⟨Rect.unit ![0, 0, 3584] ![1, 8, 256] (inbP 3584 (by decide)), cn H P x8 3584 (by decide)⟩,
   ⟨Rect.unit ![0, 0, 768] ![1, 8, 256] (inbP 768 (by decide)), cn H P x8 768 (by decide)⟩,
   ⟨Rect.unit ![0, 0, 3328] ![1, 8, 256] (inbP 3328 (by decide)), cn H P x8 3328 (by decide)⟩,
   ⟨Rect.unit ![0, 0, 512] ![1, 8, 256] (inbP 512 (by decide)), cn H P x8 512 (by decide)⟩,
   ⟨Rect.unit ![0, 0, 3072] ![1, 8, 256] (inbP 3072 (by decide)), cn H P x8 3072 (by decide)⟩,
   ⟨Rect.unit ![0, 0, 256] ![1, 8, 256] (inbP 256 (by decide)), cn H P x8 256 (by decide)⟩,
   ⟨Rect.unit ![0, 0, 2816] ![1, 8, 256] (inbP 2816 (by decide)), cn H P x8 2816 (by decide)⟩,
   ⟨Rect.unit ![0, 0, 0] ![1, 8, 256] (inbP 0 (by decide)), cn H P x8 0 (by decide)⟩]

theorem pc_ok (H : FVec Ideal S256x1024 .bf16) (P : Vec Ideal S1x8x5632 .f32) (x8 : Vec Ideal S1024x5632 .bf16)
    (o : ℕ) (h : o + 256 ≤ 5632) (x : (Rect.unit (s := S1x8x5632) ![0, 0, o] ![1, 8, 256] (inbP o h)).shape.Idx) :
    cn H P x8 o h x = last H x8 ((Rect.unit (s := S1x8x5632) ![0, 0, o] ![1, 8, 256] (inbP o h)).emb x) := by
  have e : x = ix3 0 (x 1) (x 2) := by
    funext a
    match a with
    | ⟨0, _⟩ => exact Subsingleton.elim (α := Fin 1) _ _
    | ⟨1, _⟩ => rfl
    | ⟨2, _⟩ => rfl
  have e1 : ((Rect.unit (s := S1x8x5632) ![0, 0, o] ![1, 8, 256] (inbP o h)).emb x) 1 = x 1 := by
    apply Fin.ext
    change 0 + 1 * (x 1).val = (x 1).val
    omega
  have e2 : ((Rect.unit (s := S1x8x5632) ![0, 0, o] ![1, 8, 256] (inbP o h)).emb x) 2 = (⟨o + (x 2).val, by have := (x 2).isLt; change (x 2).val < 256 at this; omega⟩ : Fin 5632) := by
    apply Fin.ext
    change o + 1 * (x 2).val = o + (x 2).val
    omega
  conv_lhs => rw [e]
  refine (cn_at H P x8 o h (x 1) (x 2)).trans ?_
  unfold last
  simp only [e1, e2]

theorem rd (f g : Vec Ideal S1x8x5632 .f32) (h : f = g) :
    (fun j => f ((Rect.unit (s := S1x8x5632) ![0, 0, 0] ![1, 8, 5632] inb_S1x8x5632_S1x8x5632_0_0_0).toLoadRect.idx j)) = g := by
  subst h
  funext j
  refine congrArg f ?_
  funext a
  apply Fin.ext
  match a with
  | ⟨0, _⟩ => change 0 + 1 * (j 0).val = (j 0).val; omega
  | ⟨1, _⟩ => change 0 + 1 * (j 1).val = (j 1).val; omega
  | ⟨2, _⟩ => change 0 + 1 * (j 2).val = (j 2).val; omega

set_option maxHeartbeats 1000000 in
theorem canL (H : FVec Ideal S256x1024 .bf16) (P : Vec Ideal S1x8x5632 .f32) (x8 : Vec Ideal S1024x5632 .bf16)
    (L' : List (View.Piece (Elt Ideal) S1x8x5632 .f32)) : View.canon (pcs H P x8 ++ L') = last H x8 := by
  funext y
  refine View.canon_append_of_piecesOf (last H x8) L' (pcs H P x8) ?_ y (View.cover_of_tiledL _ ![1, 8, 256] (by sl_kernel_rfl) y)
  exact ⟨pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, pc_ok H P x8 _ _, trivial⟩

variable {c : Dev nD} {i : grid0.Coords} {arg2 : Memref sig .tc .vmem S1x256x1024 .f32} {harg2 : arg2.IsWhole} {arg3 : Memref sig .tc .vmem S1x256x1024 .bf16} {harg3 : arg3.IsWhole} {arg4 : Memref sig .tc .vmem S1x256x1024 .bf16} {harg4 : arg4.IsWhole} {arg5 : Memref sig .tc .vmem S1x256x512 .f32} {harg5 : arg5.IsWhole} {arg6 : Memref sig .tc .vmem S1x8x5632 .f32} {harg6 : arg6.IsWhole} {arg7 : Memref sig .tc .vmem S512x1024 .bf16} {harg7 : arg7.IsWhole} {arg8 : Memref sig .tc .vmem S1024x1024 .bf16} {harg8 : arg8.IsWhole} {arg9 : Memref sig .tc .vmem S1x1024 .f32} {harg9 : arg9.IsWhole} {arg10 : Memref sig .tc .vmem S1024x5632 .bf16} {harg10 : arg10.IsWhole} {arg11 : Memref sig .tc .vmem S3x5632 .f32} {harg11 : arg11.IsWhole} {arg12 : Memref sig .tc .vmem S1x5632 .f32} {harg12 : arg12.IsWhole} {arg13 : Memref sig .tc .vmem S2816x1024 .bf16} {harg13 : arg13.IsWhole} {arg14 : Memref sig .tc .vmem S1x1024 .f32} {harg14 : arg14.IsWhole} {arg15 : Memref sig .tc .vmem S1x256x1024 .f32} {harg15 : arg15.IsWhole} {arg16 : Memref sig .tc .vmem S1x8x5632 .f32} {harg16 : arg16.IsWhole} {arg17 : Memref sig .tc .vmem S1x8x5632 .f32} {harg17 : arg17.IsWhole} {hc0 : cond0_0 i} {hB : ¬cond0_0 i} {x0 : Vec Ideal S1x256x1024 .f32} {x1 : Vec Ideal S1x256x1024 .bf16} {x2 : Vec Ideal S1x256x1024 .bf16} {x3 : Vec Ideal S1x256x512 .f32} {x4 : Vec Ideal S1x8x5632 .f32} {x5 : Vec Ideal S512x1024 .bf16} {x6 : Vec Ideal S1024x1024 .bf16} {x7 : Vec Ideal S1x1024 .f32} {x8 : Vec Ideal S1024x5632 .bf16} {x9 : Vec Ideal S3x5632 .f32} {x10 : Vec Ideal S1x5632 .f32} {x11 : Vec Ideal S2816x1024 .bf16} {x12 : Vec Ideal S1x1024 .f32} {xs0 : Vec Ideal S1x8x5632 .f32}

set_option maxHeartbeats 2000000 in
theorem sA_0 :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = last (k0_pay4 (F := Ideal) (k0_pay3 (F := Ideal) x0 x3 x1 x2 x5 x6 x7)) x8 := by
  frame_open
  simp (config := { decide := true }) only [↓View.readCov_skip, ↓View.readCov_fill]
  frame_out
  exact canL (k0_pay4 (F := Ideal) (k0_pay3 (F := Ideal) x0 x3 x1 x2 x5 x6 x7)) (k0_pay5 (F := Ideal) x4) x8 [⟨Rect.unit ![0, 0, 0] ![1, 8, 5632] inb_S1x8x5632_S1x8x5632_0_0_0, k0_pay5 (F := Ideal) x4⟩]
set_option maxHeartbeats 2000000 in
theorem sB_0 :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hB x0 x1 x2 x3 x4 x5 x6 x7 x8 x9 x10 x11 x12 xs0 = last (k0_pay4 (F := Ideal) (k0_pay3 (F := Ideal) x0 x3 x1 x2 x5 x6 x7)) x8 := by
  frame_out
  exact canL (k0_pay4 (F := Ideal) (k0_pay3 (F := Ideal) x0 x3 x1 x2 x5 x6 x7)) xs0 x8 []
set_option maxHeartbeats 2000000 in
theorem A_14 :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = last (k0_pay4 (F := Ideal) (k0_pay3 (F := Ideal) x0 x3 x1 x2 x5 x6 x7)) x8 := by
  frame_open
  simp (config := { decide := true }) only [↓View.readCov_skip, ↓View.readCov_fill]
  frame_out
  refine (View.readCov_eq_canon' _ _ _).trans (rd _ _ ?_)
  exact canL (k0_pay4 (F := Ideal) (k0_pay3 (F := Ideal) x0 x3 x1 x2 x5 x6 x7)) (k0_pay5 (F := Ideal) x4) x8 [⟨Rect.unit ![0, 0, 0] ![1, 8, 5632] inb_S1x8x5632_S1x8x5632_0_0_0, k0_pay5 (F := Ideal) x4⟩]
set_option maxHeartbeats 2000000 in
theorem B_14 :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hB x0 x1 x2 x3 x4 x5 x6 x7 x8 x9 x10 x11 x12 xs0 = last (k0_pay4 (F := Ideal) (k0_pay3 (F := Ideal) x0 x3 x1 x2 x5 x6 x7)) x8 := by
  frame_out
  refine (View.readCov_eq_canon' _ _ _).trans (rd _ _ ?_)
  exact canL (k0_pay4 (F := Ideal) (k0_pay3 (F := Ideal) x0 x3 x1 x2 x5 x6 x7)) xs0 x8 []
end Cert.Kernel2Ideal.Out
-- ==== Proof.Blk2.lean ====
module
public import proofs.«01_k».proof.Proof.Gen.Kernel2Ideal.Value
public import proofs.«01_k».proof.Proof.Stage
public import Idealize.ShloMosaic.Lib.Pipeline.ValueKit
public import Idealize.ShloMosaic.Lib.Pointwise
public import Idealize.ShloMosaic.Lib.Pipeline.ReadBack
@[expose] public section
set_option maxRecDepth 16384
noncomputable section
/-!
The blocks that a grid point of the output stage reads, in terms of the arguments.
-/
namespace Cert.Kernel2Ideal.Out
open Idealize.ShloMosaic Idealize.ShloMosaic.TcCoe Idealize.SL Idealize.SL.Sem Cert.Kernel2Ideal.Gen

theorem ix_0 : ∀ t : Fin grid0.N, cc0_transform_0 (grid0.coords t) = ![t.val / 8, t.val % 8, 0] := by decide +kernel
theorem ix_1 : ∀ t : Fin grid0.N, cc0_transform_1 (grid0.coords t) = ![t.val / 8, t.val % 8, 0] := by decide +kernel
theorem ix_2 : ∀ t : Fin grid0.N, cc0_transform_2 (grid0.coords t) = ![t.val / 8, t.val % 8, 0] := by decide +kernel
theorem ix_3 : ∀ t : Fin grid0.N, cc0_transform_3 (grid0.coords t) = ![t.val / 8, t.val % 8, 0] := by decide +kernel
theorem ix_13 : ∀ t : Fin grid0.N, cc0_transform_13 (grid0.coords t) = ![t.val / 8, t.val % 8, 0] := by decide +kernel
theorem ix_4 : ∀ t : Fin grid0.N, cc0_transform_4 (grid0.coords t) = ![t.val / 8, 0, 0] := by decide +kernel
theorem ix_5 : ∀ t : Fin grid0.N, cc0_transform_5 (grid0.coords t) = ![0, 0] := by decide +kernel
theorem ix_6 : ∀ t : Fin grid0.N, cc0_transform_6 (grid0.coords t) = ![0, 0] := by decide +kernel
theorem ix_7 : ∀ t : Fin grid0.N, cc0_transform_7 (grid0.coords t) = ![0, 0] := by decide +kernel
theorem ix_8 : ∀ t : Fin grid0.N, cc0_transform_8 (grid0.coords t) = ![0, 0] := by decide +kernel
theorem ix_9 : ∀ t : Fin grid0.N, cc0_transform_9 (grid0.coords t) = ![0, 0] := by decide +kernel
theorem ix_10 : ∀ t : Fin grid0.N, cc0_transform_10 (grid0.coords t) = ![0, 0] := by decide +kernel
theorem ix_11 : ∀ t : Fin grid0.N, cc0_transform_11 (grid0.coords t) = ![0, 0] := by decide +kernel
theorem ix_12 : ∀ t : Fin grid0.N, cc0_transform_12 (grid0.coords t) = ![0, 0] := by decide +kernel

variable (m : (ℓ : Loc nD τ sig) → Buf (Elt Ideal) ℓ)

theorem tN (t : Fin cfg0.N) : t.val < 256 := lt_of_lt_of_eq t.isLt N_0

/-- The arguments as the stage's arrays. -/
def args (c : Dev nD) : Cert.Stage.Args where
  x b l d := (m ((c : Thread nD τ).loc main_arg0) : Vec Ideal S32x2048x1024 .f32) (ix3 b l d)
  pa b l d := (m ((c : Thread nD τ).loc main_arg1) : Vec Ideal S32x2048x1024 .bf16) (ix3 b l d)
  gb b l d := (m ((c : Thread nD τ).loc main_arg2) : Vec Ideal S32x2048x1024 .bf16) (ix3 b l d)
  att b l d := (m ((c : Thread nD τ).loc main_arg3) : Vec Ideal S32x2048x512 .f32) (ix3 b l d)
  wao k d := (m ((c : Thread nD τ).loc main_arg4) : Vec Ideal S1x512x1024 .f32) (ix3 0 k d)
  wout k d := (m ((c : Thread nD τ).loc main_arg5) : Vec Ideal S1x1024x1024 .f32) (ix3 0 k d)
  g2 d := (m ((c : Thread nD τ).loc main_arg6) : Vec Ideal S1x1024 .f32) (ix2 0 d)
  wup k d := (m ((c : Thread nD τ).loc main_arg7) : Vec Ideal S1x1024x5632 .f32) (ix3 0 k d)
  cw k d := (m ((c : Thread nD τ).loc main_arg8) : Vec Ideal S1x3x5632 .f32) (ix3 0 k d)
  cb d := (m ((c : Thread nD τ).loc main_arg9) : Vec Ideal S1x5632 .f32) (ix2 0 d)
  wdn k d := (m ((c : Thread nD τ).loc main_arg10) : Vec Ideal S1x2816x1024 .f32) (ix3 0 k d)
  gf d := (m ((c : Thread nD τ).loc main_arg11) : Vec Ideal S1024 .f32) (ix1 d)

theorem b0 (c : Dev nD) (t : Fin cfg0.N) (i : Fin 256) (x : Fin 1024) :
    (iblk m c 0 t : Vec Ideal S1x256x1024 .f32) (ix3 0 i x) = (args m c).x ⟨t.val / 8, by have := tN t; omega⟩ ⟨256 * (t.val % 8) + i.val, by omega⟩ x := by
  refine (congrFun (V_main_arg0 m c) _).trans (congrArg (m ((c : Thread nD τ).loc main_arg0)) (funext fun a : Fin 3 => Fin.ext ?_))
  have e : ∀ a : Fin 3, cc0_transform_0 (grid0.coords t) a = (![t.val / 8, t.val % 8, 0] : Fin 3 → ℕ) a := fun a => congrFun (ix_0 t) a
  show cc0_transform_0 (grid0.coords t) a * S1x256x1024.size a + 1 * (ix3 (n0 := 1) 0 i x a).val = _
  rw [e]
  match a with
  | ⟨0, _⟩ => show t.val / 8 * 1 + 1 * 0 = t.val / 8; omega
  | ⟨1, _⟩ => show t.val % 8 * 256 + 1 * i.val = 256 * (t.val % 8) + i.val; omega
  | ⟨2, _⟩ => show 0 * 1024 + 1 * x.val = x.val; omega

theorem b1 (c : Dev nD) (t : Fin cfg0.N) (i : Fin 256) (x : Fin 1024) :
    (iblk m c 1 t : Vec Ideal S1x256x1024 .bf16) (ix3 0 i x) = (args m c).pa ⟨t.val / 8, by have := tN t; omega⟩ ⟨256 * (t.val % 8) + i.val, by omega⟩ x := by
  refine (congrFun (V_main_arg1 m c) _).trans (congrArg (m ((c : Thread nD τ).loc main_arg1)) (funext fun a : Fin 3 => Fin.ext ?_))
  have e : ∀ a : Fin 3, cc0_transform_1 (grid0.coords t) a = (![t.val / 8, t.val % 8, 0] : Fin 3 → ℕ) a := fun a => congrFun (ix_1 t) a
  show cc0_transform_1 (grid0.coords t) a * S1x256x1024.size a + 1 * (ix3 (n0 := 1) 0 i x a).val = _
  rw [e]
  match a with
  | ⟨0, _⟩ => show t.val / 8 * 1 + 1 * 0 = t.val / 8; omega
  | ⟨1, _⟩ => show t.val % 8 * 256 + 1 * i.val = 256 * (t.val % 8) + i.val; omega
  | ⟨2, _⟩ => show 0 * 1024 + 1 * x.val = x.val; omega

theorem b2 (c : Dev nD) (t : Fin cfg0.N) (i : Fin 256) (x : Fin 1024) :
    (iblk m c 2 t : Vec Ideal S1x256x1024 .bf16) (ix3 0 i x) = (args m c).gb ⟨t.val / 8, by have := tN t; omega⟩ ⟨256 * (t.val % 8) + i.val, by omega⟩ x := by
  refine (congrFun (V_main_arg2 m c) _).trans (congrArg (m ((c : Thread nD τ).loc main_arg2)) (funext fun a : Fin 3 => Fin.ext ?_))
  have e : ∀ a : Fin 3, cc0_transform_2 (grid0.coords t) a = (![t.val / 8, t.val % 8, 0] : Fin 3 → ℕ) a := fun a => congrFun (ix_2 t) a
  show cc0_transform_2 (grid0.coords t) a * S1x256x1024.size a + 1 * (ix3 (n0 := 1) 0 i x a).val = _
  rw [e]
  match a with
  | ⟨0, _⟩ => show t.val / 8 * 1 + 1 * 0 = t.val / 8; omega
  | ⟨1, _⟩ => show t.val % 8 * 256 + 1 * i.val = 256 * (t.val % 8) + i.val; omega
  | ⟨2, _⟩ => show 0 * 1024 + 1 * x.val = x.val; omega

theorem b3 (c : Dev nD) (t : Fin cfg0.N) (i : Fin 256) (x : Fin 512) :
    (iblk m c 3 t : Vec Ideal S1x256x512 .f32) (ix3 0 i x) = (args m c).att ⟨t.val / 8, by have := tN t; omega⟩ ⟨256 * (t.val % 8) + i.val, by omega⟩ x := by
  refine (congrFun (V_main_arg3 m c) _).trans (congrArg (m ((c : Thread nD τ).loc main_arg3)) (funext fun a : Fin 3 => Fin.ext ?_))
  have e : ∀ a : Fin 3, cc0_transform_3 (grid0.coords t) a = (![t.val / 8, t.val % 8, 0] : Fin 3 → ℕ) a := fun a => congrFun (ix_3 t) a
  show cc0_transform_3 (grid0.coords t) a * S1x256x512.size a + 1 * (ix3 (n0 := 1) 0 i x a).val = _
  rw [e]
  match a with
  | ⟨0, _⟩ => show t.val / 8 * 1 + 1 * 0 = t.val / 8; omega
  | ⟨1, _⟩ => show t.val % 8 * 256 + 1 * i.val = 256 * (t.val % 8) + i.val; omega
  | ⟨2, _⟩ => show 0 * 512 + 1 * x.val = x.val; omega

theorem V1_at (c : Dev nD) (k : Fin 512) (x : Fin 1024) :
    (V m c main_v1 : Vec Ideal S512x1024 .bf16) (ix2 k x) = (args m c).wao k x := by
  show V m c main_v1 (ix2 k x) = _
  entry_read
  unfold args
  dsimp only
  generalize m ((c : Thread nD τ).loc main_arg4) = v
  pointwise []

theorem b5 (c : Dev nD) (t : Fin cfg0.N) (k : Fin 512) (x : Fin 1024) :
    (iblk m c 5 t : Vec Ideal S512x1024 .bf16) (ix2 k x) = (args m c).wao k x := by
  refine Eq.trans ?_ (V1_at m c k x)
  refine congrArg (V m c main_v1) (funext fun a : Fin 2 => Fin.ext ?_)
  have e : ∀ a : Fin 2, cc0_transform_5 (grid0.coords t) a = (![0, 0] : Fin 2 → ℕ) a := fun a => congrFun (ix_5 t) a
  show cc0_transform_5 (grid0.coords t) a * S512x1024.size a + 1 * (ix2 (n0 := 512) k x a).val = _
  rw [e]
  match a with
  | ⟨0, _⟩ => show 0 * 512 + 1 * k.val = k.val; omega
  | ⟨1, _⟩ => show 0 * 1024 + 1 * x.val = x.val; omega

theorem V3_at (c : Dev nD) (k : Fin 1024) (x : Fin 1024) :
    (V m c main_v3 : Vec Ideal S1024x1024 .bf16) (ix2 k x) = (args m c).wout k x := by
  show V m c main_v3 (ix2 k x) = _
  entry_read
  unfold args
  dsimp only
  generalize m ((c : Thread nD τ).loc main_arg5) = v
  pointwise []

theorem b6 (c : Dev nD) (t : Fin cfg0.N) (k : Fin 1024) (x : Fin 1024) :
    (iblk m c 6 t : Vec Ideal S1024x1024 .bf16) (ix2 k x) = (args m c).wout k x := by
  refine Eq.trans ?_ (V3_at m c k x)
  refine congrArg (V m c main_v3) (funext fun a : Fin 2 => Fin.ext ?_)
  have e : ∀ a : Fin 2, cc0_transform_6 (grid0.coords t) a = (![0, 0] : Fin 2 → ℕ) a := fun a => congrFun (ix_6 t) a
  show cc0_transform_6 (grid0.coords t) a * S1024x1024.size a + 1 * (ix2 (n0 := 1024) k x a).val = _
  rw [e]
  match a with
  | ⟨0, _⟩ => show 0 * 1024 + 1 * k.val = k.val; omega
  | ⟨1, _⟩ => show 0 * 1024 + 1 * x.val = x.val; omega

theorem V5_at (c : Dev nD) (x : Fin 1024) :
    (V m c main_v5 : Vec Ideal S1x1024 .f32) (ix2 0 x) = (args m c).g2 x := by
  show V m c main_v5 (ix2 0 x) = _
  entry_read
  unfold args
  dsimp only
  generalize m ((c : Thread nD τ).loc main_arg6) = v
  pointwise []

theorem b7 (c : Dev nD) (t : Fin cfg0.N) (x : Fin 1024) :
    (iblk m c 7 t : Vec Ideal S1x1024 .f32) (ix2 0 x) = (args m c).g2 x := by
  refine Eq.trans ?_ (V5_at m c x)
  refine congrArg (V m c main_v5) (funext fun a : Fin 2 => Fin.ext ?_)
  have e : ∀ a : Fin 2, cc0_transform_7 (grid0.coords t) a = (![0, 0] : Fin 2 → ℕ) a := fun a => congrFun (ix_7 t) a
  show cc0_transform_7 (grid0.coords t) a * S1x1024.size a + 1 * (ix2 (n0 := 1) 0 x a).val = _
  rw [e]
  match a with
  | ⟨0, _⟩ => show 0 * 1 + 1 * 0 = 0; omega
  | ⟨1, _⟩ => show 0 * 1024 + 1 * x.val = x.val; omega

theorem V7_at (c : Dev nD) (k : Fin 1024) (x : Fin 5632) :
    (V m c main_v7 : Vec Ideal S1024x5632 .bf16) (ix2 k x) = (args m c).wup k x := by
  show V m c main_v7 (ix2 k x) = _
  entry_read
  unfold args
  dsimp only
  generalize m ((c : Thread nD τ).loc main_arg7) = v
  pointwise []

theorem b8 (c : Dev nD) (t : Fin cfg0.N) (k : Fin 1024) (x : Fin 5632) :
    (iblk m c 8 t : Vec Ideal S1024x5632 .bf16) (ix2 k x) = (args m c).wup k x := by
  refine Eq.trans ?_ (V7_at m c k x)
  refine congrArg (V m c main_v7) (funext fun a : Fin 2 => Fin.ext ?_)
  have e : ∀ a : Fin 2, cc0_transform_8 (grid0.coords t) a = (![0, 0] : Fin 2 → ℕ) a := fun a => congrFun (ix_8 t) a
  show cc0_transform_8 (grid0.coords t) a * S1024x5632.size a + 1 * (ix2 (n0 := 1024) k x a).val = _
  rw [e]
  match a with
  | ⟨0, _⟩ => show 0 * 1024 + 1 * k.val = k.val; omega
  | ⟨1, _⟩ => show 0 * 5632 + 1 * x.val = x.val; omega

theorem V10_at (c : Dev nD) (k : Fin 3) (x : Fin 5632) :
    (V m c main_v10 : Vec Ideal S3x5632 .f32) (ix2 k x) = (args m c).cw k x := by
  show V m c main_v10 (ix2 k x) = _
  entry_read
  unfold args
  dsimp only
  generalize m ((c : Thread nD τ).loc main_arg8) = v
  pointwise []

theorem b9 (c : Dev nD) (t : Fin cfg0.N) (k : Fin 3) (x : Fin 5632) :
    (iblk m c 9 t : Vec Ideal S3x5632 .f32) (ix2 k x) = (args m c).cw k x := by
  refine Eq.trans ?_ (V10_at m c k x)
  refine congrArg (V m c main_v10) (funext fun a : Fin 2 => Fin.ext ?_)
  have e : ∀ a : Fin 2, cc0_transform_9 (grid0.coords t) a = (![0, 0] : Fin 2 → ℕ) a := fun a => congrFun (ix_9 t) a
  show cc0_transform_9 (grid0.coords t) a * S3x5632.size a + 1 * (ix2 (n0 := 3) k x a).val = _
  rw [e]
  match a with
  | ⟨0, _⟩ => show 0 * 3 + 1 * k.val = k.val; omega
  | ⟨1, _⟩ => show 0 * 5632 + 1 * x.val = x.val; omega

theorem V12_at (c : Dev nD) (x : Fin 5632) :
    (V m c main_v12 : Vec Ideal S1x5632 .f32) (ix2 0 x) = (args m c).cb x := by
  show V m c main_v12 (ix2 0 x) = _
  entry_read
  unfold args
  dsimp only
  generalize m ((c : Thread nD τ).loc main_arg9) = v
  pointwise []

theorem b10 (c : Dev nD) (t : Fin cfg0.N) (x : Fin 5632) :
    (iblk m c 10 t : Vec Ideal S1x5632 .f32) (ix2 0 x) = (args m c).cb x := by
  refine Eq.trans ?_ (V12_at m c x)
  refine congrArg (V m c main_v12) (funext fun a : Fin 2 => Fin.ext ?_)
  have e : ∀ a : Fin 2, cc0_transform_10 (grid0.coords t) a = (![0, 0] : Fin 2 → ℕ) a := fun a => congrFun (ix_10 t) a
  show cc0_transform_10 (grid0.coords t) a * S1x5632.size a + 1 * (ix2 (n0 := 1) 0 x a).val = _
  rw [e]
  match a with
  | ⟨0, _⟩ => show 0 * 1 + 1 * 0 = 0; omega
  | ⟨1, _⟩ => show 0 * 5632 + 1 * x.val = x.val; omega

theorem V9_at (c : Dev nD) (k : Fin 2816) (x : Fin 1024) :
    (V m c main_v9 : Vec Ideal S2816x1024 .bf16) (ix2 k x) = (args m c).wdn k x := by
  show V m c main_v9 (ix2 k x) = _
  entry_read
  unfold args
  dsimp only
  generalize m ((c : Thread nD τ).loc main_arg10) = v
  pointwise []

theorem b11 (c : Dev nD) (t : Fin cfg0.N) (k : Fin 2816) (x : Fin 1024) :
    (iblk m c 11 t : Vec Ideal S2816x1024 .bf16) (ix2 k x) = (args m c).wdn k x := by
  refine Eq.trans ?_ (V9_at m c k x)
  refine congrArg (V m c main_v9) (funext fun a : Fin 2 => Fin.ext ?_)
  have e : ∀ a : Fin 2, cc0_transform_11 (grid0.coords t) a = (![0, 0] : Fin 2 → ℕ) a := fun a => congrFun (ix_11 t) a
  show cc0_transform_11 (grid0.coords t) a * S2816x1024.size a + 1 * (ix2 (n0 := 2816) k x a).val = _
  rw [e]
  match a with
  | ⟨0, _⟩ => show 0 * 2816 + 1 * k.val = k.val; omega
  | ⟨1, _⟩ => show 0 * 1024 + 1 * x.val = x.val; omega

theorem V14_at (c : Dev nD) (x : Fin 1024) :
    (V m c main_v14 : Vec Ideal S1x1024 .f32) (ix2 0 x) = (args m c).gf x := by
  show V m c main_v14 (ix2 0 x) = _
  entry_read
  unfold args
  dsimp only
  generalize m ((c : Thread nD τ).loc main_arg11) = v
  pointwise []

theorem b12 (c : Dev nD) (t : Fin cfg0.N) (x : Fin 1024) :
    (iblk m c 12 t : Vec Ideal S1x1024 .f32) (ix2 0 x) = (args m c).gf x := by
  refine Eq.trans ?_ (V14_at m c x)
  refine congrArg (V m c main_v14) (funext fun a : Fin 2 => Fin.ext ?_)
  have e : ∀ a : Fin 2, cc0_transform_12 (grid0.coords t) a = (![0, 0] : Fin 2 → ℕ) a := fun a => congrFun (ix_12 t) a
  show cc0_transform_12 (grid0.coords t) a * S1x1024.size a + 1 * (ix2 (n0 := 1) 0 x a).val = _
  rw [e]
  match a with
  | ⟨0, _⟩ => show 0 * 1 + 1 * 0 = 0; omega
  | ⟨1, _⟩ => show 0 * 1024 + 1 * x.val = x.val; omega

theorem V13_at (c : Dev nD) (b : Fin 32) (k : Fin 8) (x : Fin 5632) :
    (V m c main_v13 : Vec Ideal S32x8x5632 .f32) (ix3 b k x) = (0 : EReal) := by
  show V m c main_v13 (ix3 b k x) = _
  entry_read
  pointwise []

theorem b4 (c : Dev nD) (t : Fin cfg0.N) (k : Fin 8) (x : Fin 5632) :
    (iblk m c 4 t : Vec Ideal S1x8x5632 .f32) (ix3 0 k x) = (0 : EReal) := by
  refine Eq.trans ?_ (V13_at m c ⟨t.val / 8, by have := tN t; omega⟩ k x)
  refine congrArg (V m c main_v13) (funext fun a : Fin 3 => Fin.ext ?_)
  have e : ∀ a : Fin 3, cc0_transform_4 (grid0.coords t) a = (![t.val / 8, 0, 0] : Fin 3 → ℕ) a := fun a => congrFun (ix_4 t) a
  show cc0_transform_4 (grid0.coords t) a * S1x8x5632.size a + 1 * (ix3 (n0 := 1) 0 k x a).val = _
  rw [e]
  match a with
  | ⟨0, _⟩ => show t.val / 8 * 1 + 1 * 0 = t.val / 8; omega
  | ⟨1, _⟩ => show 0 * 8 + 1 * k.val = k.val; omega
  | ⟨2, _⟩ => show 0 * 5632 + 1 * x.val = x.val; omega

end Cert.Kernel2Ideal.Out
-- ==== Proof.Tile2.lean ====
module
public import proofs.«01_k».proof.Proof.Body2
public import proofs.«01_k».proof.Proof.Blk2
@[expose] public section
set_option maxRecDepth 16384
noncomputable section
/-!
One grid point of the output stage computes its rows of the stage.
-/
namespace Cert.Kernel2Ideal.Out
open Idealize.ShloMosaic Idealize.ShloMosaic.TcCoe Idealize.SL Idealize.SL.Sem Cert.Kernel2Ideal.Gen

theorem pay1_at (a b : FVec Ideal S256x1024 .f32) (g : Vec Ideal S1x1024 .f32) (t : Fin 256) (d : Fin 1024) :
    k0_pay1 (F := Ideal) a b g (ix3 0 t d) = Cert.Stage.rms (fun x => (a (ix2 t x) + b (ix2 t x) : EReal)) (fun x => g (ix2 0 x)) d := by
  unfold Cert.Stage.rms
  pointwise [k0_pay1]

theorem pay2_at (x0 : Vec Ideal S1x256x1024 .f32) (x3 : Vec Ideal S1x256x512 .f32) (x1 x2 : Vec Ideal S1x256x1024 .bf16)
    (x5 : Vec Ideal S512x1024 .bf16) (x6 : Vec Ideal S1024x1024 .bf16) (t : Fin 256) (d : Fin 1024) :
    k0_pay2 (F := Ideal) x0 x3 x1 x2 x5 x6 (ix2 t d) = (x0 (ix3 0 t d) + ∑ k : Fin 1024, (x1 (ix3 0 t k) + x2 (ix3 0 t k) * ∑ e : Fin 512, x3 (ix3 0 t e) * x5 (ix2 e k)) * x6 (ix2 k d) : EReal) := by
  pointwise [k0_pay2]

theorem pay3_at (x0 : Vec Ideal S1x256x1024 .f32) (x3 : Vec Ideal S1x256x512 .f32) (x1 x2 : Vec Ideal S1x256x1024 .bf16)
    (x5 : Vec Ideal S512x1024 .bf16) (x6 : Vec Ideal S1024x1024 .bf16) (x7 : Vec Ideal S1x1024 .f32) (t : Fin 256) (d : Fin 1024) :
    k0_pay4 (F := Ideal) (k0_pay3 (F := Ideal) x0 x3 x1 x2 x5 x6 x7) (ix2 t d)
      = Cert.Stage.rms (fun x => (x0 (ix3 0 t x) + ∑ k : Fin 1024, (x1 (ix3 0 t k) + x2 (ix3 0 t k) * ∑ e : Fin 512, x3 (ix3 0 t e) * x5 (ix2 e k)) * x6 (ix2 k x) : EReal)) (fun x => x7 (ix2 0 x)) d := by
  unfold Cert.Stage.rms
  pointwise [k0_pay4, k0_pay3, k0_pay2]

theorem pay5_at (v : Vec Ideal S1x8x5632 .f32) (k : Fin 8) (x : Fin 5632) : k0_pay5 (F := Ideal) v (ix3 0 k x) = v (ix3 0 k x) := by
  pointwise [k0_pay5]

theorem pay6_at (t : Fin 256) (d : Fin 1024) : k0_pay6 (F := Ideal) (ix2 t d) = (0 : EReal) := by
  pointwise [k0_pay6]

variable (m : (ℓ : Loc nD τ sig) → Buf (Elt Ideal) ℓ) (c : Dev nD) (t : Fin cfg0.N)

/-- The batch of a point and the stage's row of a point's row. -/
def bt : Fin 32 := ⟨t.val / 8, by have := tN t; omega⟩
def rw (r : Fin 256) : Fin 2048 := ⟨256 * (t.val % 8) + r.val, by omega⟩

/-- The normed rows of a point. -/
def hh : FVec Ideal S256x1024 .bf16 :=
  k0_pay4 (F := Ideal) (k0_pay3 (F := Ideal) (iblk m c 0 t) (iblk m c 3 t) (iblk m c 1 t) (iblk m c 2 t) (iblk m c 5 t) (iblk m c 6 t) (iblk m c 7 t))

theorem x1_at (r : Fin 256) (d : Fin 1024) :
    k0_pay2 (F := Ideal) (iblk m c 0 t) (iblk m c 3 t) (iblk m c 1 t) (iblk m c 2 t) (iblk m c 5 t) (iblk m c 6 t) (ix2 r d) = Cert.Stage.x1 (args m c) (bt t) (rw t r) d := by
  rw [pay2_at, b0]
  simp only [b1, b2, b3, b5, b6]
  rfl

theorem hh_at (r : Fin 256) (k : Fin 1024) : hh m c t (ix2 r k) = Cert.Stage.rms (Cert.Stage.x1 (args m c) (bt t) (rw t r)) (args m c).g2 k := by
  unfold hh
  rw [pay3_at]
  simp only [b0, b1, b2, b3, b5, b6, b7]
  rfl

theorem u_at (r : Fin 256) (x : Fin 5632) :
    (∑ k : Fin 1024, hh m c t (ix2 r k) * (iblk m c 8 t : Vec Ideal S1024x5632 .bf16) (ix2 k x) : EReal) = Cert.Stage.u (args m c) (bt t) (rw t r) x := by
  simp only [hh_at, b8]
  rfl

/-- The rows carried into a point: the eight before it, zero before the first. -/
def Carried (P : Vec Ideal S1x8x5632 .f32) : Prop :=
  ∀ (p : Fin 8) (x : Fin 5632), P (ix3 0 p x)
    = (if h : 8 ≤ 256 * (t.val % 8) + p.val then Cert.Stage.u (args m c) (bt t) ⟨256 * (t.val % 8) + p.val - 8, by omega⟩ x else 0 : EReal)

variable (P : Vec Ideal S1x8x5632 .f32) (hP : Carried m c t P)
include hP

theorem ext_at (r : Fin 256) (x : Fin 5632) (k : ℕ) (hk : k = 1 ∨ k = 2) (q : ℕ) (hq : q = r.val + 8 - k) (hlt : q < 264) :
    ext (fun s => (∑ k : Fin 1024, hh m c t (ix2 s k) * (iblk m c 8 t : Vec Ideal S1024x5632 .bf16) (ix2 k x) : EReal)) (fun p => P (ix3 0 p x)) q hlt
      = Cert.Stage.prev (args m c) (bt t) (rw t r) k x := by
  unfold ext Cert.Stage.prev
  by_cases h8 : q < 8
  · rw [dif_pos h8]
    refine (hP _ _).trans ?_
    by_cases h : k ≤ (rw t r).val
    · have h' : k ≤ 256 * (t.val % 8) + r.val := h
      rw [if_pos h, dif_pos (show 8 ≤ 256 * (t.val % 8) + q by omega)]
      exact congrArg (fun l => Cert.Stage.u (args m c) (bt t) l x) (Fin.ext (by show 256 * (t.val % 8) + q - 8 = 256 * (t.val % 8) + r.val - k; omega))
    · have h' : ¬ k ≤ 256 * (t.val % 8) + r.val := h
      rw [if_neg h, dif_neg (show ¬ 8 ≤ 256 * (t.val % 8) + q by omega)]
  · have h : k ≤ (rw t r).val := by show k ≤ 256 * (t.val % 8) + r.val; omega
    rw [dif_neg h8, if_pos h]
    refine (u_at m c t _ x).trans ?_
    exact congrArg (fun l => Cert.Stage.u (args m c) (bt t) l x) (Fin.ext (by show 256 * (t.val % 8) + (q - 8) = 256 * (t.val % 8) + r.val - k; omega))

theorem conv_at (o : ℕ) (h : o + 256 ≤ 5632) (r x : Fin 256) :
    cv (hh m c t) P (iblk m c 8 t) (iblk m c 9 t) (iblk m c 10 t) o h (ix2 r x) = Cert.Stage.conv (args m c) (bt t) (rw t r) ⟨o + x.val, by omega⟩ := by
  rw [cv_at, ext_at m c t P hP r _ 2 (Or.inr rfl) (r.val + 6) (by omega) (by omega), ext_at m c t P hP r _ 1 (Or.inl rfl) (r.val + 7) (by omega) (by omega), u_at]
  simp only [b9, b10]
  rfl

theorem fsum_at (n : ℕ) (hn : n ≤ 11) (r : Fin 256) (d : Fin 1024) :
    fsum (hh m c t) P (iblk m c 8 t) (iblk m c 9 t) (iblk m c 10 t) (iblk m c 11 t) n hn (ix2 r d)
      = (∑ i : Fin n, ∑ x : Fin 256, Cert.Stage.act (args m c) (bt t) (rw t r) ⟨i.val * 256 + x.val, by omega⟩ * (args m c).wdn ⟨i.val * 256 + x.val, by omega⟩ d : EReal) := by
  induction n with
  | zero => exact pay6_at r d
  | succ n ih =>
    rw [Fin.sum_univ_castSucc]
    show stp _ _ _ _ (ix2 r d) = _
    rw [stp_at, ih (by omega)]
    refine congrArg (_ + ·) (Finset.sum_congr rfl fun x _ => ?_)
    rw [conv_at m c t P hP, conv_at m c t P hP, ldD_at, b11]
    unfold Cert.Stage.act
    have e0 : (⟨256 * n + x.val, by omega⟩ : Fin 5632) = ⟨n * 256 + x.val, by omega⟩ := Fin.ext (by show 256 * n + x.val = n * 256 + x.val; omega)
    have e1 : (⟨2816 + 256 * n + x.val, by omega⟩ : Fin 5632) = ⟨2816 + (n * 256 + x.val), by omega⟩ := Fin.ext (by show 2816 + 256 * n + x.val = 2816 + (n * 256 + x.val); omega)
    have e2 : (⟨256 * n + x.val, by omega⟩ : Fin 2816) = ⟨n * 256 + x.val, by omega⟩ := Fin.ext (by show 256 * n + x.val = n * 256 + x.val; omega)
    rw [e0, e1, e2]
    rfl

theorem y_at (r : Fin 256) (d : Fin 1024) :
    k0_pay1 (F := Ideal) (k0_pay2 (F := Ideal) (iblk m c 0 t) (iblk m c 3 t) (iblk m c 1 t) (iblk m c 2 t) (iblk m c 5 t) (iblk m c 6 t))
      (fsum (hh m c t) P (iblk m c 8 t) (iblk m c 9 t) (iblk m c 10 t) (iblk m c 11 t) 11 (Nat.le_refl _)) (iblk m c 12 t) (ix3 0 r d)
      = Cert.Stage.y (args m c) (bt t) (rw t r) d := by
  rw [pay1_at]
  simp only [x1_at, fsum_at m c t P hP, b12]
  unfold Cert.Stage.y
  refine congrArg (fun v => Cert.Stage.rms v (args m c).gf d) (funext fun x => ?_)
  unfold Cert.Stage.x2
  refine congrArg (Cert.Stage.x1 (args m c) (bt t) (rw t r) x + ·) ?_
  exact (Cert.Stage.sum_runs 11 256 (fun k : Fin 2816 => Cert.Stage.act (args m c) (bt t) (rw t r) k * (args m c).wdn k x) (fun i j => by omega)).symm

end Cert.Kernel2Ideal.Out
-- ==== Proof.Inv2.lean ====
module
public import proofs.«01_k».proof.Proof.Case2
public import proofs.«01_k».proof.Proof.Carry2
public import proofs.«01_k».proof.Proof.Tile2
@[expose] public section
set_option maxRecDepth 16384
noncomputable section
/-!
What the output stage's two results hold after the run.
-/
namespace Cert.Kernel2Ideal.Out
open Idealize.ShloMosaic Idealize.ShloMosaic.TcCoe Idealize.SL Idealize.SL.Sem Cert.Kernel2Ideal.Gen

variable (m : (ℓ : Loc nD τ sig) → Buf (Elt Ideal) ℓ) (c : Dev nD) (t : Fin cfg0.N)

theorem carry_eq : (outsAt0 (F := Ideal) m c t.val t.isLt).2.2 = last (hh m c t) (iblk m c 8 t) := by
  by_cases h0 : t.val % 8 = 0
  · refine (congrArg (fun z => z.2.2) (outsAt0_A (F := Ideal) m c t h0)).trans ?_
    dsimp only
    exact sA_0
  · refine (congrArg (fun z => z.2.2) (outsAt0_B (F := Ideal) m c t h0)).trans ?_
    dsimp only
    exact sB_0

theorem tail_eq : (outsAt0 (F := Ideal) m c t.val t.isLt).2.1 = last (hh m c t) (iblk m c 8 t) := by
  by_cases h0 : t.val % 8 = 0
  · refine (congrArg (fun z => z.2.1) (outsAt0_A (F := Ideal) m c t h0)).trans ?_
    dsimp only
    exact A_14
  · refine (congrArg (fun z => z.2.1) (outsAt0_B (F := Ideal) m c t h0)).trans ?_
    dsimp only
    exact B_14

theorem last_at (p : Fin 8) (x : Fin 5632) :
    last (hh m c t) (iblk m c 8 t) (ix3 0 p x) = Cert.Stage.u (args m c) (bt t) (rw t ⟨248 + p.val, by omega⟩) x :=
  u_at m c t ⟨248 + p.val, by omega⟩ x

theorem carried_A (h0 : t.val % 8 = 0) : Carried m c t (k0_pay5 (F := Ideal) (iblk m c 4 t)) := fun p x => by
  rw [dif_neg (by omega)]
  exact (pay5_at _ p x).trans (b4 m c t p x)

theorem carried_B (h0 : ¬ t.val % 8 = 0) :
    Carried m c t (outsAt0 (F := Ideal) m c (t.val - 1) (Nat.lt_of_le_of_lt (Nat.sub_le _ _) t.isLt)).2.2 := fun p x => by
  rw [dif_pos (by omega)]
  refine (congrFun (carry_eq m c ⟨t.val - 1, Nat.lt_of_le_of_lt (Nat.sub_le _ _) t.isLt⟩) (ix3 0 p x)).trans ?_
  refine (last_at m c _ p x).trans ?_
  have e0 : bt ⟨t.val - 1, Nat.lt_of_le_of_lt (Nat.sub_le _ _) t.isLt⟩ = bt t := Fin.ext (by show (t.val - 1) / 8 = t.val / 8; omega)
  have e1 : rw ⟨t.val - 1, Nat.lt_of_le_of_lt (Nat.sub_le _ _) t.isLt⟩ ⟨248 + p.val, by omega⟩ = ⟨256 * (t.val % 8) + p.val - 8, by omega⟩ :=
    Fin.ext (by show 256 * ((t.val - 1) % 8) + (248 + p.val) = 256 * (t.val % 8) + p.val - 8; omega)
  rw [e0, e1]

theorem out_eq (r : Fin 256) (d : Fin 1024) :
    (outsAt0 (F := Ideal) m c t.val t.isLt).1 (ix3 0 r d) = Cert.Stage.y (args m c) (bt t) (rw t r) d := by
  by_cases h0 : t.val % 8 = 0
  · refine (congrFun (congrArg (fun z => z.1) (outsAt0_A (F := Ideal) m c t h0)) (ix3 0 r d)).trans ?_
    dsimp only
    refine (congrFun (A13) (ix3 0 r d)).trans ?_
    exact y_at m c t _ (carried_A m c t h0) r d
  · refine (congrFun (congrArg (fun z => z.1) (outsAt0_B (F := Ideal) m c t h0)) (ix3 0 r d)).trans ?_
    dsimp only
    refine (congrFun (B13) (ix3 0 r d)).trans ?_
    exact y_at m c t _ (carried_B m c t h0) r d

open Cert.Kernel2Ideal.Value in
theorem G13_at (b : Fin 32) (l : Fin 2048) (d : Fin 1024) :
    (G13 (F := Ideal) m c : Vec Ideal S32x2048x1024 .f32) (ix3 b l d) = Cert.Stage.y (args m c) b l d := by
  have hp : pt13Of (ix3 b l d) = 8 * b.val + l.val / 256 := by
    show 8 * ((b.val - 0) / 1) + 1 * (l.val / 256 - 0) + 1 * (d.val / 1024 - 0) = _
    omega
  have hN : cfg0.N = 256 := N_0
  have h : pt13Of (ix3 b l d) < cfg0.N := by rw [hp, hN]; omega
  unfold G13
  rw [dif_pos h, ← outsAt0_sweep m c (pt13Of (ix3 b l d)) h]
  have e : loc13Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 1024 = d.val; omega
  rw [e]
  refine (out_eq m c ⟨_, h⟩ _ d).trans ?_
  have e0 : bt ⟨pt13Of (ix3 b l d), h⟩ = b := Fin.ext (by show pt13Of (ix3 b l d) / 8 = b.val; omega)
  have e1 : rw ⟨pt13Of (ix3 b l d), h⟩ ⟨l.val % 256, by omega⟩ = l :=
    Fin.ext (by show 256 * (pt13Of (ix3 b l d) % 8) + l.val % 256 = l.val; omega)
  rw [e0, e1]

open Cert.Kernel2Ideal.Value in
theorem G14_at (b : Fin 32) (a : Fin 8) (x : Fin 5632) :
    (G14 (F := Ideal) m c : Vec Ideal S32x8x5632 .f32) (ix3 b a x) = Cert.Stage.u (args m c) b ⟨2040 + a.val, by omega⟩ x := by
  have hp : pt14Of (ix3 b a x) = 8 * b.val + 7 := by
    show 8 * (1 * (b.val / 1 - 0) + 1 * (a.val / 8 - 0) + 1 * (x.val / 5632 - 0)) + 7 = _
    omega
  have hN : cfg0.N = 256 := N_0
  have h : pt14Of (ix3 b a x) < cfg0.N := by rw [hp, hN]; omega
  unfold G14
  rw [dif_pos h, ← outsAt0_sweep m c (pt14Of (ix3 b a x)) h]
  have e : loc14Of (ix3 b a x) = ix3 0 a x := by
    funext k
    apply Fin.ext
    match k with
    | ⟨0, _⟩ => show b.val % 1 = 0; omega
    | ⟨1, _⟩ => show a.val % 8 = a.val; omega
    | ⟨2, _⟩ => show x.val % 5632 = x.val; omega
  rw [e]
  refine (congrFun (tail_eq m c ⟨_, h⟩) (ix3 0 a x)).trans ((last_at m c _ a x).trans ?_)
  have e0 : bt ⟨pt14Of (ix3 b a x), h⟩ = b := Fin.ext (by show pt14Of (ix3 b a x) / 8 = b.val; omega)
  have e1 : rw ⟨pt14Of (ix3 b a x), h⟩ ⟨248 + a.val, by omega⟩ = ⟨2040 + a.val, by omega⟩ :=
    Fin.ext (by show 256 * (pt14Of (ix3 b a x) % 8) + (248 + a.val) = 2040 + a.val; omega)
  rw [e0, e1]

end Cert.Kernel2Ideal.Out
-- ==== Proof.Ref2.lean ====
module
public import proofs.«01_k».proof.Proof.Gen.Reference2Ideal.Run
public import proofs.«01_k».proof.Proof.Stage
public import Idealize.ShloMosaic.Lib.Pointwise
@[expose] public section
set_option maxRecDepth 16384
noncomputable section
/-!
The reference of the output stage read entry by entry.
-/
namespace Cert.Reference2Ideal.Out
open Cert.Reference2Ideal Cert.Reference2Ideal.Gen Idealize.ShloMosaic Idealize.ShloMosaic.TcCoe Idealize.SL.Sem Idealize.ShloMosaic.StableHlo

variable (V0 : Valuation τ sig (Elt Ideal))

/-- The arguments as the stage's arrays. -/
def args : Cert.Stage.Args where
  x b l d := (V0 (Proc.devRef .tc main_arg0) : Vec Ideal S32x2048x1024 .f32) (ix3 b l d)
  pa b l d := (V0 (Proc.devRef .tc main_arg1) : Vec Ideal S32x2048x1024 .bf16) (ix3 b l d)
  gb b l d := (V0 (Proc.devRef .tc main_arg2) : Vec Ideal S32x2048x1024 .bf16) (ix3 b l d)
  att b l d := (V0 (Proc.devRef .tc main_arg3) : Vec Ideal S32x2048x512 .f32) (ix3 b l d)
  wao k d := (V0 (Proc.devRef .tc main_arg4) : Vec Ideal S1x512x1024 .f32) (ix3 0 k d)
  wout k d := (V0 (Proc.devRef .tc main_arg5) : Vec Ideal S1x1024x1024 .f32) (ix3 0 k d)
  g2 d := (V0 (Proc.devRef .tc main_arg6) : Vec Ideal S1x1024 .f32) (ix2 0 d)
  wup k d := (V0 (Proc.devRef .tc main_arg7) : Vec Ideal S1x1024x5632 .f32) (ix3 0 k d)
  cw k d := (V0 (Proc.devRef .tc main_arg8) : Vec Ideal S1x3x5632 .f32) (ix3 0 k d)
  cb d := (V0 (Proc.devRef .tc main_arg9) : Vec Ideal S1x5632 .f32) (ix2 0 d)
  wdn k d := (V0 (Proc.devRef .tc main_arg10) : Vec Ideal S1x2816x1024 .f32) (ix3 0 k d)
  gf d := (V0 (Proc.devRef .tc main_arg11) : Vec Ideal S1024 .f32) (ix1 d)

theorem x1_at (b : Fin 32) (l : Fin 2048) (d : Fin 1024) :
    (Value.res_main_v8 V0 : Vec Ideal S32x2048x1024 .f32) (ix3 b l d) = Cert.Stage.x1 (args V0) b l d := by
  unfold Value.res_main_v8 Cert.Stage.x1 args
  pointwise []

theorem e_at (b : Fin 32) (p : Fin 2050) (x : Fin 5632) :
    (Value.res_main_v26 V0 : Vec Ideal S32x2050x5632 .f32) (ix3 b p x) = (if h : p.val < 2 then 0 else Cert.Stage.u (args V0) b ⟨p.val - 2, by omega⟩ x : EReal) := by
  have e := x1_at V0
  unfold Value.res_main_v26
  generalize (Value.res_main_v8 V0 : Vec Ideal S32x2048x1024 .f32) = X at *
  pointwise []
  simp only [e]
  rfl

theorem cv_at (b : Fin 32) (l : Fin 2048) (x : Fin 5632) :
    (Value.res_main_v55 V0 : Vec Ideal S32x2048x5632 .f32) (ix3 b l x) = Cert.Stage.conv (args V0) b l x := by
  have e := e_at V0
  have e0 := e b ⟨l.val, by omega⟩ x
  have e1 := e b ⟨1 + l.val, by omega⟩ x
  have e2 := e b ⟨2 + l.val, by omega⟩ x
  unfold Value.res_main_v55
  generalize (Value.res_main_v26 V0 : Vec Ideal S32x2050x5632 .f32) = X at *
  pointwise []
  rw [e0, e1, e2]
  unfold Cert.Stage.conv
  have h0 : (if h : l.val < 2 then 0 else Cert.Stage.u (args V0) b ⟨l.val - 2, by omega⟩ x : EReal) = Cert.Stage.prev (args V0) b l 2 x := by
    unfold Cert.Stage.prev
    by_cases h : l.val < 2
    · rw [dif_pos h, if_neg (by omega)]
    · rw [dif_neg h, if_pos (by omega)]
  have h1 : (if h : 1 + l.val < 2 then 0 else Cert.Stage.u (args V0) b ⟨1 + l.val - 2, by omega⟩ x : EReal) = Cert.Stage.prev (args V0) b l 1 x := by
    unfold Cert.Stage.prev
    by_cases h : 1 + l.val < 2
    · rw [dif_pos h, if_neg (by omega)]
    · rw [dif_neg h, if_pos (by omega)]
      exact congrArg (fun r => Cert.Stage.u (args V0) b r x) (Fin.ext (by show 1 + l.val - 2 = l.val - 1; omega))
  have h2 : (if h : 2 + l.val < 2 then 0 else Cert.Stage.u (args V0) b ⟨2 + l.val - 2, by omega⟩ x : EReal) = Cert.Stage.u (args V0) b l x := by
    rw [dif_neg (by omega)]
    exact congrArg (fun r => Cert.Stage.u (args V0) b r x) (Fin.ext (by show 2 + l.val - 2 = l.val; omega))
  rw [h0, h1, h2, add_assoc, add_assoc, add_assoc]
  rfl

theorem x2_at (b : Fin 32) (l : Fin 2048) (d : Fin 1024) :
    (Value.res_main_v74 V0 : Vec Ideal S32x2048x1024 .f32) (ix3 b l d) = Cert.Stage.x2 (args V0) b l d := by
  have e := cv_at V0
  have e1 := x1_at V0
  unfold Value.res_main_v74 Value.res_main_v56
  generalize (Value.res_main_v8 V0 : Vec Ideal S32x2048x1024 .f32) = X at *
  generalize (Value.res_main_v55 V0 : Vec Ideal S32x2048x5632 .f32) = C at *
  pointwise []
  simp only [e, e1]
  unfold Cert.Stage.x2
  refine congrArg (Cert.Stage.x1 (args V0) b l d + ·) (Finset.sum_congr rfl fun k _ => ?_)
  unfold Cert.Stage.act Cert.Stage.unit
  generalize Cert.Stage.conv (args V0) b l ⟨k.val, _⟩ = g
  rw [mul_left_comm g, ← mul_assoc (Ideal.ofBits FTy.f32 1056964608#32) g]
  rfl

/-- The first result of the reference. -/
def resY : Vec Ideal S32x2048x1024 .f32 :=
  mulf (mulf (Value.res_main_v74 V0) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (Value.res_main_v74 V0) (Value.res_main_v74 V0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (V0 (Proc.devRef .tc main_arg11))))

/-- The second result of the reference. -/
def resT : Vec Ideal S32x8x5632 .f32 :=
  extractStridedSlice S32x8x5632 ![0, 2042, 0] (Value.res_main_v26 V0) slices_S32x2050x5632_S32x8x5632_0_2042_0

theorem y_at (b : Fin 32) (l : Fin 2048) (d : Fin 1024) : resY V0 (ix3 b l d) = Cert.Stage.y (args V0) b l d := by
  have e := x2_at V0
  unfold resY
  generalize (Value.res_main_v74 V0 : Vec Ideal S32x2048x1024 .f32) = X at *
  pointwise []
  simp only [e]
  rfl

theorem t_at (b : Fin 32) (a : Fin 8) (x : Fin 5632) : resT V0 (ix3 b a x) = Cert.Stage.u (args V0) b ⟨2040 + a.val, by omega⟩ x := by
  have e := e_at V0 b ⟨2042 + a.val, by omega⟩ x
  unfold resT
  generalize (Value.res_main_v26 V0 : Vec Ideal S32x2050x5632 .f32) = X at *
  pointwise []
  rw [e, dif_neg (show ¬ (2042 + a.val < 2) by omega)]
  exact congrArg (fun r => Cert.Stage.u (args V0) b r x) (Fin.ext (by show 2042 + a.val - 2 = 2040 + a.val; omega))

end Cert.Reference2Ideal.Out
-- ==== Proof.Alg2.lean ====
module
public import proofs.«01_k».proof.Defs
public import proofs.«01_k».proof.Proof.Inv2
public import proofs.«01_k».proof.Proof.Ref2
public import proofs.«01_k».proof.Proof.Gen.Kernel2.Frame
public import proofs.«01_k».proof.Proof.Gen.Reference2Ideal
@[expose] public section
set_option maxRecDepth 16384
noncomputable section
/-!
The claims of the output stage.
-/
namespace Cert.Proof
open Idealize.ShloMosaic Idealize.SL.Sem

/-- The compiled output stage runs and leaves its arguments. -/
theorem frame_k2 : Cert.quiescent_Kernel2 := fun m ρ _ => Cert.Kernel2.Gen.frame m ρ

/-- So does the output stage over the extended reals. -/
theorem frame_i2 : Cert.quiescent_Kernel2Ideal := fun m ρ _ => Cert.Kernel2Ideal.Gen.frame m ρ

/-- So does its reference, which declares no counter. -/
theorem frame_r2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- No constant is renamed. -/
theorem preserves2 : Cert.preserves_Kernel2_Kernel2Ideal := trivial

/-- The output stage and its reference leave the same results. -/
theorem algebraic2 : Cert.algebraic_Kernel2Ideal_Reference2Ideal := by
  intro m g m' g' _ hm
  have ha : ∀ c, Cert.Reference2Ideal.Out.args (Idealize.ShloMosaic.StableHlo.launchContents m' c) = Cert.Kernel2Ideal.Out.args m c := fun c => by
    obtain ⟨e0, e1, e2, e3, e4, e5, e6, e7, e8, e9, e10, e11⟩ := hm c
    unfold Cert.Reference2Ideal.Out.args Cert.Kernel2Ideal.Out.args
    congr 1
    · funext b l d; exact congrFun e0 _
    · funext b l d; exact congrFun e1 _
    · funext b l d; exact congrFun e2 _
    · funext b l d; exact congrFun e3 _
    · funext b l; exact congrFun e4 _
    · funext b l; exact congrFun e5 _
    · funext b; exact congrFun e6 _
    · funext b l; exact congrFun e7 _
    · funext b l; exact congrFun e8 _
    · funext b; exact congrFun e9 _
    · funext b l; exact congrFun e10 _
    · funext b; exact congrFun e11 _
  refine ⟨fun c => Cert.Kernel2Ideal.Value.G13 m c, fun c => Cert.Kernel2Ideal.Value.G14 m c, Cert.Kernel2Ideal.Value.run m g, ?_⟩
  refine (θ_run _ _ _).mono (fun r h c => ⟨(h c).1.trans ?_, (h c).2.1.trans ?_, (h c).2.2⟩) (Cert.Reference2Ideal.Value.run m' g')
  · show Cert.Reference2Ideal.Out.resY (Idealize.ShloMosaic.StableHlo.launchContents m' c) = (Cert.Kernel2Ideal.Value.G13 m c : Vec Ideal Cert.Kernel2Ideal.S32x2048x1024 .f32)
    funext i
    idx_vars i
    refine (Cert.Reference2Ideal.Out.y_at _ _ _ _).trans ?_
    rw [ha c]
    exact (Cert.Kernel2Ideal.Out.G13_at m c _ _ _).symm
  · show Cert.Reference2Ideal.Out.resT (Idealize.ShloMosaic.StableHlo.launchContents m' c) = (Cert.Kernel2Ideal.Value.G14 m c : Vec Ideal Cert.Kernel2Ideal.S32x8x5632 .f32)
    funext i
    idx_vars i
    refine (Cert.Reference2Ideal.Out.t_at _ _ _ _).trans ?_
    rw [ha c]
    exact (Cert.Kernel2Ideal.Out.G14_at m c _ _ _).symm

end Cert.Proof
-- ==== Proof.Mix.lean ====
module
public import proofs.«01_k».proof.Proof.Stage
@[expose] public section
noncomputable section
/-!
The mixer's input stage over the extended reals: the norm, the projection, the rotation of queries and keys by their
position, the trailing means of the pooled branch, and the two gates.
-/
namespace Cert.Mix
open Idealize.ShloMosaic

/-- The arrays that the stage is given. -/
structure Args where
  x : Fin 32 → Fin 2048 → Fin 1024 → EReal
  g : Fin 1024 → EReal
  w : Fin 1024 → Fin 4680 → EReal
  bg : Fin 2048 → EReal
  mix : Fin 4 → Fin 128 → Fin 128 → EReal
  ps : Fin 512 → EReal
  wpo : Fin 512 → Fin 1024 → EReal

/-- The angle of position `l` in frequency `i`. -/
def ang (l : Fin 2048) (i : Fin 32) : EReal :=
  (FloatOps.sitofp FTy.f32 (BitVec.ofNat 32 l.val) : Ideal .f32) * Ideal.pow (Ideal.ofBits FTy.f32 1176256512#32)
    (Ideal.div (-(FloatOps.sitofp FTy.f32 (BitVec.ofNat 32 i.val) : Ideal .f32)) (Ideal.ofBits FTy.f32 1107296256#32))

/-- A head rotated by its position. -/
def rot (l : Fin 2048) (f : Fin 64 → EReal) (e : Fin 64) : EReal :=
  if h : e.val < 32 then f e * Ideal.cos (ang l ⟨e.val, h⟩) - f ⟨e.val + 32, by omega⟩ * Ideal.sin (ang l ⟨e.val, h⟩)
  else f e * Ideal.cos (ang l ⟨e.val - 32, by omega⟩) + f ⟨e.val - 32, by omega⟩ * Ideal.sin (ang l ⟨e.val - 32, by omega⟩)

theorem rot_lt (l : Fin 2048) (f : Fin 64 → EReal) (e : ℕ) (he : e < 64) (h : e < 32) :
    rot l f ⟨e, he⟩ = f ⟨e, he⟩ * Ideal.cos (ang l ⟨e, h⟩) - f ⟨e + 32, by omega⟩ * Ideal.sin (ang l ⟨e, h⟩) := dif_pos h

theorem rot_ge (l : Fin 2048) (f : Fin 64 → EReal) (e : ℕ) (he : e < 64) (h : ¬ e < 32) :
    rot l f ⟨e, he⟩ = f ⟨e, he⟩ * Ideal.cos (ang l ⟨e - 32, by omega⟩) + f ⟨e - 32, by omega⟩ * Ideal.sin (ang l ⟨e - 32, by omega⟩) := dif_neg h

/-- How many positions a window of `n` holds. -/
def cnt (n : ℕ) (l : Fin 2048) : EReal := (((min n (l.val + 1) : ℕ) : ℝ) : EReal)

variable (A : Args)

/-- A row after the projection. -/
def z (b : Fin 32) (l : Fin 2048) (c : Fin 4680) : EReal := ∑ k, Cert.Stage.rms (A.x b l) A.g k * A.w k c

theorem z_congr (b : Fin 32) (l : Fin 2048) {i j : ℕ} (hi : i < 4680) (hj : j < 4680) (h : i = j) : z A b l ⟨i, hi⟩ = z A b l ⟨j, hj⟩ := by
  subst h
  rfl

/-- The heads that begin at column `o`, rotated. -/
def heads (o : ℕ) (ho : o + 512 ≤ 4680) (b : Fin 32) (l : Fin 2048) (c : Fin 512) : EReal :=
  rot l (fun e => z A b l ⟨o + (64 * (c.val / 64) + e.val), by omega⟩) ⟨c.val % 64, by omega⟩

/-- The queries, scaled. -/
def q (b : Fin 32) (l : Fin 2048) (c : Fin 512) : EReal :=
  rot l (fun e => z A b l ⟨512 + (64 * (c.val / 64) + e.val), by omega⟩ * Ideal.ofBits FTy.f32 0x3E000000#32) ⟨c.val % 64, by omega⟩

/-- The index key. -/
def ki (b : Fin 32) (l : Fin 2048) (c : Fin 64) : EReal := rot l (fun e => z A b l ⟨2560 + e.val, by omega⟩) c

/-- A gate. -/
def gate (b : Fin 32) (l : Fin 2048) (c : Fin 2048) : EReal :=
  Ideal.div 1 (1 + Ideal.exp (-(z A b l ⟨2632 + c.val, by omega⟩ + A.bg c)))

/-- The pooled row `k` before row `l`, zero before the first. -/
def prev (b : Fin 32) (l : Fin 2048) (c : Fin 512) (k : ℕ) : EReal :=
  if k ≤ l.val then z A b ⟨l.val - k, by omega⟩ ⟨c.val, by omega⟩ else 0

/-- The sum of a trailing window. -/
def win (n : ℕ) (b : Fin 32) (l : Fin 2048) (c : Fin 512) : EReal := ∑ k ∈ Finset.range n, prev A b l c k

/-- A pooled group's mixed difference of its mean and its row. -/
def mixed (g : Fin 4) (n o : ℕ) (ho : o + 128 ≤ 512) (b : Fin 32) (l : Fin 2048) (c : Fin 128) : EReal :=
  ∑ i : Fin 128, (Ideal.div (win A n b l ⟨o + i.val, by omega⟩) (cnt n l) - z A b l ⟨o + i.val, by omega⟩) * A.mix g i c

/-- The four groups. -/
def groups (b : Fin 32) (l : Fin 2048) (c : Fin 512) : EReal :=
  if h : c.val < 128 then mixed A 0 2 0 (by decide) b l ⟨c.val, h⟩
  else if h : c.val - 128 < 128 then mixed A 1 4 128 (by decide) b l ⟨c.val - 128, h⟩
  else if h : c.val - 128 - 128 < 128 then mixed A 2 8 256 (by decide) b l ⟨c.val - 128 - 128, h⟩
  else mixed A 3 16 384 (by decide) b l ⟨c.val - 128 - 128 - 128, by omega⟩

/-- The pooled branch. -/
def pool (b : Fin 32) (l : Fin 2048) (c : Fin 512) : EReal := groups A b l c * A.ps c

/-- The gated pooled branch. -/
def pa (b : Fin 32) (l : Fin 2048) (d : Fin 1024) : EReal := gate A b l ⟨d.val, by omega⟩ * ∑ c, pool A b l c * A.wpo c d

end Cert.Mix
-- ==== Proof.Pay3.lean ====
module
public import proofs.«01_k».proof.Proof.Gen.Kernel3Ideal.Skeleton
public import proofs.«01_k».proof.Proof.Mix
public import Idealize.ShloMosaic.Lib.Pipeline.ValueKit
public import Idealize.ShloMosaic.Lib.Pointwise
public import Idealize.ShloMosaic.Lib.Pipeline.ReadBack
@[expose] public section
set_option maxRecDepth 16384
noncomputable section
/-!
The values that a grid point of the mixer's input stage computes, entry by entry.
-/
namespace Cert.Kernel3Ideal.Out
open Idealize.ShloMosaic Idealize.ShloMosaic.TcCoe Idealize.SL Idealize.SL.Sem Cert.Kernel3Ideal.Gen

/-- The first-half mask. -/
def mk : IVec S256x128 1 := k0_pay10 k0_pay7 k0_pay8 k0_pay9

theorem mk_at (t : Fin 256) (c : Fin 128) : mk (ix2 t c) = if c.val % 64 < 32 then 1#1 else 0#1 := by
  unfold mk
  pointwise [k0_pay10, k0_pay7, k0_pay8, k0_pay9]
  revert c
  decide +kernel

/-- A rotated entry from its row, with tables of cosines and signed sines. -/
def rp (n : ℕ) (hn : n % 64 = 0) (Z : Fin n → EReal) (C S : Fin 128 → EReal) (c : Fin n) : EReal :=
  Z c * C ⟨c.val % 128, by omega⟩
    + (if h : c.val % 64 < 32 then Z ⟨c.val + 32, by omega⟩ else Z ⟨c.val - 32, by omega⟩) * S ⟨c.val % 128, by omega⟩

theorem pay3_at (x : Vec Ideal S1x256x1024 .f32) (g : Vec Ideal S1x1024 .f32) (t : Fin 256) (d : Fin 1024) :
    k0_pay3 (F := Ideal) x g (ix2 t d) = Cert.Stage.rms (fun d => (x (ix3 0 t d) : EReal)) (fun d => g (ix2 0 d)) d := by
  unfold Cert.Stage.rms
  pointwise [k0_pay3]

theorem pay11_at (H : FVec Ideal S256x1024 .bf16) (W : Vec Ideal S1024x512 .bf16) (t : Fin 256) (c : Fin 512) :
    k0_pay11 (F := Ideal) H W (ix2 t c) = (∑ k : Fin 1024, H (ix2 t k) * W (ix2 k c) : EReal) := by
  pointwise [k0_pay11]

theorem tree2 (f : ℕ → EReal) : f 0 + f 1 = ∑ k ∈ Finset.range 2, f k := by
  simp only [Finset.sum_range_succ, Finset.sum_range_zero, zero_add, add_assoc]

theorem tree4 (f : ℕ → EReal) : (f 0 + f 1) + (f 2 + f 3) = ∑ k ∈ Finset.range 4, f k := by
  simp only [Finset.sum_range_succ, Finset.sum_range_zero, zero_add, add_assoc]

theorem tree8 (f : ℕ → EReal) : ((f 0 + f 1) + (f 2 + f 3)) + ((f 4 + f 5) + (f 6 + f 7)) = ∑ k ∈ Finset.range 8, f k := by
  simp only [Finset.sum_range_succ, Finset.sum_range_zero, zero_add, add_assoc]

theorem tree16 (f : ℕ → EReal) : (((f 0 + f 1) + (f 2 + f 3)) + ((f 4 + f 5) + (f 6 + f 7))) + (((f 8 + f 9) + (f 10 + f 11)) + ((f 12 + f 13) + (f 14 + f 15))) = ∑ k ∈ Finset.range 16, f k := by
  simp only [Finset.sum_range_succ, Finset.sum_range_zero, zero_add, add_assoc]

theorem rp_of {n : ℕ} (hn : n % 64 = 0) (Z : Fin n → EReal) (C S : Fin 128 → EReal) (c : Fin n) (r : ℕ) (i0 i1 i2 : Fin n) (d : Fin 128)
    (h0 : i0.val = c.val) (hr : r % 64 = c.val % 64) (h1 : r % 64 < 32 → i1.val = c.val + 32) (h2 : ¬ r % 64 < 32 → i2.val = c.val - 32)
    (hd : d.val = c.val % 128) :
    Z i0 * C d + Scalar.select (if r % 64 < 32 then 1#1 else 0#1) (Z i1) (Z i2) * S d = rp n hn Z C S c := by
  unfold rp
  have e0 : i0 = c := Fin.ext h0
  have ed : d = ⟨c.val % 128, by omega⟩ := Fin.ext hd
  rw [e0, ed]
  by_cases h : r % 64 < 32
  · have e1 : i1 = ⟨c.val + 32, by omega⟩ := Fin.ext (h1 h)
    rw [if_pos h, dif_pos (by omega), e1]
    rfl
  · have e2 : i2 = ⟨c.val - 32, by omega⟩ := Fin.ext (h2 h)
    rw [if_neg h, dif_neg (by omega), e2]
    rfl

theorem pay25_at (H : FVec Ideal S256x1024 .bf16) (b : Vec Ideal S1x2048 .f32) (W : Vec Ideal S1024x1024 .bf16) (t : Fin 256) (c : Fin 1024) :
    k0_pay25 (F := Ideal) H (k0_pay22 (F := Ideal) b) (k0_pay24 (F := Ideal) W) (constant S256x1024 .f32 0x00000000#32) (ix3 0 t c) = Ideal.div 1 (1 + Ideal.exp (-((∑ k : Fin 1024, H (ix2 t k) * W (ix2 k c)) + b (ix2 0 ⟨1024 + c.val, by omega⟩) : EReal))) := by
  pointwise [k0_pay25, k0_pay22, k0_pay24]
  rfl

theorem pay28_at (H : FVec Ideal S256x1024 .bf16) (W : Vec Ideal S1024x512 .bf16) (t : Fin 256) (c : Fin 512) :
    k0_pay28 (F := Ideal) H W (ix3 0 t c) = (∑ k : Fin 1024, H (ix2 t k) * W (ix2 k c) : EReal) := by
  pointwise [k0_pay28]

theorem pay15_at (H : FVec Ideal S256x1024 .bf16) (W : Vec Ideal S1024x512 .bf16) (P : Vec Ideal S1x16x512 .f32) (a : Fin 16) (c : Fin 512) :
    k0_pay15 (F := Ideal) H W P (ix3 0 a c) = (∑ k : Fin 1024, H (ix2 ⟨240 + a.val, by omega⟩ k) * W (ix2 k c) : EReal) := by
  pointwise [k0_pay15, k0_pay14, k0_pay13, k0_pay11]
  rw [dif_neg (by omega)]
  have e : 256 + a.val - 16 = 240 + a.val := by omega
  simp only [e]

theorem pay14_at (H : FVec Ideal S256x1024 .bf16) (W : Vec Ideal S1024x512 .bf16) (P : Vec Ideal S1x16x512 .f32) (a : Fin 16) (c : Fin 512) :
    k0_pay14 (F := Ideal) H W P (ix3 0 a c) = (∑ k : Fin 1024, H (ix2 ⟨240 + a.val, by omega⟩ k) * W (ix2 k c) : EReal) := by
  pointwise [k0_pay14, k0_pay13, k0_pay11]
  rw [dif_neg (by omega)]
  have e : 256 + a.val - 16 = 240 + a.val := by omega
  simp only [e]

theorem pay16_at (H : FVec Ideal S256x1024 .bf16) (W : Vec Ideal S1024x512 .bf16) (P : Vec Ideal S1x16x512 .f32) (q : Fin 272) (c : Fin 512) :
    k0_pay16 (F := Ideal) H W P (ix2 q c) = (if h : q.val < 16 then P (ix3 0 ⟨q.val, h⟩ c) else ∑ k : Fin 1024, H (ix2 ⟨q.val - 16, by omega⟩ k) * W (ix2 k c) : EReal) := by
  pointwise [k0_pay16, k0_pay13, k0_pay11]

theorem pay12_at (P : Vec Ideal S1x16x512 .f32) (a : Fin 16) (c : Fin 512) : k0_pay12 (F := Ideal) P (ix3 0 a c) = P (ix3 0 a c) := by
  pointwise [k0_pay12]

theorem pay26_at (H : FVec Ideal S256x1024 .bf16) (C S : Vec Ideal S256x128 .f32) (W : Vec Ideal S1024x512 .bf16) (t : Fin 256) (c : Fin 512) :
    k0_pay26 (F := Ideal) H (k0_pay4 (F := Ideal) C) (k0_pay5 (F := Ideal) S) mk W (ix3 0 t c)
      = rp 512 (by decide) (fun c => (∑ k : Fin 1024, H (ix2 t k) * W (ix2 k c) : EReal)) (fun c => C (ix2 t c)) (fun c => S (ix2 t c)) c := by
  have e := mk_at
  generalize mk = M at *
  pointwise [k0_pay26, k0_pay4, k0_pay5]
  simp only [e]
  split
  · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
  · split
    · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
    · split
      · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
      · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))

theorem pay27_at (H : FVec Ideal S256x1024 .bf16) (C S : Vec Ideal S256x128 .f32) (W : Vec Ideal S1024x512 .bf16) (t : Fin 256) (c : Fin 512) :
    k0_pay27 (F := Ideal) H (k0_pay4 (F := Ideal) C) (k0_pay5 (F := Ideal) S) mk W (ix3 0 t c)
      = rp 512 (by decide) (fun c => (∑ k : Fin 1024, H (ix2 t k) * W (ix2 k c) : EReal)) (fun c => C (ix2 t c)) (fun c => S (ix2 t c)) c := by
  have e := mk_at
  generalize mk = M at *
  pointwise [k0_pay27, k0_pay4, k0_pay5]
  simp only [e]
  split
  · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
  · split
    · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
    · split
      · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
      · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))

theorem pay29_at (H : FVec Ideal S256x1024 .bf16) (C S : Vec Ideal S256x128 .f32) (W : Vec Ideal S1024x512 .bf16) (t : Fin 256) (c : Fin 512) :
    k0_pay29 (F := Ideal) H (k0_pay4 (F := Ideal) C) (k0_pay5 (F := Ideal) S) mk W (ix3 0 t c)
      = rp 512 (by decide) (fun c => (∑ k : Fin 1024, H (ix2 t k) * W (ix2 k c) : EReal)) (fun c => C (ix2 t c)) (fun c => S (ix2 t c)) c := by
  have e := mk_at
  generalize mk = M at *
  pointwise [k0_pay29, k0_pay4, k0_pay5]
  simp only [e]
  split
  · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
  · split
    · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
    · split
      · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))
      · exact rp_of (by decide) (fun c => (∑ k : Fin 1024, H (ix2 t k) * W (ix2 k c) : EReal)) (fun c => C (ix2 t c)) (fun c => S (ix2 t c)) c _ _ _ _ _ (by first | rfl | omega | (dsimp only; omega)) (by first | rfl | omega | (dsimp only; omega)) (by intro _; first | omega | (dsimp only at *; omega)) (by intro _; first | omega | (dsimp only at *; omega)) (by first | rfl | omega | (dsimp only; omega))

theorem pay1_at (H : FVec Ideal S256x1024 .bf16) (C S : Vec Ideal S256x128 .f32) (W : Vec Ideal S1024x256 .bf16) (t : Fin 256) (c : Fin 64) :
    k0_pay1 (F := Ideal) (k0_pay4 (F := Ideal) C) (k0_pay5 (F := Ideal) S) mk (k0_pay30 (F := Ideal) H W) (k0_pay31 (F := Ideal) H W) 96#32 (ix3 0 t c)
      = rp 256 (by decide) (fun c => (∑ k : Fin 1024, H (ix2 t k) * W (ix2 k c) : EReal)) (fun c => C (ix2 t c)) (fun c => S (ix2 t c)) ⟨c.val, by omega⟩ := by
  have e := mk_at
  generalize mk = M at *
  pointwise [k0_pay1, k0_pay30, k0_pay31, k0_pay4, k0_pay5]
  simp only [e]
  rw [dif_pos (by omega)]
  exact rp_of (by decide) (fun c => (∑ k : Fin 1024, H (ix2 t k) * W (ix2 k c) : EReal)) (fun c => C (ix2 t c)) (fun c => S (ix2 t c)) ⟨c.val, by omega⟩ _ _ _ _ _ (by first | rfl | omega | (dsimp only; omega)) (by first | rfl | omega | (dsimp only; omega)) (by intro _; first | omega | (dsimp only at *; omega)) (by intro _; first | omega | (dsimp only at *; omega)) (by first | rfl | omega | (dsimp only; omega))

/-- A pooled group of a tile: rows `E` with sixteen before, the tile's rows `p`, the positions `P1` and the cap `w`. -/
def grp (n o : ℕ) (ho : o + 128 ≤ 512) (w : EReal) (E : Vec Ideal S272x512 .f32) (p : Vec Ideal S256x512 .f32) (P1 : Vec Ideal S256x128 .f32)
    (m : Fin 128 → Fin 128 → EReal) (t : Fin 256) (c : Fin 128) : EReal :=
  ∑ x : Fin 128, (Ideal.div (∑ k ∈ Finset.range n, E (ix2 ⟨16 + t.val - k, by omega⟩ ⟨o + x.val, by omega⟩)) (min (P1 (ix2 t x)) w) - p (ix2 t ⟨o + x.val, by omega⟩)) * m x c

theorem pay17_at (H : FVec Ideal S256x1024 .bf16) (P1 : Vec Ideal S256x128 .f32) (W : Vec Ideal S1024x512 .bf16) (P : Vec Ideal S1x16x512 .f32) (m : Vec Ideal S1x128x128 .bf16) (t : Fin 256) (c : Fin 128) :
    k0_pay17 (F := Ideal) H (k0_pay6 (F := Ideal) P1) W P m (ix2 t c) = grp 2 0 (by decide) (Ideal.ofBits FTy.f32 0x40000000#32) (k0_pay16 (F := Ideal) H W P) (k0_pay11 (F := Ideal) H W) P1 (fun x c => m (ix3 0 x c)) t c := by
  unfold k0_pay17
  generalize (k0_pay16 (F := Ideal) H W P) = E
  generalize k0_pay11 (F := Ideal) H W = p
  pointwise [k0_pay6]
  unfold grp
  refine Finset.sum_congr rfl fun x _ => ?_
  refine congrArg₂ (fun s r : EReal => s * r) (congrArg₂ (fun s r : EReal => s - r) (congrArg₂ Ideal.div (Eq.trans ?_ (tree2 fun k => E (ix2 ⟨16 + t.val - k, by omega⟩ ⟨_ + x.val, _⟩))) rfl) (congrArg (fun j => p (ix2 t j)) (Fin.ext (by dsimp only <;> omega)))) rfl
  repeat' first | exact congrArg₂ (fun i j => E (ix2 i j)) (Fin.ext (by dsimp only <;> omega)) (Fin.ext (by dsimp only <;> omega)) | refine congrArg₂ (fun x y : EReal => x + y) ?_ ?_

theorem pay19_at (H : FVec Ideal S256x1024 .bf16) (P1 : Vec Ideal S256x128 .f32) (W : Vec Ideal S1024x512 .bf16) (P : Vec Ideal S1x16x512 .f32) (p : FVec Ideal S256x512 .f32) (m : Vec Ideal S1x128x128 .bf16) (t : Fin 256) (c : Fin 128) :
    k0_pay19 (F := Ideal) (k0_pay6 (F := Ideal) P1) p (k0_pay18 (F := Ideal) H W P) 1#32 m (ix2 t c) = grp 4 128 (by decide) (Ideal.ofBits FTy.f32 0x40800000#32) (k0_pay16 (F := Ideal) H W P) p P1 (fun x c => m (ix3 0 x c)) t c := by
  unfold k0_pay18
  generalize (k0_pay16 (F := Ideal) H W P) = E
  pointwise [k0_pay19, k0_pay6]
  unfold grp
  refine Finset.sum_congr rfl fun x _ => ?_
  refine congrArg₂ (fun s r : EReal => s * r) (congrArg₂ (fun s r : EReal => s - r) (congrArg₂ Ideal.div (Eq.trans ?_ (tree4 fun k => E (ix2 ⟨16 + t.val - k, by omega⟩ ⟨_ + x.val, _⟩))) rfl) (congrArg (fun j => p (ix2 t j)) (Fin.ext (by dsimp only <;> omega)))) rfl
  repeat' first | exact congrArg₂ (fun i j => E (ix2 i j)) (Fin.ext (by dsimp only <;> omega)) (Fin.ext (by dsimp only <;> omega)) | refine congrArg₂ (fun x y : EReal => x + y) ?_ ?_

set_option maxHeartbeats 4000000 in
theorem pay20_at (P1 : Vec Ideal S256x128 .f32) (E : FVec Ideal S272x512 .f32) (p : FVec Ideal S256x512 .f32) (m : Vec Ideal S1x128x128 .bf16) (t : Fin 256) (c : Fin 128) :
    k0_pay20 (F := Ideal) (k0_pay6 (F := Ideal) P1) p E m (ix2 t c) = grp 8 256 (by decide) (Ideal.ofBits FTy.f32 0x41000000#32) E p P1 (fun x c => m (ix3 0 x c)) t c := by
  pointwise [k0_pay20, k0_pay6]
  unfold grp
  refine Finset.sum_congr rfl fun x _ => ?_
  refine congrArg₂ (fun s r : EReal => s * r) (congrArg₂ (fun s r : EReal => s - r) (congrArg₂ Ideal.div (Eq.trans ?_ (tree8 fun k => E (ix2 ⟨16 + t.val - k, by omega⟩ ⟨_ + x.val, _⟩))) rfl) (congrArg (fun j => p (ix2 t j)) (Fin.ext (by dsimp only <;> omega)))) rfl
  repeat' first | exact congrArg₂ (fun i j => E (ix2 i j)) (Fin.ext (by dsimp only <;> omega)) (Fin.ext (by dsimp only <;> omega)) | refine congrArg₂ (fun x y : EReal => x + y) ?_ ?_

theorem roll1 (v : FVec Ideal S272x128 .f32) (q : ℕ) (hq : q < 272) (h : 1 ≤ q) (x : Fin 128) :
    addf (F := Ideal) v (dynamicRotate 0 1#32 none v rotates_S272x128_d0) (ix2 ⟨q, hq⟩ x) = (v (ix2 ⟨q, hq⟩ x) + v (ix2 ⟨q - 1, by omega⟩ x) : EReal) := by
  pointwise []
  exact congrArg (fun j => (v (ix2 ⟨q, hq⟩ x) + v (ix2 j x) : EReal)) (Fin.ext (by dsimp only <;> omega))

theorem roll2 (v : FVec Ideal S272x128 .f32) (q : ℕ) (hq : q < 272) (h : 2 ≤ q) (x : Fin 128) :
    addf (F := Ideal) v (dynamicRotate 0 2#32 none v rotates_S272x128_d0) (ix2 ⟨q, hq⟩ x) = (v (ix2 ⟨q, hq⟩ x) + v (ix2 ⟨q - 2, by omega⟩ x) : EReal) := by
  pointwise []
  exact congrArg (fun j => (v (ix2 ⟨q, hq⟩ x) + v (ix2 j x) : EReal)) (Fin.ext (by dsimp only <;> omega))

theorem roll4 (v : FVec Ideal S272x128 .f32) (q : ℕ) (hq : q < 272) (h : 4 ≤ q) (x : Fin 128) :
    addf (F := Ideal) v (dynamicRotate 0 4#32 none v rotates_S272x128_d0) (ix2 ⟨q, hq⟩ x) = (v (ix2 ⟨q, hq⟩ x) + v (ix2 ⟨q - 4, by omega⟩ x) : EReal) := by
  pointwise []
  exact congrArg (fun j => (v (ix2 ⟨q, hq⟩ x) + v (ix2 j x) : EReal)) (Fin.ext (by dsimp only <;> omega))

theorem pay21_at (E : FVec Ideal S272x512 .f32) (q : ℕ) (hq : q < 272) (h : 8 ≤ q) (x : Fin 128) :
    k0_pay21 (F := Ideal) E (ix2 ⟨q, hq⟩ x) = (∑ k ∈ Finset.range 8, E (ix2 ⟨q - k, by omega⟩ ⟨384 + x.val, by omega⟩) : EReal) := by
  refine Eq.trans ?_ (tree8 fun k => E (ix2 ⟨q - k, by omega⟩ ⟨384 + x.val, by omega⟩))
  have e : ∀ (i : ℕ) (hi : i < 272), extractStridedSlice S272x128 ![0, 384] E slices_S272x512_o0_384_S272x128 (ix2 ⟨i, hi⟩ x) = E (ix2 ⟨i, hi⟩ ⟨384 + x.val, by omega⟩) := fun i hi => by
    pointwise []
  unfold k0_pay21
  dsimp only
  rw [roll4 _ _ _ (by omega), roll2 _ _ _ (by omega), roll2 _ _ _ (by omega), roll1 _ _ _ (by omega), roll1 _ _ _ (by omega), roll1 _ _ _ (by omega), roll1 _ _ _ (by omega)]
  simp only [e]
  repeat' first | exact congrArg₂ (fun i j => E (ix2 i j)) (Fin.ext (by dsimp only <;> omega)) (Fin.ext (by dsimp only <;> omega)) | refine congrArg₂ (fun x y : EReal => x + y) ?_ ?_

theorem pay23_at (H : FVec Ideal S256x1024 .bf16) (P1 : Vec Ideal S256x128 .f32) (E : FVec Ideal S272x512 .f32) (p : FVec Ideal S256x512 .f32) (g0 g1 g2 : FVec Ideal S256x128 .f32)
    (m : Vec Ideal S1x128x128 .bf16) (ps : Vec Ideal S1x512 .f32) (wpo : Vec Ideal S512x1024 .bf16) (b : Vec Ideal S1x2048 .f32) (W : Vec Ideal S1024x1024 .bf16) (t : Fin 256) (d : Fin 1024) :
    k0_pay23 (F := Ideal) H (k0_pay6 (F := Ideal) P1) p g0 g1 g2 (k0_pay21 (F := Ideal) E) 8#32 m ps wpo b W (ix3 0 t d)
      = (Ideal.div 1 (1 + Ideal.exp (-((∑ k : Fin 1024, H (ix2 t k) * W (ix2 k d)) + b (ix2 0 ⟨d.val, by omega⟩)))) * ∑ c : Fin 512,
          (if h : c.val < 128 then g0 (ix2 t ⟨c.val, h⟩) else if h : c.val - 128 < 128 then g1 (ix2 t ⟨c.val - 128, h⟩)
            else if h : c.val - 128 - 128 < 128 then g2 (ix2 t ⟨c.val - 128 - 128, h⟩)
            else grp 16 384 (by decide) (Ideal.ofBits FTy.f32 0x41800000#32) E p P1 (fun x c => m (ix3 0 x c)) t ⟨c.val - 128 - 128 - 128, by omega⟩) * ps (ix2 0 c) * wpo (ix2 c d) : EReal) := by
  have e := pay21_at E
  generalize k0_pay21 (F := Ideal) E = M at *
  pointwise [k0_pay23, k0_pay22, k0_pay6]
  refine congrArg₂ (fun x y : EReal => x * y) rfl (Finset.sum_congr rfl fun y _ => congrArg (fun s : EReal => s * _ * _) ?_)
  split
  · rfl
  · split
    · rfl
    · split
      · rfl
      · unfold grp
        refine Finset.sum_congr rfl fun x _ => ?_
        refine congrArg₂ (fun s r : EReal => s * r) (congrArg₂ (fun s r : EReal => s - r) (congrArg₂ Ideal.div ?_ rfl) rfl) rfl
        rw [e _ _ (by omega), e _ _ (by omega)]
        refine Eq.trans (congrArg₂ (fun x y : EReal => x + y) rfl (Finset.sum_congr rfl fun k hk => ?_)) (Finset.sum_range_add (fun k => E (ix2 ⟨16 + t.val - k, by omega⟩ ⟨384 + x.val, by omega⟩)) 8 8).symm
        have := Finset.mem_range.mp hk
        exact congrArg₂ (fun i j => E (ix2 i j)) (Fin.ext (by dsimp only <;> omega)) rfl

end Cert.Kernel3Ideal.Out
-- ==== Proof.Case3.lean ====
module
public import proofs.«01_k».proof.Proof.Gen.Kernel3Ideal.Value
public import proofs.«01_k».proof.Proof.Pay3
@[expose] public section
set_option maxRecDepth 16384
noncomputable section
/-!
What each case of the mixer's input stage leaves.
-/
namespace Cert.Kernel3Ideal.Out
open Idealize.ShloMosaic Idealize.ShloMosaic.TcCoe Idealize.SL Idealize.SL.Sem Cert.Kernel3Ideal.Gen

theorem inbW (o n : ℕ) (h : o + n ≤ 4992) (a : Fin S1024x4992.rank) :
    (![0, o] : Fin 2 → ℕ) a + (![1024, n] : Fin 2 → ℕ) a ≤ S1024x4992.size a := by
  match a with
  | ⟨0, _⟩ => exact Nat.le_refl _
  | ⟨1, _⟩ => exact h
theorem inbM (g : ℕ) (h : g + 1 ≤ 4) (a : Fin S4x128x128.rank) :
    (![g, 0, 0] : Fin 3 → ℕ) a + (![1, 128, 128] : Fin 3 → ℕ) a ≤ S4x128x128.size a := by
  match a with
  | ⟨0, _⟩ => exact h
  | ⟨1, _⟩ => exact Nat.le_refl _
  | ⟨2, _⟩ => exact Nat.le_refl _

def ldW (x : Vec Ideal S1024x4992 .bf16) (o : ℕ) (h : o + 512 ≤ 4992) : Vec Ideal S1024x512 .bf16 :=
  View.ld x (Rect.unit ![0, o] ![1024, 512] (inbW o 512 h))
def ldG (x : Vec Ideal S1024x4992 .bf16) (o : ℕ) (h : o + 1024 ≤ 4992) : Vec Ideal S1024x1024 .bf16 :=
  View.ld x (Rect.unit ![0, o] ![1024, 1024] (inbW o 1024 h))
def ldI (x : Vec Ideal S1024x4992 .bf16) (o : ℕ) (h : o + 256 ≤ 4992) : Vec Ideal S1024x256 .bf16 :=
  View.ld x (Rect.unit ![0, o] ![1024, 256] (inbW o 256 h))
def ldM (x : Vec Ideal S4x128x128 .bf16) (g : ℕ) (h : g + 1 ≤ 4) : Vec Ideal S1x128x128 .bf16 :=
  View.ld x (Rect.unit ![g, 0, 0] ![1, 128, 128] (inbM g h))

theorem ldW_at (x : Vec Ideal S1024x4992 .bf16) (o : ℕ) (h : o + 512 ≤ 4992) (k : Fin 1024) (c : Fin 512) :
    ldW x o h (ix2 k c) = x (ix2 k ⟨o + c.val, by omega⟩) := by
  unfold ldW
  pointwise []
theorem ldG_at (x : Vec Ideal S1024x4992 .bf16) (o : ℕ) (h : o + 1024 ≤ 4992) (k c : Fin 1024) :
    ldG x o h (ix2 k c) = x (ix2 k ⟨o + c.val, by omega⟩) := by
  unfold ldG
  pointwise []
theorem ldI_at (x : Vec Ideal S1024x4992 .bf16) (o : ℕ) (h : o + 256 ≤ 4992) (k : Fin 1024) (c : Fin 256) :
    ldI x o h (ix2 k c) = x (ix2 k ⟨o + c.val, by omega⟩) := by
  unfold ldI
  pointwise []
theorem ldM_at (x : Vec Ideal S4x128x128 .bf16) (g : ℕ) (h : g + 1 ≤ 4) (k c : Fin 128) :
    ldM x g h (ix3 0 k c) = x (ix3 ⟨g, by omega⟩ k c) := by
  unfold ldM
  pointwise []

/-- The gated pooled branch of a tile with normed rows `H` and carried rows `P`. -/
def tPA (H : FVec Ideal S256x1024 .bf16) (P : Vec Ideal S1x16x512 .f32) (x4 : Vec Ideal S256x128 .f32) (x6 : Vec Ideal S1024x4992 .bf16) (x7 : Vec Ideal S1x2048 .f32)
    (x8 : Vec Ideal S4x128x128 .bf16) (x9 : Vec Ideal S1x512 .f32) (x10 : Vec Ideal S512x1024 .bf16) : Vec Ideal S1x256x1024 .bf16 :=
  k0_pay23 (F := Ideal) H (k0_pay6 (F := Ideal) x4) (k0_pay11 (F := Ideal) H (ldW x6 0 (by decide)))
    (k0_pay17 (F := Ideal) H (k0_pay6 (F := Ideal) x4) (ldW x6 0 (by decide)) P (ldM x8 0 (by decide)))
    (k0_pay19 (F := Ideal) (k0_pay6 (F := Ideal) x4) (k0_pay11 (F := Ideal) H (ldW x6 0 (by decide))) (k0_pay18 (F := Ideal) H (ldW x6 0 (by decide)) P) 1#32 (ldM x8 1 (by decide)))
    (k0_pay20 (F := Ideal) (k0_pay6 (F := Ideal) x4) (k0_pay11 (F := Ideal) H (ldW x6 0 (by decide))) (k0_pay16 (F := Ideal) H (ldW x6 0 (by decide)) P) (ldM x8 2 (by decide)))
    (k0_pay21 (F := Ideal) (k0_pay16 (F := Ideal) H (ldW x6 0 (by decide)) P)) 8#32 (ldM x8 3 (by decide)) x9 x10 x7 (ldG x6 2944 (by decide))

variable {c : Dev nD} {i : grid0.Coords} {arg2 : Memref sig .tc .vmem S1x256x1024 .f32} {harg2 : arg2.IsWhole} {arg3 : Memref sig .tc .vmem S1x16x512 .f32} {harg3 : arg3.IsWhole} {arg4 : Memref sig .tc .vmem S256x128 .f32} {harg4 : arg4.IsWhole} {arg5 : Memref sig .tc .vmem S256x128 .f32} {harg5 : arg5.IsWhole} {arg6 : Memref sig .tc .vmem S256x128 .f32} {harg6 : arg6.IsWhole} {arg7 : Memref sig .tc .vmem S1x1024 .f32} {harg7 : arg7.IsWhole} {arg8 : Memref sig .tc .vmem S1024x4992 .bf16} {harg8 : arg8.IsWhole} {arg9 : Memref sig .tc .vmem S1x2048 .f32} {harg9 : arg9.IsWhole} {arg10 : Memref sig .tc .vmem S4x128x128 .bf16} {harg10 : arg10.IsWhole} {arg11 : Memref sig .tc .vmem S1x512 .f32} {harg11 : arg11.IsWhole} {arg12 : Memref sig .tc .vmem S512x1024 .bf16} {harg12 : arg12.IsWhole} {arg13 : Memref sig .tc .vmem S1x256x1024 .bf16} {harg13 : arg13.IsWhole} {arg14 : Memref sig .tc .vmem S1x256x1024 .bf16} {harg14 : arg14.IsWhole} {arg15 : Memref sig .tc .vmem S1x256x512 .bf16} {harg15 : arg15.IsWhole} {arg16 : Memref sig .tc .vmem S1x256x512 .f32} {harg16 : arg16.IsWhole} {arg17 : Memref sig .tc .vmem S1x256x512 .f32} {harg17 : arg17.IsWhole} {arg18 : Memref sig .tc .vmem S1x256x512 .f32} {harg18 : arg18.IsWhole} {arg19 : Memref sig .tc .vmem S1x256x128 .f32} {harg19 : arg19.IsWhole} {arg20 : Memref sig .tc .vmem S1x256x64 .f32} {harg20 : arg20.IsWhole} {arg21 : Memref sig .tc .vmem S1x16x512 .f32} {harg21 : arg21.IsWhole} {arg22 : Memref sig .tc .vmem S1x16x512 .f32} {harg22 : arg22.IsWhole} {hA : cond0_0 i} {hB : ¬cond0_0 i} {x0 : Vec Ideal S1x256x1024 .f32} {x1 : Vec Ideal S1x16x512 .f32} {x2 : Vec Ideal S256x128 .f32} {x3 : Vec Ideal S256x128 .f32} {x4 : Vec Ideal S256x128 .f32} {x5 : Vec Ideal S1x1024 .f32} {x6 : Vec Ideal S1024x4992 .bf16} {x7 : Vec Ideal S1x2048 .f32} {x8 : Vec Ideal S4x128x128 .bf16} {x9 : Vec Ideal S1x512 .f32} {x10 : Vec Ideal S512x1024 .bf16} {xs0 : Vec Ideal S1x16x512 .f32}

set_option maxHeartbeats 2000000 in
theorem A11 : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = tPA (k0_pay3 (F := Ideal) x0 x5) (k0_pay12 (F := Ideal) x1) x4 x6 x7 x8 x9 x10 := by
  frame_open
  simp (config := { decide := true }) only [↓View.readCov_skip, ↓View.readCov_fill]
  frame_out
  rfl
set_option maxHeartbeats 2000000 in
theorem A12 : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay25 (F := Ideal) (k0_pay3 (F := Ideal) x0 x5) (k0_pay22 (F := Ideal) x7) (k0_pay24 (F := Ideal) (ldG x6 3968 (by decide))) (constant S256x1024 .f32 0x00000000#32) := by
  frame_out
  rfl
set_option maxHeartbeats 2000000 in
theorem A13 : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay26 (F := Ideal) (k0_pay3 (F := Ideal) x0 x5) (k0_pay4 (F := Ideal) x2) (k0_pay5 (F := Ideal) x3) mk (ldW x6 512 (by decide)) := by
  frame_out
  rfl
set_option maxHeartbeats 2000000 in
theorem A14 : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay27 (F := Ideal) (k0_pay3 (F := Ideal) x0 x5) (k0_pay4 (F := Ideal) x2) (k0_pay5 (F := Ideal) x3) mk (ldW x6 1024 (by decide)) := by
  frame_out
  rfl
set_option maxHeartbeats 2000000 in
theorem A15 : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay28 (F := Ideal) (k0_pay3 (F := Ideal) x0 x5) (ldW x6 1536 (by decide)) := by
  frame_out
  rfl
set_option maxHeartbeats 2000000 in
theorem A16 : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay29 (F := Ideal) (k0_pay3 (F := Ideal) x0 x5) (k0_pay4 (F := Ideal) x2) (k0_pay5 (F := Ideal) x3) mk (ldW x6 2048 (by decide)) := by
  frame_out
  rfl
set_option maxHeartbeats 2000000 in
theorem A18 : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay1 (F := Ideal) (k0_pay4 (F := Ideal) x2) (k0_pay5 (F := Ideal) x3) mk (k0_pay30 (F := Ideal) (k0_pay3 (F := Ideal) x0 x5) (ldI x6 2560 (by decide))) (k0_pay31 (F := Ideal) (k0_pay3 (F := Ideal) x0 x5) (ldI x6 2560 (by decide))) 96#32 := by
  frame_out
  rfl
set_option maxHeartbeats 2000000 in
theorem A19 : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay14 (F := Ideal) (k0_pay3 (F := Ideal) x0 x5) (ldW x6 0 (by decide)) (k0_pay12 (F := Ideal) x1) := by
  frame_open
  simp (config := { decide := true }) only [↓View.readCov_skip, ↓View.readCov_fill]
  frame_out
  rfl
set_option maxHeartbeats 2000000 in
theorem As : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hA x0 x1 x2 x3 x4 x5 x6 x7 x8 x9 x10 = k0_pay15 (F := Ideal) (k0_pay3 (F := Ideal) x0 x5) (ldW x6 0 (by decide)) (k0_pay12 (F := Ideal) x1) := by
  frame_open
  simp (config := { decide := true }) only [↓View.readCov_skip, ↓View.readCov_fill]
  frame_out
  rfl
set_option maxHeartbeats 2000000 in
theorem B11 : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = tPA (k0_pay3 (F := Ideal) x0 x5) xs0 x4 x6 x7 x8 x9 x10 := by
  frame_out
  rfl
set_option maxHeartbeats 2000000 in
theorem B12 : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay25 (F := Ideal) (k0_pay3 (F := Ideal) x0 x5) (k0_pay22 (F := Ideal) x7) (k0_pay24 (F := Ideal) (ldG x6 3968 (by decide))) (constant S256x1024 .f32 0x00000000#32) := by
  frame_out
  rfl
set_option maxHeartbeats 2000000 in
theorem B13 : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay26 (F := Ideal) (k0_pay3 (F := Ideal) x0 x5) (k0_pay4 (F := Ideal) x2) (k0_pay5 (F := Ideal) x3) mk (ldW x6 512 (by decide)) := by
  frame_out
  rfl
set_option maxHeartbeats 2000000 in
theorem B14 : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay27 (F := Ideal) (k0_pay3 (F := Ideal) x0 x5) (k0_pay4 (F := Ideal) x2) (k0_pay5 (F := Ideal) x3) mk (ldW x6 1024 (by decide)) := by
  frame_out
  rfl
set_option maxHeartbeats 2000000 in
theorem B15 : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay28 (F := Ideal) (k0_pay3 (F := Ideal) x0 x5) (ldW x6 1536 (by decide)) := by
  frame_out
  rfl
set_option maxHeartbeats 2000000 in
theorem B16 : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay29 (F := Ideal) (k0_pay3 (F := Ideal) x0 x5) (k0_pay4 (F := Ideal) x2) (k0_pay5 (F := Ideal) x3) mk (ldW x6 2048 (by decide)) := by
  frame_out
  rfl
set_option maxHeartbeats 2000000 in
theorem B18 : out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay1 (F := Ideal) (k0_pay4 (F := Ideal) x2) (k0_pay5 (F := Ideal) x3) mk (k0_pay30 (F := Ideal) (k0_pay3 (F := Ideal) x0 x5) (ldI x6 2560 (by decide))) (k0_pay31 (F := Ideal) (k0_pay3 (F := Ideal) x0 x5) (ldI x6 2560 (by decide))) 96#32 := by
  frame_out
  rfl
set_option maxHeartbeats 2000000 in
theorem B19 : out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay14 (F := Ideal) (k0_pay3 (F := Ideal) x0 x5) (ldW x6 0 (by decide)) xs0 := by
  frame_out
  rfl
set_option maxHeartbeats 2000000 in
theorem Bs : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hB x0 x1 x2 x3 x4 x5 x6 x7 x8 x9 x10 xs0 = k0_pay15 (F := Ideal) (k0_pay3 (F := Ideal) x0 x5) (ldW x6 0 (by decide)) xs0 := by
  frame_out
  rfl

end Cert.Kernel3Ideal.Out
-- ==== Proof.Blk3.lean ====
module
public import proofs.«01_k».proof.Proof.Gen.Kernel3Ideal.Value
public import proofs.«01_k».proof.Proof.Mix
public import Idealize.ShloMosaic.Lib.Pipeline.ValueKit
public import Idealize.ShloMosaic.Lib.Pointwise
public import Idealize.ShloMosaic.Lib.Pipeline.ReadBack
public import Idealize.ShloMosaic.Lib.WordCmp
@[expose] public section
set_option maxRecDepth 16384
noncomputable section
/-!
The blocks that a grid point of the mixer's input stage reads, in terms of the arguments.
-/
namespace Cert.Kernel3Ideal.Out
open Idealize.ShloMosaic Idealize.ShloMosaic.TcCoe Idealize.SL Idealize.SL.Sem Cert.Kernel3Ideal.Gen

theorem ix_0 : ∀ t : Fin grid0.N, cc0_transform_0 (grid0.coords t) = ![t.val / 8, t.val % 8, 0] := by decide +kernel
theorem ix_1 : ∀ t : Fin grid0.N, cc0_transform_1 (grid0.coords t) = ![t.val / 8, 0, 0] := by decide +kernel
theorem ix_2 : ∀ t : Fin grid0.N, cc0_transform_2 (grid0.coords t) = ![t.val % 8, 0] := by decide +kernel
theorem ix_3 : ∀ t : Fin grid0.N, cc0_transform_3 (grid0.coords t) = ![t.val % 8, 0] := by decide +kernel
theorem ix_4 : ∀ t : Fin grid0.N, cc0_transform_4 (grid0.coords t) = ![t.val % 8, 0] := by decide +kernel
theorem ix_5 : ∀ t : Fin grid0.N, cc0_transform_5 (grid0.coords t) = ![0, 0] := by decide +kernel
theorem ix_6 : ∀ t : Fin grid0.N, cc0_transform_6 (grid0.coords t) = ![0, 0] := by decide +kernel
theorem ix_7 : ∀ t : Fin grid0.N, cc0_transform_7 (grid0.coords t) = ![0, 0] := by decide +kernel
theorem ix_8 : ∀ t : Fin grid0.N, cc0_transform_8 (grid0.coords t) = ![0, 0, 0] := by decide +kernel
theorem ix_9 : ∀ t : Fin grid0.N, cc0_transform_9 (grid0.coords t) = ![0, 0] := by decide +kernel
theorem ix_10 : ∀ t : Fin grid0.N, cc0_transform_10 (grid0.coords t) = ![0, 0] := by decide +kernel

variable (m : (ℓ : Loc nD τ sig) → Buf (Elt Ideal) ℓ)

theorem tN (t : Fin cfg0.N) : t.val < 256 := lt_of_lt_of_eq t.isLt N_0

/-- The arguments as the stage's arrays. -/
def args (c : Dev nD) : Cert.Mix.Args where
  x b l d := (m ((c : Thread nD τ).loc main_arg0) : Vec Ideal S32x2048x1024 .f32) (ix3 b l d)
  g d := (m ((c : Thread nD τ).loc main_arg1) : Vec Ideal S1x1024 .f32) (ix2 0 d)
  w k d := (m ((c : Thread nD τ).loc main_arg2) : Vec Ideal S1x1024x4680 .f32) (ix3 0 k d)
  bg d := (m ((c : Thread nD τ).loc main_arg3) : Vec Ideal S1x2048 .f32) (ix2 0 d)
  mix g i d := (m ((c : Thread nD τ).loc main_arg4) : Vec Ideal S1x4x128x128 .f32) (ix4 0 g i d)
  ps d := (m ((c : Thread nD τ).loc main_arg5) : Vec Ideal S1x512 .f32) (ix2 0 d)
  wpo k d := (m ((c : Thread nD τ).loc main_arg6) : Vec Ideal S1x512x1024 .f32) (ix3 0 k d)

/-- The batch of a point and the stage's row of a point's row. -/
def bt (t : Fin cfg0.N) : Fin 32 := ⟨t.val / 8, by have := tN t; omega⟩
def rw (t : Fin cfg0.N) (r : Fin 256) : Fin 2048 := ⟨256 * (t.val % 8) + r.val, by omega⟩

theorem b0 (c : Dev nD) (t : Fin cfg0.N) (i : Fin 256) (x : Fin 1024) :
    (iblk m c 0 t : Vec Ideal S1x256x1024 .f32) (ix3 0 i x) = ((args m c).x (bt t) (rw t i) x : EReal) := by
  refine Eq.trans ?_ (congrFun (V_main_arg0 m c) (ix3 (bt t) (rw t i) x))
  refine congrArg (V m c main_arg0) (funext fun a : Fin 3 => Fin.ext ?_)
  have e : ∀ a : Fin 3, cc0_transform_0 (grid0.coords t) a = (![t.val / 8, t.val % 8, 0] : Fin 3 → ℕ) a := fun a => congrFun (ix_0 t) a
  show cc0_transform_0 (grid0.coords t) a * S1x256x1024.size a + 1 * (ix3 (n0 := 1) 0 i x a).val = _
  rw [e]
  match a with
  | ⟨0, _⟩ => show t.val / 8 * 1 + 1 * 0 = t.val / 8; omega
  | ⟨1, _⟩ => show t.val % 8 * 256 + 1 * i.val = 256 * (t.val % 8) + i.val; omega
  | ⟨2, _⟩ => show 0 * 1024 + 1 * x.val = x.val; omega

theorem V55_at (c : Dev nD) (b : Fin 32) (k : Fin 16) (x : Fin 512) :
    (V m c main_v55 : Vec Ideal S32x16x512 .f32) (ix3 b k x) = (0 : EReal) := by
  show StableHlo.after (List.flatten [hostOps0, hostOps0_1, hostOps0_2]) (fun b => m (c, b)) (Proc.devRef .tc main_v55) (ix3 b k x) = _
  simp only [hostOps0, hostOps0_1, hostOps0_2, List.flatten_cons, List.flatten_nil, List.append_nil, List.cons_append, List.nil_append]
  entry_read
  pointwise []

theorem b1 (c : Dev nD) (t : Fin cfg0.N) (i : Fin 16) (x : Fin 512) :
    (iblk m c 1 t : Vec Ideal S1x16x512 .f32) (ix3 0 i x) = (0 : EReal) := by
  refine Eq.trans ?_ (V55_at m c (bt t) i x)
  refine congrArg (V m c main_v55) (funext fun a : Fin 3 => Fin.ext ?_)
  have e : ∀ a : Fin 3, cc0_transform_1 (grid0.coords t) a = (![t.val / 8, 0, 0] : Fin 3 → ℕ) a := fun a => congrFun (ix_1 t) a
  show cc0_transform_1 (grid0.coords t) a * S1x16x512.size a + 1 * (ix3 (n0 := 1) 0 i x a).val = _
  rw [e]
  match a with
  | ⟨0, _⟩ => show t.val / 8 * 1 + 1 * 0 = t.val / 8; omega
  | ⟨1, _⟩ => show 0 * 16 + 1 * i.val = i.val; omega
  | ⟨2, _⟩ => show 0 * 512 + 1 * x.val = x.val; omega

theorem V18_at (c : Dev nD) (l : Fin 2048) (x : Fin 128) :
    (V m c main_v18 : Vec Ideal S2048x128 .f32) (ix2 l x) = (Ideal.cos (Cert.Mix.ang l ⟨x.val % 32, by omega⟩) : EReal) := by
  show StableHlo.after (List.flatten [hostOps0, hostOps0_1, hostOps0_2]) (fun b => m (c, b)) (Proc.devRef .tc main_v18) (ix2 l x) = _
  simp only [hostOps0, hostOps0_1, hostOps0_2, List.flatten_cons, List.flatten_nil, List.append_nil, List.cons_append, List.nil_append]
  entry_read
  pointwise []
  unfold Cert.Mix.ang
  dsimp only
  by_cases h : x.val % 64 < 32
  · have e : x.val % 64 = x.val % 32 := by omega
    have h32 : x.val % 32 < 32 := by omega
    simp only [e, h32, if_true, dite_true]
  · have e : x.val % 64 - 32 = x.val % 32 := by omega
    simp only [h, e, if_false, dite_false]

theorem V23_at (c : Dev nD) (l : Fin 2048) (x : Fin 128) :
    (V m c main_v23 : Vec Ideal S2048x128 .f32) (ix2 l x) = (if x.val % 64 < 32 then -Ideal.sin (Cert.Mix.ang l ⟨x.val % 32, by omega⟩) else Ideal.sin (Cert.Mix.ang l ⟨x.val % 32, by omega⟩) : EReal) := by
  show StableHlo.after (List.flatten [hostOps0, hostOps0_1, hostOps0_2]) (fun b => m (c, b)) (Proc.devRef .tc main_v23) (ix2 l x) = _
  simp only [hostOps0, hostOps0_1, hostOps0_2, List.flatten_cons, List.flatten_nil, List.append_nil, List.cons_append, List.nil_append]
  entry_read
  pointwise []
  unfold Cert.Mix.ang
  dsimp only
  by_cases h : x.val % 64 < 32
  · have e : x.val % 64 = x.val % 32 := by omega
    have h32 : x.val % 32 < 32 := by omega
    simp only [e, h32, if_true, dite_true]
  · have e : x.val % 64 - 32 = x.val % 32 := by omega
    simp only [h, e, if_false, dite_false]

theorem V28_at (c : Dev nD) (l : Fin 2048) (x : Fin 128) :
    (V m c main_v28 : Vec Ideal S2048x128 .f32) (ix2 l x) = ((((l.val + 1 : ℕ) : ℝ) : EReal) : EReal) := by
  show StableHlo.after (List.flatten [hostOps0, hostOps0_1, hostOps0_2]) (fun b => m (c, b)) (Proc.devRef .tc main_v28) (ix2 l x) = _
  simp only [hostOps0, hostOps0_1, hostOps0_2, List.flatten_cons, List.flatten_nil, List.append_nil, List.cons_append, List.nil_append]
  entry_read
  pointwise []
  have hl := l.isLt
  have hw : IntOp.addi (BitVec.ofNat 32 l.val) 1#32 = BitVec.ofNat 32 (l.val + 1) := by
    apply BitVec.eq_of_toNat_eq
    simp only [IntOp.addi, BitVec.toNat_add, BitVec.toNat_ofNat]
    omega
  rw [hw]
  show (((BitVec.ofNat 32 (l.val + 1)).toInt : ℝ) : EReal) = _
  rw [Idealize.ShloMosaic.WordCmp.toInt_ofNat_of_lt (by omega)]
  rfl

theorem b2 (c : Dev nD) (t : Fin cfg0.N) (i : Fin 256) (x : Fin 128) :
    (iblk m c 2 t : Vec Ideal S256x128 .f32) (ix2 i x) = (Ideal.cos (Cert.Mix.ang (rw t i) ⟨x.val % 32, by omega⟩) : EReal) := by
  refine Eq.trans ?_ (V18_at m c (rw t i) x)
  refine congrArg (V m c main_v18) (funext fun a : Fin 2 => Fin.ext ?_)
  have e : ∀ a : Fin 2, cc0_transform_2 (grid0.coords t) a = (![t.val % 8, 0] : Fin 2 → ℕ) a := fun a => congrFun (ix_2 t) a
  show cc0_transform_2 (grid0.coords t) a * S256x128.size a + 1 * (ix2 i x a).val = _
  rw [e]
  match a with
  | ⟨0, _⟩ => show t.val % 8 * 256 + 1 * i.val = 256 * (t.val % 8) + i.val; omega
  | ⟨1, _⟩ => show 0 * 128 + 1 * x.val = x.val; omega

theorem b3 (c : Dev nD) (t : Fin cfg0.N) (i : Fin 256) (x : Fin 128) :
    (iblk m c 3 t : Vec Ideal S256x128 .f32) (ix2 i x) = (if x.val % 64 < 32 then -Ideal.sin (Cert.Mix.ang (rw t i) ⟨x.val % 32, by omega⟩) else Ideal.sin (Cert.Mix.ang (rw t i) ⟨x.val % 32, by omega⟩) : EReal) := by
  refine Eq.trans ?_ (V23_at m c (rw t i) x)
  refine congrArg (V m c main_v23) (funext fun a : Fin 2 => Fin.ext ?_)
  have e : ∀ a : Fin 2, cc0_transform_3 (grid0.coords t) a = (![t.val % 8, 0] : Fin 2 → ℕ) a := fun a => congrFun (ix_3 t) a
  show cc0_transform_3 (grid0.coords t) a * S256x128.size a + 1 * (ix2 i x a).val = _
  rw [e]
  match a with
  | ⟨0, _⟩ => show t.val % 8 * 256 + 1 * i.val = 256 * (t.val % 8) + i.val; omega
  | ⟨1, _⟩ => show 0 * 128 + 1 * x.val = x.val; omega

theorem b4 (c : Dev nD) (t : Fin cfg0.N) (i : Fin 256) (x : Fin 128) :
    (iblk m c 4 t : Vec Ideal S256x128 .f32) (ix2 i x) = (((((rw t i).val + 1 : ℕ) : ℝ) : EReal) : EReal) := by
  refine Eq.trans ?_ (V28_at m c (rw t i) x)
  refine congrArg (V m c main_v28) (funext fun a : Fin 2 => Fin.ext ?_)
  have e : ∀ a : Fin 2, cc0_transform_4 (grid0.coords t) a = (![t.val % 8, 0] : Fin 2 → ℕ) a := fun a => congrFun (ix_4 t) a
  show cc0_transform_4 (grid0.coords t) a * S256x128.size a + 1 * (ix2 i x a).val = _
  rw [e]
  match a with
  | ⟨0, _⟩ => show t.val % 8 * 256 + 1 * i.val = 256 * (t.val % 8) + i.val; omega
  | ⟨1, _⟩ => show 0 * 128 + 1 * x.val = x.val; omega

theorem V46_at (c : Dev nD) (x : Fin 1024) :
    (V m c main_v46 : Vec Ideal S1x1024 .f32) (ix2 0 x) = ((args m c).g x : EReal) := by
  show StableHlo.after (List.flatten [hostOps0, hostOps0_1, hostOps0_2]) (fun b => m (c, b)) (Proc.devRef .tc main_v46) (ix2 0 x) = _
  simp only [hostOps0, hostOps0_1, hostOps0_2, List.flatten_cons, List.flatten_nil, List.append_nil, List.cons_append, List.nil_append]
  entry_read
  unfold args
  dsimp only
  generalize m ((c : Thread nD τ).loc main_arg1) = v
  pointwise []

theorem b5 (c : Dev nD) (t : Fin cfg0.N) (x : Fin 1024) :
    (iblk m c 5 t : Vec Ideal S1x1024 .f32) (ix2 0 x) = ((args m c).g x : EReal) := by
  refine Eq.trans ?_ (V46_at m c x)
  refine congrArg (V m c main_v46) (funext fun a : Fin 2 => Fin.ext ?_)
  have e : ∀ a : Fin 2, cc0_transform_5 (grid0.coords t) a = (![0, 0] : Fin 2 → ℕ) a := fun a => congrFun (ix_5 t) a
  show cc0_transform_5 (grid0.coords t) a * S1x1024.size a + 1 * (ix2 (n0 := 1) 0 x a).val = _
  rw [e]
  match a with
  | ⟨0, _⟩ => show 0 * 1 + 1 * 0 = 0; omega
  | ⟨1, _⟩ => show 0 * 1024 + 1 * x.val = x.val; omega

theorem V48_at (c : Dev nD) (x : Fin 2048) :
    (V m c main_v48 : Vec Ideal S1x2048 .f32) (ix2 0 x) = ((args m c).bg x : EReal) := by
  show StableHlo.after (List.flatten [hostOps0, hostOps0_1, hostOps0_2]) (fun b => m (c, b)) (Proc.devRef .tc main_v48) (ix2 0 x) = _
  simp only [hostOps0, hostOps0_1, hostOps0_2, List.flatten_cons, List.flatten_nil, List.append_nil, List.cons_append, List.nil_append]
  entry_read
  unfold args
  dsimp only
  generalize m ((c : Thread nD τ).loc main_arg3) = v
  pointwise []

theorem b7 (c : Dev nD) (t : Fin cfg0.N) (x : Fin 2048) :
    (iblk m c 7 t : Vec Ideal S1x2048 .f32) (ix2 0 x) = ((args m c).bg x : EReal) := by
  refine Eq.trans ?_ (V48_at m c x)
  refine congrArg (V m c main_v48) (funext fun a : Fin 2 => Fin.ext ?_)
  have e : ∀ a : Fin 2, cc0_transform_7 (grid0.coords t) a = (![0, 0] : Fin 2 → ℕ) a := fun a => congrFun (ix_7 t) a
  show cc0_transform_7 (grid0.coords t) a * S1x2048.size a + 1 * (ix2 (n0 := 1) 0 x a).val = _
  rw [e]
  match a with
  | ⟨0, _⟩ => show 0 * 1 + 1 * 0 = 0; omega
  | ⟨1, _⟩ => show 0 * 2048 + 1 * x.val = x.val; omega

theorem V52_at (c : Dev nD) (x : Fin 512) :
    (V m c main_v52 : Vec Ideal S1x512 .f32) (ix2 0 x) = ((args m c).ps x : EReal) := by
  show StableHlo.after (List.flatten [hostOps0, hostOps0_1, hostOps0_2]) (fun b => m (c, b)) (Proc.devRef .tc main_v52) (ix2 0 x) = _
  simp only [hostOps0, hostOps0_1, hostOps0_2, List.flatten_cons, List.flatten_nil, List.append_nil, List.cons_append, List.nil_append]
  entry_read
  unfold args
  dsimp only
  generalize m ((c : Thread nD τ).loc main_arg5) = v
  pointwise []

theorem b9 (c : Dev nD) (t : Fin cfg0.N) (x : Fin 512) :
    (iblk m c 9 t : Vec Ideal S1x512 .f32) (ix2 0 x) = ((args m c).ps x : EReal) := by
  refine Eq.trans ?_ (V52_at m c x)
  refine congrArg (V m c main_v52) (funext fun a : Fin 2 => Fin.ext ?_)
  have e : ∀ a : Fin 2, cc0_transform_9 (grid0.coords t) a = (![0, 0] : Fin 2 → ℕ) a := fun a => congrFun (ix_9 t) a
  show cc0_transform_9 (grid0.coords t) a * S1x512.size a + 1 * (ix2 (n0 := 1) 0 x a).val = _
  rw [e]
  match a with
  | ⟨0, _⟩ => show 0 * 1 + 1 * 0 = 0; omega
  | ⟨1, _⟩ => show 0 * 512 + 1 * x.val = x.val; omega

theorem V54_at (c : Dev nD) (k : Fin 512) (x : Fin 1024) :
    (V m c main_v54 : Vec Ideal S512x1024 .bf16) (ix2 k x) = ((args m c).wpo k x : EReal) := by
  show StableHlo.after (List.flatten [hostOps0, hostOps0_1, hostOps0_2]) (fun b => m (c, b)) (Proc.devRef .tc main_v54) (ix2 k x) = _
  simp only [hostOps0, hostOps0_1, hostOps0_2, List.flatten_cons, List.flatten_nil, List.append_nil, List.cons_append, List.nil_append]
  entry_read
  unfold args
  dsimp only
  generalize m ((c : Thread nD τ).loc main_arg6) = v
  pointwise []

theorem b10 (c : Dev nD) (t : Fin cfg0.N) (k : Fin 512) (x : Fin 1024) :
    (iblk m c 10 t : Vec Ideal S512x1024 .bf16) (ix2 k x) = ((args m c).wpo k x : EReal) := by
  refine Eq.trans ?_ (V54_at m c k x)
  refine congrArg (V m c main_v54) (funext fun a : Fin 2 => Fin.ext ?_)
  have e : ∀ a : Fin 2, cc0_transform_10 (grid0.coords t) a = (![0, 0] : Fin 2 → ℕ) a := fun a => congrFun (ix_10 t) a
  show cc0_transform_10 (grid0.coords t) a * S512x1024.size a + 1 * (ix2 k x a).val = _
  rw [e]
  match a with
  | ⟨0, _⟩ => show 0 * 512 + 1 * k.val = k.val; omega
  | ⟨1, _⟩ => show 0 * 1024 + 1 * x.val = x.val; omega

theorem V50_at (c : Dev nD) (g : Fin 4) (k x : Fin 128) :
    (V m c main_v50 : Vec Ideal S4x128x128 .bf16) (ix3 g k x) = ((args m c).mix g k x : EReal) := by
  show StableHlo.after (List.flatten [hostOps0, hostOps0_1, hostOps0_2]) (fun b => m (c, b)) (Proc.devRef .tc main_v50) (ix3 g k x) = _
  simp only [hostOps0, hostOps0_1, hostOps0_2, List.flatten_cons, List.flatten_nil, List.append_nil, List.cons_append, List.nil_append]
  entry_read
  unfold args
  dsimp only
  generalize m ((c : Thread nD τ).loc main_arg4) = v
  pointwise []

theorem b8 (c : Dev nD) (t : Fin cfg0.N) (g : Fin 4) (k x : Fin 128) :
    (iblk m c 8 t : Vec Ideal S4x128x128 .bf16) (ix3 g k x) = ((args m c).mix g k x : EReal) := by
  refine Eq.trans ?_ (V50_at m c g k x)
  refine congrArg (V m c main_v50) (funext fun a : Fin 3 => Fin.ext ?_)
  have e : ∀ a : Fin 3, cc0_transform_8 (grid0.coords t) a = (![0, 0, 0] : Fin 3 → ℕ) a := fun a => congrFun (ix_8 t) a
  show cc0_transform_8 (grid0.coords t) a * S4x128x128.size a + 1 * (ix3 g k x a).val = _
  rw [e]
  match a with
  | ⟨0, _⟩ => show 0 * 4 + 1 * g.val = g.val; omega
  | ⟨1, _⟩ => show 0 * 128 + 1 * k.val = k.val; omega
  | ⟨2, _⟩ => show 0 * 128 + 1 * x.val = x.val; omega

/-- The packed weights' column `x`, outside the columns of the index weights. -/
def pk (w : Fin 4680 → EReal) (x : ℕ) (hx : x < 4992) : EReal :=
  if h : x < 512 then w ⟨x, by omega⟩ else if h : x < 1024 then w ⟨x, by omega⟩ * Ideal.ofBits FTy.f32 0x3E000000#32
  else if h : x < 2560 then w ⟨x, by omega⟩ else if h : x < 2944 then w ⟨2560 + (x - 2560) % 64, by omega⟩ else w ⟨2632 + (x - 2944), by omega⟩

/-- The buffers before the packed weights are put together. -/
def pre44 (c : Dev nD) : Valuation τ sig (Elt Ideal) := StableHlo.after (hostOps0 ++ (hostOps0_1 ++ hostOps0_2.take 1)) (fun b => m (c, b))

theorem p30 (c : Dev nD) (k : Fin 1024) (x : Fin 512) : (pre44 m c (Proc.devRef .tc main_v30) : Vec Ideal S1024x512 .f32) (ix2 k x) = ((args m c).w k ⟨x.val, by omega⟩ : EReal) := by
  unfold pre44
  simp only [hostOps0, hostOps0_1, hostOps0_2, List.take, List.cons_append, List.nil_append]
  entry_read
  unfold args
  dsimp only
  generalize m ((c : Thread nD τ).loc main_arg2) = v
  pointwise []

theorem p33 (c : Dev nD) (k : Fin 1024) (x : Fin 512) : (pre44 m c (Proc.devRef .tc main_v33) : Vec Ideal S1024x512 .f32) (ix2 k x) = ((args m c).w k ⟨512 + x.val, by omega⟩ * Ideal.ofBits FTy.f32 0x3E000000#32 : EReal) := by
  unfold pre44
  simp only [hostOps0, hostOps0_1, hostOps0_2, List.take, List.cons_append, List.nil_append]
  entry_read
  unfold args
  dsimp only
  generalize m ((c : Thread nD τ).loc main_arg2) = v
  pointwise []

theorem p34 (c : Dev nD) (k : Fin 1024) (x : Fin 1024) : (pre44 m c (Proc.devRef .tc main_v34) : Vec Ideal S1024x1024 .f32) (ix2 k x) = ((args m c).w k ⟨1024 + x.val, by omega⟩ : EReal) := by
  unfold pre44
  simp only [hostOps0, hostOps0_1, hostOps0_2, List.take, List.cons_append, List.nil_append]
  entry_read
  unfold args
  dsimp only
  generalize m ((c : Thread nD τ).loc main_arg2) = v
  pointwise []

theorem p35 (c : Dev nD) (k : Fin 1024) (x : Fin 512) : (pre44 m c (Proc.devRef .tc main_v35) : Vec Ideal S1024x512 .f32) (ix2 k x) = ((args m c).w k ⟨2048 + x.val, by omega⟩ : EReal) := by
  unfold pre44
  simp only [hostOps0, hostOps0_1, hostOps0_2, List.take, List.cons_append, List.nil_append]
  entry_read
  unfold args
  dsimp only
  generalize m ((c : Thread nD τ).loc main_arg2) = v
  pointwise []

theorem p39 (c : Dev nD) (k : Fin 1024) (x : Fin 256) : (pre44 m c (Proc.devRef .tc main_v39) : Vec Ideal S1024x256 .f32) (ix2 k x) = ((args m c).w k ⟨2560 + x.val % 64, by omega⟩ : EReal) := by
  unfold pre44
  simp only [hostOps0, hostOps0_1, hostOps0_2, List.take, List.cons_append, List.nil_append]
  entry_read
  unfold args
  dsimp only
  generalize m ((c : Thread nD τ).loc main_arg2) = v
  pointwise []

theorem p42 (c : Dev nD) (k : Fin 1024) (x : Fin 2048) : (pre44 m c (Proc.devRef .tc main_v42) : Vec Ideal S1024x2048 .f32) (ix2 k x) = ((args m c).w k ⟨2632 + x.val, by omega⟩ : EReal) := by
  unfold pre44
  simp only [hostOps0, hostOps0_1, hostOps0_2, List.take, List.cons_append, List.nil_append]
  entry_read
  unfold args
  dsimp only
  generalize m ((c : Thread nD τ).loc main_arg2) = v
  pointwise []

theorem cat44 (U : Valuation τ sig (Elt Ideal)) : StableHlo.after (hostOps0_2.drop 1) U (Proc.devRef .tc main_v44)
    = (truncf (F := Ideal) .bf16 (concatenate S1024x4992 1 [⟨S1024x512, (U (Proc.devRef .tc main_v30) : Vec Ideal S1024x512 .f32)⟩, ⟨S1024x512, (U (Proc.devRef .tc main_v33) : Vec Ideal S1024x512 .f32)⟩, ⟨S1024x1024, (U (Proc.devRef .tc main_v34) : Vec Ideal S1024x1024 .f32)⟩, ⟨S1024x512, (U (Proc.devRef .tc main_v35) : Vec Ideal S1024x512 .f32)⟩, ⟨S1024x256, (U (Proc.devRef .tc main_v39) : Vec Ideal S1024x256 .f32)⟩, ⟨S1024x128, (U (Proc.devRef .tc main_v41) : Vec Ideal S1024x128 .f32)⟩, ⟨S1024x2048, (U (Proc.devRef .tc main_v42) : Vec Ideal S1024x2048 .f32)⟩] concatenates_S1024x512_S1024x512_S1024x1024_S1024x512_S1024x256_S1024x128_S1024x2048_S1024x4992_d1) bitsLt_bf16_f32 : Vec Ideal S1024x4992 .bf16) := by
  rw [show (hostOps0_2 (F := Ideal)).drop 1 = ((hostOps0_2 (F := Ideal)).drop 1).take 2 ++ (hostOps0_2 (F := Ideal)).drop 3 from rfl, StableHlo.after_append,
    StableHlo.after_of_forall_not_mem (b := Proc.devRef .tc main_v44) _ _ (List.forall_iff_forall_mem.mp (by
      simp only [hostOps0_2, List.drop, List.Forall, StableHlo.nullary_writes, StableHlo.unary_writes, StableHlo.reshape_writes, Finset.mem_singleton]
      repeat' apply And.intro
      all_goals exact StableHlo.devRef_ne_of_ne (by decide)))]
  simp only [hostOps0_2, List.drop, List.take, StableHlo.after_cons, StableHlo.after_nil]
  refine (StableHlo.unary_result _ _ _ _ _ _).trans ?_
  refine congrArg (fun v : Vec Ideal S1024x4992 .f32 => (truncf (F := Ideal) .bf16 v bitsLt_bf16_f32 : Vec Ideal S1024x4992 .bf16)) ?_
  exact StableHlo.nary_result _ _ _ _ _ _

theorem V44_at (c : Dev nD) (k : Fin 1024) (x : Fin 4992) (hx : ¬ (2816 ≤ x.val ∧ x.val < 2944)) :
    (V m c main_v44 : Vec Ideal S1024x4992 .bf16) (ix2 k x) = (pk ((args m c).w k) x.val x.isLt : EReal) := by
  have e : V m c main_v44 = StableHlo.after (hostOps0_2.drop 1) (pre44 m c) (Proc.devRef .tc main_v44) := by
    show StableHlo.after (List.flatten [hostOps0, hostOps0_1, hostOps0_2]) (fun b => m (c, b)) (Proc.devRef .tc main_v44) = _
    unfold pre44
    rw [← StableHlo.after_append]
    rfl
  refine (congrFun (e.trans (cat44 _)) (ix2 k x)).trans ?_
  have h30 := p30 m c
  have h33 := p33 m c
  have h34 := p34 m c
  have h35 := p35 m c
  have h39 := p39 m c
  have h42 := p42 m c
  generalize pre44 m c = U at *
  pointwise []
  simp only [h30, h33, h34, h35, h39, h42]
  unfold pk
  have hl := x.isLt
  generalize (args m c).w k = w
  clear h30 h33 h34 h35 h39 h42 e
  by_cases h0 : x.val < 512
  · rw [dif_pos h0, dif_pos h0]
  · rw [dif_neg h0, dif_neg h0]
    by_cases h1 : x.val < 1024
    · rw [dif_pos (by omega), dif_pos h1]
      exact congrArg (fun j => w j * _) (Fin.ext (by dsimp only; omega))
    · rw [dif_neg (by omega), dif_neg h1]
      by_cases h2 : x.val - 512 - 512 < 1024
      · rw [dif_pos h2, dif_pos (by omega)]
        exact congrArg w (Fin.ext (by dsimp only; omega))
      · rw [dif_neg h2]
        by_cases h3 : x.val < 2560
        · rw [dif_pos (by omega), dif_pos h3]
          exact congrArg w (Fin.ext (by dsimp only; omega))
        · rw [dif_neg (by omega), dif_neg h3]
          by_cases h4 : x.val < 2944
          · rw [dif_pos (by omega), dif_pos h4]
            exact congrArg w (Fin.ext (by dsimp only; omega))
          · rw [dif_neg (by omega), dif_neg (by omega), dif_neg h4]
            exact congrArg w (Fin.ext (by dsimp only; omega))

theorem b6 (c : Dev nD) (t : Fin cfg0.N) (k : Fin 1024) (x : Fin 4992) (hx : ¬ (2816 ≤ x.val ∧ x.val < 2944)) :
    (iblk m c 6 t : Vec Ideal S1024x4992 .bf16) (ix2 k x) = (pk ((args m c).w k) x.val x.isLt : EReal) := by
  refine Eq.trans ?_ (V44_at m c k x hx)
  refine congrArg (V m c main_v44) (funext fun a : Fin 2 => Fin.ext ?_)
  have e : ∀ a : Fin 2, cc0_transform_6 (grid0.coords t) a = (![0, 0] : Fin 2 → ℕ) a := fun a => congrFun (ix_6 t) a
  show cc0_transform_6 (grid0.coords t) a * S1024x4992.size a + 1 * (ix2 k x a).val = _
  rw [e]
  match a with
  | ⟨0, _⟩ => show 0 * 1024 + 1 * k.val = k.val; omega
  | ⟨1, _⟩ => show 0 * 4992 + 1 * x.val = x.val; omega

end Cert.Kernel3Ideal.Out
-- ==== Proof.Tile3.lean ====
module
public import proofs.«01_k».proof.Proof.Case3
public import proofs.«01_k».proof.Proof.Blk3
public import proofs.«01_k».proof.Proof.Softmax
@[expose] public section
set_option maxRecDepth 16384
noncomputable section
/-!
One grid point of the mixer's input stage computes its rows of the stage.
-/
namespace Cert.Kernel3Ideal.Out
open Idealize.ShloMosaic Idealize.ShloMosaic.TcCoe Idealize.SL Idealize.SL.Sem Cert.Kernel3Ideal.Gen

theorem lit_eighth : Ideal.ofBits FTy.f32 0x3E000000#32 = (((1 : ℝ) / 8 : ℝ) : EReal) := by
  simp [Ideal.ofBits, Ideal.ieee, -EReal.coe_mul]; norm_num
theorem lit_2 : Ideal.ofBits FTy.f32 0x40000000#32 = (((2 : ℕ) : ℝ) : EReal) := by
  simp [Ideal.ofBits, Ideal.ieee, -EReal.coe_mul]; norm_num
theorem lit_4 : Ideal.ofBits FTy.f32 0x40800000#32 = (((4 : ℕ) : ℝ) : EReal) := by
  simp [Ideal.ofBits, Ideal.ieee, -EReal.coe_mul]; norm_num
theorem lit_8 : Ideal.ofBits FTy.f32 0x41000000#32 = (((8 : ℕ) : ℝ) : EReal) := by
  simp [Ideal.ofBits, Ideal.ieee, -EReal.coe_mul]; norm_num
theorem lit_16 : Ideal.ofBits FTy.f32 0x41800000#32 = (((16 : ℕ) : ℝ) : EReal) := by
  simp [Ideal.ofBits, Ideal.ieee, -EReal.coe_mul]; norm_num

theorem min_cnt (n : ℕ) (l : Fin 2048) : min (((l.val + 1 : ℕ) : ℝ) : EReal) (((n : ℕ) : ℝ) : EReal) = Cert.Mix.cnt n l := by
  unfold Cert.Mix.cnt
  rcases le_total n (l.val + 1) with h | h
  · rw [Nat.min_eq_left h, min_eq_right (EReal.coe_le_coe_iff.2 (Nat.cast_le.2 h))]
  · rw [Nat.min_eq_right h, min_eq_left (EReal.coe_le_coe_iff.2 (Nat.cast_le.2 h))]

variable (m : (ℓ : Loc nD τ sig) → Buf (Elt Ideal) ℓ) (c : Dev nD) (t : Fin cfg0.N)

/-- The normed rows of a point. -/
def hh : FVec Ideal S256x1024 .bf16 := k0_pay3 (F := Ideal) (iblk m c 0 t) (iblk m c 5 t)

/-- The point's weights. -/
def w6 : Vec Ideal S1024x4992 .bf16 := iblk m c 6 t

theorem hh_at (r : Fin 256) (k : Fin 1024) : (hh m c t (ix2 r k) : EReal) = Cert.Stage.rms ((args m c).x (bt t) (rw t r)) (args m c).g k := by
  refine (pay3_at _ _ r k).trans ?_
  simp only [b0, b5]

/-- A column of the projection. -/
theorem col (r : Fin 256) (x : Fin 4992) (hx : ¬ (2816 ≤ x.val ∧ x.val < 2944)) (y : Fin 4680) (h : ∀ w, pk w x.val x.isLt = w y) :
    (∑ k : Fin 1024, hh m c t (ix2 r k) * w6 m c t (ix2 k x) : EReal) = Cert.Mix.z (args m c) (bt t) (rw t r) y := by
  refine Finset.sum_congr rfl fun k _ => ?_
  rw [hh_at]
  exact congrArg (fun s : EReal => _ * s) ((b6 m c t k x hx).trans (h _))

theorem colP (r : Fin 256) (d : Fin 512) : (∑ k : Fin 1024, hh m c t (ix2 r k) * ldW (w6 m c t) 0 (by decide) (ix2 k d) : EReal) = Cert.Mix.z (args m c) (bt t) (rw t r) ⟨d.val, by omega⟩ := by
  simp only [ldW_at]
  refine col m c t r _ (by dsimp only; omega) _ fun w => ?_
  unfold pk
  rw [dif_pos (by dsimp only; omega)]
  exact congrArg w (Fin.ext (by dsimp only; omega))

theorem colW (o : ℕ) (ho : 1024 ≤ o) (ho' : o + 512 ≤ 2560) (r : Fin 256) (d : Fin 512) :
    (∑ k : Fin 1024, hh m c t (ix2 r k) * ldW (w6 m c t) o (by omega) (ix2 k d) : EReal) = Cert.Mix.z (args m c) (bt t) (rw t r) ⟨o + d.val, by omega⟩ := by
  simp only [ldW_at]
  refine col m c t r _ (by dsimp only; omega) _ fun w => ?_
  unfold pk
  rw [dif_neg (by dsimp only; omega), dif_neg (by dsimp only; omega), dif_pos (by dsimp only; omega)]

theorem colG (o : ℕ) (ho : 2944 ≤ o) (ho' : o + 1024 ≤ 4992) (r : Fin 256) (d : Fin 1024) :
    (∑ k : Fin 1024, hh m c t (ix2 r k) * ldG (w6 m c t) o ho' (ix2 k d) : EReal) = Cert.Mix.z (args m c) (bt t) (rw t r) ⟨2632 + (o + d.val - 2944), by omega⟩ := by
  simp only [ldG_at]
  refine col m c t r _ (by dsimp only; omega) _ fun w => ?_
  unfold pk
  rw [dif_neg (by dsimp only; omega), dif_neg (by dsimp only; omega), dif_neg (by dsimp only; omega), dif_neg (by dsimp only; omega)]

theorem colI (r : Fin 256) (d : Fin 256) :
    (∑ k : Fin 1024, hh m c t (ix2 r k) * ldI (w6 m c t) 2560 (by decide) (ix2 k d) : EReal) = Cert.Mix.z (args m c) (bt t) (rw t r) ⟨2560 + d.val % 64, by omega⟩ := by
  simp only [ldI_at]
  refine col m c t r _ (by dsimp only; omega) _ fun w => ?_
  unfold pk
  rw [dif_neg (by dsimp only; omega), dif_neg (by dsimp only; omega), dif_neg (by dsimp only; omega), dif_pos (by dsimp only; omega)]
  exact congrArg w (Fin.ext (by dsimp only; omega))

theorem colQ (r : Fin 256) (d : Fin 512) :
    (∑ k : Fin 1024, hh m c t (ix2 r k) * ldW (w6 m c t) 512 (by decide) (ix2 k d) : EReal) = Cert.Mix.z (args m c) (bt t) (rw t r) ⟨512 + d.val, by omega⟩ * Ideal.ofBits FTy.f32 0x3E000000#32 := by
  unfold Cert.Mix.z
  rw [lit_eighth, Cert.Online.sum_mul' _ _ _ (by exact_mod_cast (by norm_num : (0 : ℝ) ≤ 1 / 8)) (EReal.coe_ne_top _)]
  refine Finset.sum_congr rfl fun k _ => ?_
  rw [hh_at, ldW_at, mul_assoc, ← lit_eighth]
  refine congrArg (fun s : EReal => _ * s) ((b6 m c t k _ (by dsimp only; omega)).trans ?_)
  unfold pk
  rw [dif_neg (by dsimp only; omega), dif_pos (by dsimp only; omega)]

/-- A rotated entry is the rotation of its head. -/
theorem rp_rot (n : ℕ) (hn : n % 64 = 0) (Z : Fin n → EReal) (l : Fin 2048) (d : Fin n) :
    rp n hn Z (fun x => Ideal.cos (Cert.Mix.ang l ⟨x.val % 32, by omega⟩)) (fun x => if x.val % 64 < 32 then -Ideal.sin (Cert.Mix.ang l ⟨x.val % 32, by omega⟩) else Ideal.sin (Cert.Mix.ang l ⟨x.val % 32, by omega⟩)) d
      = Cert.Mix.rot l (fun e => Z ⟨64 * (d.val / 64) + e.val, by omega⟩) ⟨d.val % 64, by omega⟩ := by
  have hd := d.isLt
  unfold rp
  have e0 : (⟨64 * (d.val / 64) + d.val % 64, by omega⟩ : Fin n) = d := Fin.ext (by dsimp only; omega)
  by_cases h : d.val % 64 < 32
  · rw [Cert.Mix.rot_lt _ _ _ _ h, dif_pos h]
    dsimp only
    rw [if_pos (by omega), mul_neg, ← sub_eq_add_neg, e0]
    have e1 : (⟨d.val % 128 % 32, by omega⟩ : Fin 32) = ⟨d.val % 64, h⟩ := Fin.ext (by dsimp only; omega)
    have e2 : (⟨64 * (d.val / 64) + (d.val % 64 + 32), by omega⟩ : Fin n) = ⟨d.val + 32, by omega⟩ := Fin.ext (by dsimp only; omega)
    rw [e1, e2]
  · rw [Cert.Mix.rot_ge _ _ _ _ h, dif_neg h]
    dsimp only
    rw [if_neg (by omega), e0]
    have e1 : (⟨d.val % 128 % 32, by omega⟩ : Fin 32) = ⟨d.val % 64 - 32, by omega⟩ := Fin.ext (by dsimp only; omega)
    have e2 : (⟨64 * (d.val / 64) + (d.val % 64 - 32), by omega⟩ : Fin n) = ⟨d.val - 32, by omega⟩ := Fin.ext (by dsimp only; omega)
    rw [e1, e2]

theorem q_at (r : Fin 256) (d : Fin 512) :
    k0_pay26 (F := Ideal) (hh m c t) (k0_pay4 (F := Ideal) (iblk m c 2 t)) (k0_pay5 (F := Ideal) (iblk m c 3 t)) mk (ldW (w6 m c t) 512 (by decide)) (ix3 0 r d) = Cert.Mix.q (args m c) (bt t) (rw t r) d := by
  refine (pay26_at _ _ _ _ r d).trans ?_
  simp only [colQ, b2, b3]
  exact rp_rot 512 (by decide) (fun d => Cert.Mix.z (args m c) (bt t) (rw t r) ⟨512 + d.val, by omega⟩ * Ideal.ofBits FTy.f32 0x3E000000#32) (rw t r) d

theorem k_at (r : Fin 256) (d : Fin 512) :
    k0_pay27 (F := Ideal) (hh m c t) (k0_pay4 (F := Ideal) (iblk m c 2 t)) (k0_pay5 (F := Ideal) (iblk m c 3 t)) mk (ldW (w6 m c t) 1024 (by decide)) (ix3 0 r d) = Cert.Mix.heads (args m c) 1024 (by decide) (bt t) (rw t r) d := by
  refine (pay27_at _ _ _ _ r d).trans ?_
  simp only [colW m c t 1024 (by decide) (by decide), b2, b3]
  exact rp_rot 512 (by decide) (fun d => Cert.Mix.z (args m c) (bt t) (rw t r) ⟨1024 + d.val, by omega⟩) (rw t r) d

theorem qi_at (r : Fin 256) (d : Fin 512) :
    k0_pay29 (F := Ideal) (hh m c t) (k0_pay4 (F := Ideal) (iblk m c 2 t)) (k0_pay5 (F := Ideal) (iblk m c 3 t)) mk (ldW (w6 m c t) 2048 (by decide)) (ix3 0 r d) = Cert.Mix.heads (args m c) 2048 (by decide) (bt t) (rw t r) d := by
  refine (pay29_at _ _ _ _ r d).trans ?_
  simp only [colW m c t 2048 (by decide) (by decide), b2, b3]
  exact rp_rot 512 (by decide) (fun d => Cert.Mix.z (args m c) (bt t) (rw t r) ⟨2048 + d.val, by omega⟩) (rw t r) d

theorem ki_at (r : Fin 256) (d : Fin 64) :
    k0_pay1 (F := Ideal) (k0_pay4 (F := Ideal) (iblk m c 2 t)) (k0_pay5 (F := Ideal) (iblk m c 3 t)) mk (k0_pay30 (F := Ideal) (hh m c t) (ldI (w6 m c t) 2560 (by decide))) (k0_pay31 (F := Ideal) (hh m c t) (ldI (w6 m c t) 2560 (by decide))) 96#32 (ix3 0 r d) = Cert.Mix.ki (args m c) (bt t) (rw t r) d := by
  refine (pay1_at _ _ _ _ r d).trans ?_
  simp only [colI, b2, b3]
  refine (rp_rot 256 (by decide) (fun d => Cert.Mix.z (args m c) (bt t) (rw t r) ⟨2560 + d.val % 64, by omega⟩) (rw t r) ⟨d.val, by omega⟩).trans ?_
  unfold Cert.Mix.ki
  refine congrArg₂ (Cert.Mix.rot (rw t r)) (funext fun e => Cert.Mix.z_congr _ _ _ _ _ ?_) (Fin.ext (by dsimp only; omega))
  dsimp only
  omega

theorem v_at (r : Fin 256) (d : Fin 512) : k0_pay28 (F := Ideal) (hh m c t) (ldW (w6 m c t) 1536 (by decide)) (ix3 0 r d) = Cert.Mix.z (args m c) (bt t) (rw t r) ⟨1536 + d.val, by omega⟩ :=
  (pay28_at _ _ r d).trans (colW m c t 1536 (by decide) (by decide) r d)

theorem gb_at (r : Fin 256) (d : Fin 1024) :
    k0_pay25 (F := Ideal) (hh m c t) (k0_pay22 (F := Ideal) (iblk m c 7 t)) (k0_pay24 (F := Ideal) (ldG (w6 m c t) 3968 (by decide))) (constant S256x1024 .f32 0x00000000#32) (ix3 0 r d) = Cert.Mix.gate (args m c) (bt t) (rw t r) ⟨1024 + d.val, by omega⟩ := by
  refine (pay25_at _ _ _ r d).trans ?_
  rw [colG m c t 3968 (by decide) (by decide), b7]
  unfold Cert.Mix.gate
  rw [Cert.Mix.z_congr _ _ _ (by show 2632 + (3968 + d.val - 2944) < 4680; omega) (by show 2632 + (1024 + d.val) < 4680; omega) (by omega)]

/-- The rows carried into a point are the sixteen before it, zero before the first. -/
def Carried (P : Vec Ideal S1x16x512 .f32) : Prop :=
  ∀ (a : Fin 16) (x : Fin 512), (P (ix3 0 a x) : EReal) = if h : 16 ≤ 256 * (t.val % 8) + a.val then Cert.Mix.z (args m c) (bt t) ⟨256 * (t.val % 8) + a.val - 16, by omega⟩ ⟨x.val, by omega⟩ else 0

theorem ext_at (P : Vec Ideal S1x16x512 .f32) (hP : Carried m c t P) (r : Fin 256) (x : Fin 512) (k : ℕ) (hk : k < 16) :
    (k0_pay16 (F := Ideal) (hh m c t) (ldW (w6 m c t) 0 (by decide)) P (ix2 ⟨16 + r.val - k, by omega⟩ x) : EReal) = Cert.Mix.prev (args m c) (bt t) (rw t r) x k := by
  refine (pay16_at _ _ _ _ x).trans ?_
  unfold Cert.Mix.prev
  have hr : (rw t r).val = 256 * (t.val % 8) + r.val := rfl
  by_cases h : 16 + r.val - k < 16
  · rw [dif_pos h, hP]
    by_cases h' : k ≤ (rw t r).val
    · rw [dif_pos (by dsimp only; omega), if_pos h']
      exact congrArg (fun i => Cert.Mix.z (args m c) (bt t) i ⟨x.val, by omega⟩) (Fin.ext (by dsimp only; omega))
    · rw [dif_neg (by dsimp only; omega), if_neg h']
  · rw [dif_neg h, colP, if_pos (by omega)]
    exact congrArg (fun i => Cert.Mix.z (args m c) (bt t) i ⟨x.val, by omega⟩) (Fin.ext (by show 256 * (t.val % 8) + (16 + r.val - k - 16) = (rw t r).val - k; omega))

theorem grp_at (P : Vec Ideal S1x16x512 .f32) (hP : Carried m c t P) (g : Fin 4) (n o : ℕ) (ho : o + 128 ≤ 512) (hn : n ≤ 16) (w : EReal) (hw : w = ((n : ℝ) : EReal))
    (mm : Fin 128 → Fin 128 → EReal) (hm : ∀ x d, mm x d = (args m c).mix g x d) (r : Fin 256) (d : Fin 128) :
    grp n o ho w (k0_pay16 (F := Ideal) (hh m c t) (ldW (w6 m c t) 0 (by decide)) P) (k0_pay11 (F := Ideal) (hh m c t) (ldW (w6 m c t) 0 (by decide))) (iblk m c 4 t) mm r d
      = Cert.Mix.mixed (args m c) g n o ho (bt t) (rw t r) d := by
  unfold grp Cert.Mix.mixed
  refine Finset.sum_congr rfl fun x _ => ?_
  rw [hm, pay11_at, colP, b4, hw, min_cnt]
  refine congrArg (fun s : EReal => (Ideal.div s _ - _) * _) ?_
  unfold Cert.Mix.win
  refine Finset.sum_congr rfl fun k hk => ?_
  have := Finset.mem_range.mp hk
  exact ext_at m c t P hP r _ k (by omega)

theorem ldM_mix (g : ℕ) (h : g + 1 ≤ 4) (k d : Fin 128) : (ldM (iblk m c 8 t) g h (ix3 0 k d) : EReal) = (args m c).mix ⟨g, by omega⟩ k d :=
  (ldM_at _ g h k d).trans (b8 m c t _ k d)

theorem pa_at (P : Vec Ideal S1x16x512 .f32) (hP : Carried m c t P) (r : Fin 256) (d : Fin 1024) :
    tPA (hh m c t) P (iblk m c 4 t) (w6 m c t) (iblk m c 7 t) (iblk m c 8 t) (iblk m c 9 t) (iblk m c 10 t) (ix3 0 r d) = Cert.Mix.pa (args m c) (bt t) (rw t r) d := by
  unfold tPA
  refine (pay23_at _ _ _ _ _ _ _ _ _ _ _ _ r d).trans ?_
  unfold Cert.Mix.pa Cert.Mix.gate Cert.Mix.pool Cert.Mix.groups
  rw [colG m c t 2944 (by decide) (by decide), b7, Cert.Mix.z_congr _ _ _ (by show 2632 + (2944 + d.val - 2944) < 4680; omega) (by show 2632 + d.val < 4680; omega) (by omega)]
  refine congrArg (fun s : EReal => _ * s) (Finset.sum_congr rfl fun x _ => ?_)
  rw [b9, b10]
  refine congrArg (fun s : EReal => s * _ * _) ?_
  split
  · exact (pay17_at _ _ _ _ _ r _).trans (grp_at m c t P hP 0 2 0 (by decide) (by decide) _ lit_2 _ (fun x d => ldM_mix m c t 0 (by decide) x d) r _)
  · split
    · exact (pay19_at _ _ _ _ _ _ r _).trans (grp_at m c t P hP 1 4 128 (by decide) (by decide) _ lit_4 _ (fun x d => ldM_mix m c t 1 (by decide) x d) r _)
    · split
      · exact (pay20_at _ _ _ _ r _).trans (grp_at m c t P hP 2 8 256 (by decide) (by decide) _ lit_8 _ (fun x d => ldM_mix m c t 2 (by decide) x d) r _)
      · exact grp_at m c t P hP 3 16 384 (by decide) (by decide) _ lit_16 _ (fun x d => ldM_mix m c t 3 (by decide) x d) r _

theorem last_at (W : Vec Ideal S1x16x512 .f32) (P : Vec Ideal S1x16x512 .f32) (hW : ∀ a x, (W (ix3 0 a x) : EReal) = ∑ k : Fin 1024, hh m c t (ix2 ⟨240 + a.val, by omega⟩ k) * ldW (w6 m c t) 0 (by decide) (ix2 k x)) (a : Fin 16) (x : Fin 512) :
    (W (ix3 0 a x) : EReal) = Cert.Mix.z (args m c) (bt t) (rw t ⟨240 + a.val, by omega⟩) ⟨x.val, by omega⟩ :=
  (hW a x).trans (colP m c t ⟨240 + a.val, by omega⟩ x)

end Cert.Kernel3Ideal.Out
-- ==== Proof.Inv3.lean ====
module
public import proofs.«01_k».proof.Proof.Tile3
@[expose] public section
set_option maxRecDepth 16384
noncomputable section
/-!
What the results of the mixer's input stage hold after the run.
-/
namespace Cert.Kernel3Ideal.Out
open Idealize.ShloMosaic Idealize.ShloMosaic.TcCoe Idealize.SL Idealize.SL.Sem Cert.Kernel3Ideal.Gen Cert.Kernel3Ideal.Value

variable (m : (ℓ : Loc nD τ sig) → Buf (Elt Ideal) ℓ) (c : Dev nD) (t : Fin cfg0.N)

theorem carry_eq (a : Fin 16) (x : Fin 512) : ((outsAt0 (F := Ideal) m c t.val t.isLt).2.2.2.2.2.2.2.2.2 (ix3 0 a x) : EReal) = Cert.Mix.z (args m c) (bt t) (rw t ⟨240 + a.val, by omega⟩) ⟨x.val, by omega⟩ := by
  by_cases h0 : t.val % 8 = 0
  · refine (congrFun (congrArg (fun z => z.2.2.2.2.2.2.2.2.2) (outsAt0_A (F := Ideal) m c t h0)) (ix3 0 a x)).trans ?_
    dsimp only
    exact (congrFun As (ix3 0 a x)).trans (last_at m c t _ (k0_pay12 (iblk m c 1 t)) (pay15_at _ _ _) a x)
  · refine (congrFun (congrArg (fun z => z.2.2.2.2.2.2.2.2.2) (outsAt0_B (F := Ideal) m c t h0)) (ix3 0 a x)).trans ?_
    dsimp only
    exact (congrFun Bs (ix3 0 a x)).trans (last_at m c t _ (k0_pay12 (iblk m c 1 t)) (pay15_at _ _ _) a x)

theorem tail_eq (a : Fin 16) (x : Fin 512) : ((outsAt0 (F := Ideal) m c t.val t.isLt).2.2.2.2.2.2.2.2.1 (ix3 0 a x) : EReal) = Cert.Mix.z (args m c) (bt t) (rw t ⟨240 + a.val, by omega⟩) ⟨x.val, by omega⟩ := by
  by_cases h0 : t.val % 8 = 0
  · refine (congrFun (congrArg (fun z => z.2.2.2.2.2.2.2.2.1) (outsAt0_A (F := Ideal) m c t h0)) (ix3 0 a x)).trans ?_
    dsimp only
    exact (congrFun A19 (ix3 0 a x)).trans (last_at m c t _ (k0_pay12 (iblk m c 1 t)) (pay14_at _ _ _) a x)
  · refine (congrFun (congrArg (fun z => z.2.2.2.2.2.2.2.2.1) (outsAt0_B (F := Ideal) m c t h0)) (ix3 0 a x)).trans ?_
    dsimp only
    exact (congrFun B19 (ix3 0 a x)).trans (last_at m c t _ (k0_pay12 (iblk m c 1 t)) (pay14_at _ _ _) a x)

theorem carried_A (h0 : t.val % 8 = 0) : Carried m c t (k0_pay12 (F := Ideal) (iblk m c 1 t)) := fun a x => by
  rw [dif_neg (by omega)]
  exact (pay12_at _ a x).trans (b1 m c t a x)

theorem carried_B (h0 : ¬ t.val % 8 = 0) :
    Carried m c t (outsAt0 (F := Ideal) m c (t.val - 1) (Nat.lt_of_le_of_lt (Nat.sub_le _ _) t.isLt)).2.2.2.2.2.2.2.2.2 := fun a x => by
  rw [dif_pos (by omega)]
  refine (carry_eq m c ⟨t.val - 1, Nat.lt_of_le_of_lt (Nat.sub_le _ _) t.isLt⟩ a x).trans ?_
  exact congrArg₂ (fun b l => Cert.Mix.z (args m c) b l ⟨x.val, by omega⟩) (Fin.ext (by show (t.val - 1) / 8 = t.val / 8; omega))
    (Fin.ext (by show 256 * ((t.val - 1) % 8) + (240 + a.val) = 256 * (t.val % 8) + a.val - 16; omega))

theorem bt_of (b : Fin 32) (l : Fin 2048) (h : t.val = 8 * b.val + l.val / 256) : bt t = b := Fin.ext (by show t.val / 8 = b.val; omega)
theorem rw_of (b : Fin 32) (l : Fin 2048) (h : t.val = 8 * b.val + l.val / 256) : rw t ⟨l.val % 256, by omega⟩ = l :=
  Fin.ext (by show 256 * (t.val % 8) + l.val % 256 = l.val; omega)

theorem o11 (r : Fin 256) (d : Fin 1024) : ((outsAt0 (F := Ideal) m c t.val t.isLt).1 (ix3 0 r d) : EReal) = Cert.Mix.pa (args m c) (bt t) (rw t r) d := by
  by_cases h0 : t.val % 8 = 0
  · refine (congrFun (congrArg (fun z => z.1) (outsAt0_A (F := Ideal) m c t h0)) (ix3 0 r d)).trans ?_
    dsimp only
    exact (congrFun A11 (ix3 0 r d)).trans (pa_at m c t _ (carried_A m c t h0) r d)
  · refine (congrFun (congrArg (fun z => z.1) (outsAt0_B (F := Ideal) m c t h0)) (ix3 0 r d)).trans ?_
    dsimp only
    exact (congrFun B11 (ix3 0 r d)).trans (pa_at m c t _ (carried_B m c t h0) r d)

theorem G11_at (b : Fin 32) (l : Fin 2048) (d : Fin 1024) : ((G11 (F := Ideal) m c : Vec Ideal S32x2048x1024 .bf16) (ix3 b l d) : EReal) = Cert.Mix.pa (args m c) b l d := by
  have hp : pt11Of (ix3 b l d) = 8 * b.val + l.val / 256 := by
    show 8 * ((b.val - 0) / 1) + 1 * (l.val / 256 - 0) + 1 * (d.val / 1024 - 0) = _
    omega
  have h : pt11Of (ix3 b l d) < cfg0.N := by rw [hp, show cfg0.N = 256 from N_0]; omega
  unfold G11
  rw [dif_pos h, ← outsAt0_sweep m c (pt11Of (ix3 b l d)) h]
  have e : loc11Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 1024 = d.val; omega
  rw [e]
  exact (o11 m c ⟨_, h⟩ _ d).trans (congrArg₂ (fun b l => Cert.Mix.pa (args m c) b l d) (bt_of ⟨_, h⟩ b l hp) (rw_of ⟨_, h⟩ b l hp))

theorem o12 (r : Fin 256) (d : Fin 1024) : ((outsAt0 (F := Ideal) m c t.val t.isLt).2.1 (ix3 0 r d) : EReal) = Cert.Mix.gate (args m c) (bt t) (rw t r) ⟨1024 + d.val, by omega⟩ := by
  by_cases h0 : t.val % 8 = 0
  · refine (congrFun (congrArg (fun z => z.2.1) (outsAt0_A (F := Ideal) m c t h0)) (ix3 0 r d)).trans ?_
    dsimp only
    exact (congrFun A12 (ix3 0 r d)).trans (gb_at m c t r d)
  · refine (congrFun (congrArg (fun z => z.2.1) (outsAt0_B (F := Ideal) m c t h0)) (ix3 0 r d)).trans ?_
    dsimp only
    exact (congrFun B12 (ix3 0 r d)).trans (gb_at m c t r d)

theorem G12_at (b : Fin 32) (l : Fin 2048) (d : Fin 1024) : ((G12 (F := Ideal) m c : Vec Ideal S32x2048x1024 .bf16) (ix3 b l d) : EReal) = Cert.Mix.gate (args m c) b l ⟨1024 + d.val, by omega⟩ := by
  have hp : pt12Of (ix3 b l d) = 8 * b.val + l.val / 256 := by
    show 8 * ((b.val - 0) / 1) + 1 * (l.val / 256 - 0) + 1 * (d.val / 1024 - 0) = _
    omega
  have h : pt12Of (ix3 b l d) < cfg0.N := by rw [hp, show cfg0.N = 256 from N_0]; omega
  unfold G12
  rw [dif_pos h, ← outsAt0_sweep m c (pt12Of (ix3 b l d)) h]
  have e : loc12Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 1024 = d.val; omega
  rw [e]
  exact (o12 m c ⟨_, h⟩ _ d).trans (congrArg₂ (fun b l => Cert.Mix.gate (args m c) b l ⟨1024 + d.val, by omega⟩) (bt_of ⟨_, h⟩ b l hp) (rw_of ⟨_, h⟩ b l hp))

theorem o13 (r : Fin 256) (d : Fin 512) : ((outsAt0 (F := Ideal) m c t.val t.isLt).2.2.1 (ix3 0 r d) : EReal) = Cert.Mix.q (args m c) (bt t) (rw t r) d := by
  by_cases h0 : t.val % 8 = 0
  · refine (congrFun (congrArg (fun z => z.2.2.1) (outsAt0_A (F := Ideal) m c t h0)) (ix3 0 r d)).trans ?_
    dsimp only
    exact (congrFun A13 (ix3 0 r d)).trans (q_at m c t r d)
  · refine (congrFun (congrArg (fun z => z.2.2.1) (outsAt0_B (F := Ideal) m c t h0)) (ix3 0 r d)).trans ?_
    dsimp only
    exact (congrFun B13 (ix3 0 r d)).trans (q_at m c t r d)

theorem G13_at (b : Fin 32) (l : Fin 2048) (d : Fin 512) : ((G13 (F := Ideal) m c : Vec Ideal S32x2048x512 .bf16) (ix3 b l d) : EReal) = Cert.Mix.q (args m c) b l d := by
  have hp : pt13Of (ix3 b l d) = 8 * b.val + l.val / 256 := by
    show 8 * ((b.val - 0) / 1) + 1 * (l.val / 256 - 0) + 1 * (d.val / 512 - 0) = _
    omega
  have h : pt13Of (ix3 b l d) < cfg0.N := by rw [hp, show cfg0.N = 256 from N_0]; omega
  unfold G13
  rw [dif_pos h, ← outsAt0_sweep m c (pt13Of (ix3 b l d)) h]
  have e : loc13Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 512 = d.val; omega
  rw [e]
  exact (o13 m c ⟨_, h⟩ _ d).trans (congrArg₂ (fun b l => Cert.Mix.q (args m c) b l d) (bt_of ⟨_, h⟩ b l hp) (rw_of ⟨_, h⟩ b l hp))

theorem o14 (r : Fin 256) (d : Fin 512) : ((outsAt0 (F := Ideal) m c t.val t.isLt).2.2.2.1 (ix3 0 r d) : EReal) = Cert.Mix.heads (args m c) 1024 (by decide) (bt t) (rw t r) d := by
  by_cases h0 : t.val % 8 = 0
  · refine (congrFun (congrArg (fun z => z.2.2.2.1) (outsAt0_A (F := Ideal) m c t h0)) (ix3 0 r d)).trans ?_
    dsimp only
    exact (congrFun A14 (ix3 0 r d)).trans (k_at m c t r d)
  · refine (congrFun (congrArg (fun z => z.2.2.2.1) (outsAt0_B (F := Ideal) m c t h0)) (ix3 0 r d)).trans ?_
    dsimp only
    exact (congrFun B14 (ix3 0 r d)).trans (k_at m c t r d)

theorem G14_at (b : Fin 32) (l : Fin 2048) (d : Fin 512) : ((G14 (F := Ideal) m c : Vec Ideal S32x2048x512 .f32) (ix3 b l d) : EReal) = Cert.Mix.heads (args m c) 1024 (by decide) b l d := by
  have hp : pt14Of (ix3 b l d) = 8 * b.val + l.val / 256 := by
    show 8 * ((b.val - 0) / 1) + 1 * (l.val / 256 - 0) + 1 * (d.val / 512 - 0) = _
    omega
  have h : pt14Of (ix3 b l d) < cfg0.N := by rw [hp, show cfg0.N = 256 from N_0]; omega
  unfold G14
  rw [dif_pos h, ← outsAt0_sweep m c (pt14Of (ix3 b l d)) h]
  have e : loc14Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 512 = d.val; omega
  rw [e]
  exact (o14 m c ⟨_, h⟩ _ d).trans (congrArg₂ (fun b l => Cert.Mix.heads (args m c) 1024 (by decide) b l d) (bt_of ⟨_, h⟩ b l hp) (rw_of ⟨_, h⟩ b l hp))

theorem o15 (r : Fin 256) (d : Fin 512) : ((outsAt0 (F := Ideal) m c t.val t.isLt).2.2.2.2.1 (ix3 0 r d) : EReal) = Cert.Mix.z (args m c) (bt t) (rw t r) ⟨1536 + d.val, by omega⟩ := by
  by_cases h0 : t.val % 8 = 0
  · refine (congrFun (congrArg (fun z => z.2.2.2.2.1) (outsAt0_A (F := Ideal) m c t h0)) (ix3 0 r d)).trans ?_
    dsimp only
    exact (congrFun A15 (ix3 0 r d)).trans (v_at m c t r d)
  · refine (congrFun (congrArg (fun z => z.2.2.2.2.1) (outsAt0_B (F := Ideal) m c t h0)) (ix3 0 r d)).trans ?_
    dsimp only
    exact (congrFun B15 (ix3 0 r d)).trans (v_at m c t r d)

theorem G15_at (b : Fin 32) (l : Fin 2048) (d : Fin 512) : ((G15 (F := Ideal) m c : Vec Ideal S32x2048x512 .f32) (ix3 b l d) : EReal) = Cert.Mix.z (args m c) b l ⟨1536 + d.val, by omega⟩ := by
  have hp : pt15Of (ix3 b l d) = 8 * b.val + l.val / 256 := by
    show 8 * ((b.val - 0) / 1) + 1 * (l.val / 256 - 0) + 1 * (d.val / 512 - 0) = _
    omega
  have h : pt15Of (ix3 b l d) < cfg0.N := by rw [hp, show cfg0.N = 256 from N_0]; omega
  unfold G15
  rw [dif_pos h, ← outsAt0_sweep m c (pt15Of (ix3 b l d)) h]
  have e : loc15Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 512 = d.val; omega
  rw [e]
  exact (o15 m c ⟨_, h⟩ _ d).trans (congrArg₂ (fun b l => Cert.Mix.z (args m c) b l ⟨1536 + d.val, by omega⟩) (bt_of ⟨_, h⟩ b l hp) (rw_of ⟨_, h⟩ b l hp))

theorem o16 (r : Fin 256) (d : Fin 512) : ((outsAt0 (F := Ideal) m c t.val t.isLt).2.2.2.2.2.1 (ix3 0 r d) : EReal) = Cert.Mix.heads (args m c) 2048 (by decide) (bt t) (rw t r) d := by
  by_cases h0 : t.val % 8 = 0
  · refine (congrFun (congrArg (fun z => z.2.2.2.2.2.1) (outsAt0_A (F := Ideal) m c t h0)) (ix3 0 r d)).trans ?_
    dsimp only
    exact (congrFun A16 (ix3 0 r d)).trans (qi_at m c t r d)
  · refine (congrFun (congrArg (fun z => z.2.2.2.2.2.1) (outsAt0_B (F := Ideal) m c t h0)) (ix3 0 r d)).trans ?_
    dsimp only
    exact (congrFun B16 (ix3 0 r d)).trans (qi_at m c t r d)

theorem G16_at (b : Fin 32) (l : Fin 2048) (d : Fin 512) : ((G16 (F := Ideal) m c : Vec Ideal S32x2048x512 .f32) (ix3 b l d) : EReal) = Cert.Mix.heads (args m c) 2048 (by decide) b l d := by
  have hp : pt16Of (ix3 b l d) = 8 * b.val + l.val / 256 := by
    show 8 * ((b.val - 0) / 1) + 1 * (l.val / 256 - 0) + 1 * (d.val / 512 - 0) = _
    omega
  have h : pt16Of (ix3 b l d) < cfg0.N := by rw [hp, show cfg0.N = 256 from N_0]; omega
  unfold G16
  rw [dif_pos h, ← outsAt0_sweep m c (pt16Of (ix3 b l d)) h]
  have e : loc16Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 512 = d.val; omega
  rw [e]
  exact (o16 m c ⟨_, h⟩ _ d).trans (congrArg₂ (fun b l => Cert.Mix.heads (args m c) 2048 (by decide) b l d) (bt_of ⟨_, h⟩ b l hp) (rw_of ⟨_, h⟩ b l hp))

theorem o18 (r : Fin 256) (d : Fin 64) : ((outsAt0 (F := Ideal) m c t.val t.isLt).2.2.2.2.2.2.2.1 (ix3 0 r d) : EReal) = Cert.Mix.ki (args m c) (bt t) (rw t r) d := by
  by_cases h0 : t.val % 8 = 0
  · refine (congrFun (congrArg (fun z => z.2.2.2.2.2.2.2.1) (outsAt0_A (F := Ideal) m c t h0)) (ix3 0 r d)).trans ?_
    dsimp only
    exact (congrFun A18 (ix3 0 r d)).trans (ki_at m c t r d)
  · refine (congrFun (congrArg (fun z => z.2.2.2.2.2.2.2.1) (outsAt0_B (F := Ideal) m c t h0)) (ix3 0 r d)).trans ?_
    dsimp only
    exact (congrFun B18 (ix3 0 r d)).trans (ki_at m c t r d)

theorem G18_at (b : Fin 32) (l : Fin 2048) (d : Fin 64) : ((G18 (F := Ideal) m c : Vec Ideal S32x2048x64 .f32) (ix3 b l d) : EReal) = Cert.Mix.ki (args m c) b l d := by
  have hp : pt18Of (ix3 b l d) = 8 * b.val + l.val / 256 := by
    show 8 * ((b.val - 0) / 1) + 1 * (l.val / 256 - 0) + 1 * (d.val / 64 - 0) = _
    omega
  have h : pt18Of (ix3 b l d) < cfg0.N := by rw [hp, show cfg0.N = 256 from N_0]; omega
  unfold G18
  rw [dif_pos h, ← outsAt0_sweep m c (pt18Of (ix3 b l d)) h]
  have e : loc18Of (ix3 b l d) = ix3 0 ⟨l.val % 256, by omega⟩ d := by
    funext k
    apply Fin.ext
    match k with
    | ⟨0, _⟩ => show b.val % 1 = 0; omega
    | ⟨1, _⟩ => rfl
    | ⟨2, _⟩ => show d.val % 64 = d.val; omega
  rw [e]
  exact (o18 m c ⟨_, h⟩ _ d).trans (congrArg₂ (fun b l => Cert.Mix.ki (args m c) b l d) (bt_of ⟨_, h⟩ b l hp) (rw_of ⟨_, h⟩ b l hp))

theorem G19_at (b : Fin 32) (a : Fin 16) (x : Fin 512) : ((G19 (F := Ideal) m c : Vec Ideal S32x16x512 .f32) (ix3 b a x) : EReal) = Cert.Mix.z (args m c) b ⟨2032 + a.val, by omega⟩ ⟨x.val, by omega⟩ := by
  have hp : pt19Of (ix3 b a x) = 8 * b.val + 7 := by
    show 8 * (1 * (b.val / 1 - 0) + 1 * (a.val / 16 - 0) + 1 * (x.val / 512 - 0)) + 7 = _
    omega
  have h : pt19Of (ix3 b a x) < cfg0.N := by rw [hp, show cfg0.N = 256 from N_0]; omega
  unfold G19
  rw [dif_pos h, ← outsAt0_sweep m c (pt19Of (ix3 b a x)) h]
  have e : loc19Of (ix3 b a x) = ix3 0 a x := by
    funext k
    apply Fin.ext
    match k with
    | ⟨0, _⟩ => show b.val % 1 = 0; omega
    | ⟨1, _⟩ => show a.val % 16 = a.val; omega
    | ⟨2, _⟩ => show x.val % 512 = x.val; omega
  rw [e]
  refine (tail_eq m c ⟨_, h⟩ a x).trans ?_
  exact congrArg₂ (fun b l => Cert.Mix.z (args m c) b l ⟨x.val, by omega⟩) (Fin.ext (by show pt19Of (ix3 b a x) / 8 = b.val; omega))
    (Fin.ext (by show 256 * (pt19Of (ix3 b a x) % 8) + (240 + a.val) = 2032 + a.val; omega))

end Cert.Kernel3Ideal.Out
-- ==== Proof.Ref3.lean ====
module
public import proofs.«01_k».proof.Proof.Gen.Reference3Ideal.Run
public import proofs.«01_k».proof.Proof.Mix
public import Idealize.ShloMosaic.Lib.Pointwise
public import Idealize.ShloMosaic.Lib.WordCmp
@[expose] public section
set_option maxRecDepth 16384
noncomputable section
/-!
The reference of the input stage read entry by entry.
-/
namespace Cert.Reference3Ideal.Out
open Cert.Reference3Ideal Cert.Reference3Ideal.Gen Idealize.ShloMosaic Idealize.ShloMosaic.TcCoe Idealize.SL.Sem Idealize.ShloMosaic.StableHlo

variable (V0 : Valuation τ sig (Elt Ideal))

/-- The arguments as the stage's arrays. -/
def args : Cert.Mix.Args where
  x b l d := (V0 (Proc.devRef .tc main_arg0) : Vec Ideal S32x2048x1024 .f32) (ix3 b l d)
  g d := (V0 (Proc.devRef .tc main_arg1) : Vec Ideal S1x1024 .f32) (ix2 0 d)
  w k c := (V0 (Proc.devRef .tc main_arg2) : Vec Ideal S1x1024x4680 .f32) (ix3 0 k c)
  bg c := (V0 (Proc.devRef .tc main_arg3) : Vec Ideal S1x2048 .f32) (ix2 0 c)
  mix g i c := (V0 (Proc.devRef .tc main_arg4) : Vec Ideal S1x4x128x128 .f32) (ix4 0 g i c)
  ps c := (V0 (Proc.devRef .tc main_arg5) : Vec Ideal S1x512 .f32) (ix2 0 c)
  wpo c d := (V0 (Proc.devRef .tc main_arg6) : Vec Ideal S1x512x1024 .f32) (ix3 0 c d)

theorem z_at (b : Fin 32) (l : Fin 2048) (c : Fin 4680) :
    (Value.res_main_v16 V0 : Vec Ideal S32x2048x4680 .f32) (ix3 b l c) = Cert.Mix.z (args V0) b l c := by
  unfold Value.res_main_v16 Cert.Mix.z args Cert.Stage.rms
  pointwise []

theorem p_at (b : Fin 32) (l : Fin 2048) (c : Fin 512) :
    (Value.res_main_v17 V0 : Vec Ideal S32x2048x512 .f32) (ix3 b l c) = Cert.Mix.z (args V0) b l ⟨c.val, by omega⟩ := by
  have e := z_at V0
  unfold Value.res_main_v17
  generalize (Value.res_main_v16 V0 : Vec Ideal S32x2048x4680 .f32) = X at *
  pointwise []
  exact e _ _ _

theorem gate_at (b : Fin 32) (l : Fin 2048) (c : Fin 2048) :
    (Value.res_main_v172 V0 : Vec Ideal S32x2048x2048 .f32) (ix3 b l c) = Cert.Mix.gate (args V0) b l c := by
  have e := z_at V0
  unfold Value.res_main_v172
  generalize (Value.res_main_v16 V0 : Vec Ideal S32x2048x4680 .f32) = X at *
  pointwise []
  rw [e]
  rfl

/-- A result of the reference. -/
def resPA : Vec Ideal S32x2048x1024 .bf16 :=
  truncf (F := Ideal) .bf16 (mulf (extractStridedSlice S32x2048x1024 ![0, 0, 0] (Value.res_main_v172 V0) slices_S32x2048x2048_S32x2048x1024_0_0_0) (Host.dotGeneral dot_S32x2048x512_S512x1024_S32x2048x1024_2_0_01_1_n_n none (mulf (Value.res_main_v299 V0) (broadcastInDim S32x2048x512 ![0, 1, 2] bcast_S1x1x512_S32x2048x512_0_1_2 (broadcastInDim S1x1x512 ![2] bcast_S512_S1x1x512_2 (shapeCast _ (V0 (Proc.devRef .tc main_arg5) : Vec Ideal S1x512 .f32) shapeCasts_S1x512_S512 : FVec Ideal S512 .f32)))) (shapeCast _ (V0 (Proc.devRef .tc main_arg6) : Vec Ideal S1x512x1024 .f32) shapeCasts_S1x512x1024_S512x1024 : FVec Ideal S512x1024 .f32))) bitsLt_bf16_f32

/-- A result of the reference. -/
def resGB : Vec Ideal S32x2048x1024 .bf16 :=
  truncf (F := Ideal) .bf16 (extractStridedSlice S32x2048x1024 ![0, 0, 1024] (Value.res_main_v172 V0) slices_S32x2048x2048_S32x2048x1024_0_0_1024) bitsLt_bf16_f32

/-- A result of the reference. -/
def resQ : Vec Ideal S32x2048x512 .bf16 :=
  truncf (F := Ideal) .bf16 (shapeCast _ (concatenate S32x2048x8x64 3 [⟨S32x2048x8x32, (subf (mulf (Value.res_main_v38 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v35 V0)))) (mulf (Value.res_main_v39 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v37 V0)))))⟩, ⟨S32x2048x8x32, (addf (mulf (Value.res_main_v39 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v35 V0)))) (mulf (Value.res_main_v38 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v37 V0)))))⟩] concatenates_S32x2048x8x32_S32x2048x8x32_S32x2048x8x64_d3) shapeCasts_S32x2048x8x64_S32x2048x512) bitsLt_bf16_f32

/-- A result of the reference. -/
def resK : Vec Ideal S32x2048x512 .f32 :=
  shapeCast _ (concatenate S32x2048x8x64 3 [⟨S32x2048x8x32, (subf (mulf (Value.res_main_v73 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v70 V0)))) (mulf (Value.res_main_v74 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v72 V0)))))⟩, ⟨S32x2048x8x32, (addf (mulf (Value.res_main_v74 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v70 V0)))) (mulf (Value.res_main_v73 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v72 V0)))))⟩] concatenates_S32x2048x8x32_S32x2048x8x32_S32x2048x8x64_d3) shapeCasts_S32x2048x8x64_S32x2048x512

/-- A result of the reference. -/
def resV : Vec Ideal S32x2048x512 .f32 :=
  extractStridedSlice S32x2048x512 ![0, 0, 1536] (Value.res_main_v16 V0) slices_S32x2048x4680_S32x2048x512_0_0_1536

/-- A result of the reference. -/
def resQI : Vec Ideal S32x2048x512 .f32 :=
  shapeCast _ (concatenate S32x2048x8x64 3 [⟨S32x2048x8x32, (subf (mulf (Value.res_main_v109 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v106 V0)))) (mulf (Value.res_main_v110 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v108 V0)))))⟩, ⟨S32x2048x8x32, (addf (mulf (Value.res_main_v110 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v106 V0)))) (mulf (Value.res_main_v109 V0) (broadcastInDim S32x2048x8x32 ![0, 1, 2, 3] bcast_S1x2048x1x32_S32x2048x8x32_0_1_2_3 (broadcastInDim S1x2048x1x32 ![1, 2, 3] bcast_S2048x1x32_S1x2048x1x32_1_2_3 (Value.res_main_v108 V0)))))⟩] concatenates_S32x2048x8x32_S32x2048x8x32_S32x2048x8x64_d3) shapeCasts_S32x2048x8x64_S32x2048x512

/-- A result of the reference. -/
def resKI : Vec Ideal S32x2048x64 .f32 :=
  shapeCast _ (concatenate S32x2048x1x64 3 [⟨S32x2048x1x32, (subf (mulf (Value.res_main_v144 V0) (broadcastInDim S32x2048x1x32 ![0, 1, 2, 3] bcast_S1x2048x1x32_S32x2048x1x32_0_1_2_3 (broadcastInDim S1x2048x1x32 ![1, 2, 3] bcast_S2048x1x32_S1x2048x1x32_1_2_3 (Value.res_main_v141 V0)))) (mulf (Value.res_main_v145 V0) (broadcastInDim S32x2048x1x32 ![0, 1, 2, 3] bcast_S1x2048x1x32_S32x2048x1x32_0_1_2_3 (broadcastInDim S1x2048x1x32 ![1, 2, 3] bcast_S2048x1x32_S1x2048x1x32_1_2_3 (Value.res_main_v143 V0)))))⟩, ⟨S32x2048x1x32, (addf (mulf (Value.res_main_v145 V0) (broadcastInDim S32x2048x1x32 ![0, 1, 2, 3] bcast_S1x2048x1x32_S32x2048x1x32_0_1_2_3 (broadcastInDim S1x2048x1x32 ![1, 2, 3] bcast_S2048x1x32_S1x2048x1x32_1_2_3 (Value.res_main_v141 V0)))) (mulf (Value.res_main_v144 V0) (broadcastInDim S32x2048x1x32 ![0, 1, 2, 3] bcast_S1x2048x1x32_S32x2048x1x32_0_1_2_3 (broadcastInDim S1x2048x1x32 ![1, 2, 3] bcast_S2048x1x32_S1x2048x1x32_1_2_3 (Value.res_main_v143 V0)))))⟩] concatenates_S32x2048x1x32_S32x2048x1x32_S32x2048x1x64_d3) shapeCasts_S32x2048x1x64_S32x2048x64

/-- A result of the reference. -/
def resTail : Vec Ideal S32x16x512 .f32 :=
  extractStridedSlice S32x16x512 ![0, 2048, 0] (concatenate S32x2064x512 1 [⟨S32x16x512, (broadcastInDim S32x16x512 ![] bcast_S_S32x16x512 (constant (F := Ideal) S_ .f32 0x00000000#32))⟩, ⟨S32x2048x512, (Value.res_main_v17 V0)⟩] concatenates_S32x16x512_S32x2048x512_S32x2064x512_d1) slices_S32x2064x512_S32x16x512_0_2048_0

theorem Q_at (b : Fin 32) (l : Fin 2048) (c : Fin 512) : resQ V0 (ix3 b l c) = Cert.Mix.q (args V0) b l c := by
  have e := z_at V0
  unfold resQ Value.res_main_v35 Value.res_main_v37 Value.res_main_v38 Value.res_main_v39 Value.res_main_v21
  have ea : ∀ l i, (Value.res_main_v33 V0 : Vec Ideal S2048x32 .f32) (ix2 l i) = Cert.Mix.ang l i := fun l i => by
    unfold Value.res_main_v33 Value.res_main_v0 Cert.Mix.ang
    pointwise []
  generalize (Value.res_main_v16 V0 : Vec Ideal S32x2048x4680 .f32) = X at *
  generalize (Value.res_main_v33 V0 : Vec Ideal S2048x32 .f32) = Y at *
  pointwise []
  simp only [e, ea]
  unfold Cert.Mix.q
  by_cases h : c.val % 64 < 32
  · rw [dif_pos h]
    refine Eq.trans ?_ (Cert.Mix.rot_lt l _ (c.val % 64) (by omega) h).symm
    dsimp only
    exact congrArg₂ (fun x y : EReal => x * Ideal.ofBits FTy.f32 0x3E000000#32 * Ideal.cos _ - y * Ideal.ofBits FTy.f32 0x3E000000#32 * Ideal.sin _) (Cert.Mix.z_congr _ _ _ _ _ (by omega)) (Cert.Mix.z_congr _ _ _ _ _ (by omega))
  · rw [dif_neg h]
    refine Eq.trans ?_ (Cert.Mix.rot_ge l _ (c.val % 64) (by omega) h).symm
    dsimp only
    exact congrArg₂ (fun x y : EReal => x * Ideal.ofBits FTy.f32 0x3E000000#32 * Ideal.cos _ + y * Ideal.ofBits FTy.f32 0x3E000000#32 * Ideal.sin _) (Cert.Mix.z_congr _ _ _ _ _ (by omega)) (Cert.Mix.z_congr _ _ _ _ _ (by omega))

theorem K_at (b : Fin 32) (l : Fin 2048) (c : Fin 512) : resK V0 (ix3 b l c) = Cert.Mix.heads (args V0) 1024 (by decide) b l c := by
  have e := z_at V0
  unfold resK Value.res_main_v70 Value.res_main_v72 Value.res_main_v73 Value.res_main_v74 Value.res_main_v56
  have ea : ∀ l i, (Value.res_main_v68 V0 : Vec Ideal S2048x32 .f32) (ix2 l i) = Cert.Mix.ang l i := fun l i => by
    unfold Value.res_main_v68 Value.res_main_v0 Cert.Mix.ang
    pointwise []
  generalize (Value.res_main_v16 V0 : Vec Ideal S32x2048x4680 .f32) = X at *
  generalize (Value.res_main_v68 V0 : Vec Ideal S2048x32 .f32) = Y at *
  pointwise []
  simp only [e, ea]
  unfold Cert.Mix.heads
  by_cases h : c.val % 64 < 32
  · rw [dif_pos h]
    refine Eq.trans ?_ (Cert.Mix.rot_lt l _ (c.val % 64) (by omega) h).symm
    dsimp only
    exact congrArg₂ (fun x y : EReal => x * Ideal.cos _ - y * Ideal.sin _) (Cert.Mix.z_congr _ _ _ _ _ (by omega)) (Cert.Mix.z_congr _ _ _ _ _ (by omega))
  · rw [dif_neg h]
    refine Eq.trans ?_ (Cert.Mix.rot_ge l _ (c.val % 64) (by omega) h).symm
    dsimp only
    exact congrArg₂ (fun x y : EReal => x * Ideal.cos _ + y * Ideal.sin _) (Cert.Mix.z_congr _ _ _ _ _ (by omega)) (Cert.Mix.z_congr _ _ _ _ _ (by omega))

theorem QI_at (b : Fin 32) (l : Fin 2048) (c : Fin 512) : resQI V0 (ix3 b l c) = Cert.Mix.heads (args V0) 2048 (by decide) b l c := by
  have e := z_at V0
  unfold resQI Value.res_main_v106 Value.res_main_v108 Value.res_main_v109 Value.res_main_v110 Value.res_main_v92
  have ea : ∀ l i, (Value.res_main_v104 V0 : Vec Ideal S2048x32 .f32) (ix2 l i) = Cert.Mix.ang l i := fun l i => by
    unfold Value.res_main_v104 Value.res_main_v0 Cert.Mix.ang
    pointwise []
  generalize (Value.res_main_v16 V0 : Vec Ideal S32x2048x4680 .f32) = X at *
  generalize (Value.res_main_v104 V0 : Vec Ideal S2048x32 .f32) = Y at *
  pointwise []
  simp only [e, ea]
  unfold Cert.Mix.heads
  by_cases h : c.val % 64 < 32
  · rw [dif_pos h]
    refine Eq.trans ?_ (Cert.Mix.rot_lt l _ (c.val % 64) (by omega) h).symm
    dsimp only
    exact congrArg₂ (fun x y : EReal => x * Ideal.cos _ - y * Ideal.sin _) (Cert.Mix.z_congr _ _ _ _ _ (by omega)) (Cert.Mix.z_congr _ _ _ _ _ (by omega))
  · rw [dif_neg h]
    refine Eq.trans ?_ (Cert.Mix.rot_ge l _ (c.val % 64) (by omega) h).symm
    dsimp only
    exact congrArg₂ (fun x y : EReal => x * Ideal.cos _ + y * Ideal.sin _) (Cert.Mix.z_congr _ _ _ _ _ (by omega)) (Cert.Mix.z_congr _ _ _ _ _ (by omega))

theorem GB_at (b : Fin 32) (l : Fin 2048) (d : Fin 1024) : resGB V0 (ix3 b l d) = Cert.Mix.gate (args V0) b l ⟨1024 + d.val, by omega⟩ := by
  have e := gate_at V0
  unfold resGB
  generalize (Value.res_main_v172 V0 : Vec Ideal S32x2048x2048 .f32) = X at *
  pointwise []
  exact e _ _ _

theorem V_at (b : Fin 32) (l : Fin 2048) (c : Fin 512) : resV V0 (ix3 b l c) = Cert.Mix.z (args V0) b l ⟨1536 + c.val, by omega⟩ := by
  have e := z_at V0
  unfold resV
  generalize (Value.res_main_v16 V0 : Vec Ideal S32x2048x4680 .f32) = X at *
  pointwise []
  exact e _ _ _

theorem KI_at (b : Fin 32) (l : Fin 2048) (c : Fin 64) : resKI V0 (ix3 b l c) = Cert.Mix.ki (args V0) b l c := by
  have e := z_at V0
  unfold resKI
  have ea : ∀ l i, (Value.res_main_v139 V0 : Vec Ideal S2048x32 .f32) (ix2 l i) = Cert.Mix.ang l i := fun l i => by
    unfold Value.res_main_v139 Value.res_main_v0 Cert.Mix.ang
    pointwise []
  unfold Value.res_main_v141 Value.res_main_v143 Value.res_main_v144 Value.res_main_v145 Value.res_main_v127
  generalize (Value.res_main_v16 V0 : Vec Ideal S32x2048x4680 .f32) = X at *
  generalize (Value.res_main_v139 V0 : Vec Ideal S2048x32 .f32) = Y at *
  pointwise []
  simp only [e, ea]
  unfold Cert.Mix.ki
  by_cases h : c.val < 32
  · rw [dif_pos h]
    refine Eq.trans ?_ (Cert.Mix.rot_lt l _ c.val (by omega) h).symm
    dsimp only
    exact congrArg₂ (fun x y : EReal => x * Ideal.cos _ - y * Ideal.sin _) (Cert.Mix.z_congr _ _ _ _ _ (by omega)) (Cert.Mix.z_congr _ _ _ _ _ (by omega))
  · rw [dif_neg h]
    refine Eq.trans ?_ (Cert.Mix.rot_ge l _ c.val (by omega) h).symm
    dsimp only
    exact congrArg₂ (fun x y : EReal => x * Ideal.cos _ + y * Ideal.sin _) (Cert.Mix.z_congr _ _ _ _ _ (by omega)) (Cert.Mix.z_congr _ _ _ _ _ (by omega))

theorem tail_at (b : Fin 32) (a : Fin 16) (c : Fin 512) : resTail V0 (ix3 b a c) = Cert.Mix.z (args V0) b ⟨2032 + a.val, by omega⟩ ⟨c.val, by omega⟩ := by
  have e := p_at V0
  unfold resTail
  generalize (Value.res_main_v17 V0 : Vec Ideal S32x2048x512 .f32) = X at *
  pointwise []
  rw [dif_neg (show ¬ (2048 + a.val < 16) by omega)]
  exact (e _ _ _).trans (congrArg (fun r => Cert.Mix.z (args V0) b r _) (Fin.ext (by show 2048 + a.val - 16 = 2032 + a.val; omega)))

theorem cnt_at (n : ℕ) (hn : n ≤ 16) (l : Fin 2048) :
    (FloatOps.sitofp FTy.f32 (IntOp.minsi (BitVec.ofNat 32 n) (IntOp.addi (BitVec.ofNat 32 l.val) 1#32)) : Ideal .f32) = Cert.Mix.cnt n l := by
  have hl := l.isLt
  have e : (IntOp.minsi (BitVec.ofNat 32 n) (IntOp.addi (BitVec.ofNat 32 l.val) 1#32)).toInt = ((min n (l.val + 1) : ℕ) : ℤ) := by
    have e1 : IntOp.addi (BitVec.ofNat 32 l.val) 1#32 = BitVec.ofNat 32 (l.val + 1) := by
      show BitVec.ofNat 32 l.val + 1#32 = _
      rw [BitVec.ofNat_add]
    rw [e1]
    have t : ∀ a : ℕ, a < 4096 → (BitVec.ofNat 32 a).toInt = (a : ℤ) := fun a ha => by
      exact Idealize.ShloMosaic.WordCmp.toInt_ofNat_of_lt (show a < 2 ^ 31 by omega)
    have hs : (BitVec.ofNat 32 n).slt (BitVec.ofNat 32 (l.val + 1)) = decide (n < l.val + 1) := by
      show decide ((BitVec.ofNat 32 n).toInt < (BitVec.ofNat 32 (l.val + 1)).toInt) = _
      rw [t n (by omega), t (l.val + 1) (by omega)]
      exact decide_eq_decide.mpr Nat.cast_lt
    unfold IntOp.minsi
    rw [hs]
    by_cases h : n < l.val + 1
    · rw [decide_eq_true h, if_pos rfl, t n (by omega), min_eq_left (by omega)]
    · rw [decide_eq_false h, if_neg (by decide), t _ (by omega), min_eq_right (by omega)]
  show ((_ : ℝ) : EReal) = _
  unfold Cert.Mix.cnt
  rw [e]
  push_cast
  rfl

theorem ext_at (b : Fin 32) (p : Fin 2063) (c : Fin 512) :
    (Value.res_main_v174 V0 : Vec Ideal S32x2063x512 .f32) (ix3 b p c) = (if h : p.val < 15 then 0 else Cert.Mix.z (args V0) b ⟨p.val - 15, by omega⟩ ⟨c.val, by omega⟩ : EReal) := by
  have e := p_at V0
  unfold Value.res_main_v174
  generalize (Value.res_main_v17 V0 : Vec Ideal S32x2048x512 .f32) = X at *
  pointwise []
  simp only [e]

theorem prev_at (b : Fin 32) (l : Fin 2048) (c : Fin 512) (k p : ℕ) (h : p < 2063) (hk : k ≤ 15) (hp : p = 15 - k + l.val) :
    (Value.res_main_v174 V0 : Vec Ideal S32x2063x512 .f32) (ix3 b ⟨p, h⟩ c) = Cert.Mix.prev (args V0) b l c k := by
  rw [ext_at]
  unfold Cert.Mix.prev
  by_cases h0 : p < 15
  · rw [dif_pos h0, if_neg (by omega)]
  · rw [dif_neg h0, if_pos (by omega)]
    subst hp
    exact congrArg (fun r => Cert.Mix.z (args V0) b r _) (Fin.ext (by show 15 - k + l.val - 15 = l.val - k; omega))

set_option maxHeartbeats 1000000 in
theorem mixed_at (b : Fin 32) (l : Fin 2048) (c : Fin 512) :
    (Value.res_main_v299 V0 : Vec Ideal S32x2048x512 .f32) (ix3 b l c) = Cert.Mix.groups (args V0) b l c := by
  have ex := prev_at V0 b l
  have e0 := p_at V0
  unfold Value.res_main_v299 Value.res_main_v175 Value.res_main_v195 Value.res_main_v219 Value.res_main_v251
  generalize (Value.res_main_v174 V0 : Vec Ideal S32x2063x512 .f32) = X at *
  generalize (Value.res_main_v17 V0 : Vec Ideal S32x2048x512 .f32) = Y at *
  unfold Value.res_main_v0
  pointwise []
  have h0 : ∀ (c : Fin 512) (h : 15 + l.val < 2063), X (ix3 b ⟨15 + l.val, h⟩ c) = Cert.Mix.prev (args V0) b l c 0 := fun c h => ex c 0 _ h (by omega) (by omega)
  have h1 : ∀ (c : Fin 512) (h : 14 + l.val < 2063), X (ix3 b ⟨14 + l.val, h⟩ c) = Cert.Mix.prev (args V0) b l c 1 := fun c h => ex c 1 _ h (by omega) (by omega)
  have h2 : ∀ (c : Fin 512) (h : 13 + l.val < 2063), X (ix3 b ⟨13 + l.val, h⟩ c) = Cert.Mix.prev (args V0) b l c 2 := fun c h => ex c 2 _ h (by omega) (by omega)
  have h3 : ∀ (c : Fin 512) (h : 12 + l.val < 2063), X (ix3 b ⟨12 + l.val, h⟩ c) = Cert.Mix.prev (args V0) b l c 3 := fun c h => ex c 3 _ h (by omega) (by omega)
  have h4 : ∀ (c : Fin 512) (h : 11 + l.val < 2063), X (ix3 b ⟨11 + l.val, h⟩ c) = Cert.Mix.prev (args V0) b l c 4 := fun c h => ex c 4 _ h (by omega) (by omega)
  have h5 : ∀ (c : Fin 512) (h : 10 + l.val < 2063), X (ix3 b ⟨10 + l.val, h⟩ c) = Cert.Mix.prev (args V0) b l c 5 := fun c h => ex c 5 _ h (by omega) (by omega)
  have h6 : ∀ (c : Fin 512) (h : 9 + l.val < 2063), X (ix3 b ⟨9 + l.val, h⟩ c) = Cert.Mix.prev (args V0) b l c 6 := fun c h => ex c 6 _ h (by omega) (by omega)
  have h7 : ∀ (c : Fin 512) (h : 8 + l.val < 2063), X (ix3 b ⟨8 + l.val, h⟩ c) = Cert.Mix.prev (args V0) b l c 7 := fun c h => ex c 7 _ h (by omega) (by omega)
  have h8 : ∀ (c : Fin 512) (h : 7 + l.val < 2063), X (ix3 b ⟨7 + l.val, h⟩ c) = Cert.Mix.prev (args V0) b l c 8 := fun c h => ex c 8 _ h (by omega) (by omega)
  have h9 : ∀ (c : Fin 512) (h : 6 + l.val < 2063), X (ix3 b ⟨6 + l.val, h⟩ c) = Cert.Mix.prev (args V0) b l c 9 := fun c h => ex c 9 _ h (by omega) (by omega)
  have h10 : ∀ (c : Fin 512) (h : 5 + l.val < 2063), X (ix3 b ⟨5 + l.val, h⟩ c) = Cert.Mix.prev (args V0) b l c 10 := fun c h => ex c 10 _ h (by omega) (by omega)
  have h11 : ∀ (c : Fin 512) (h : 4 + l.val < 2063), X (ix3 b ⟨4 + l.val, h⟩ c) = Cert.Mix.prev (args V0) b l c 11 := fun c h => ex c 11 _ h (by omega) (by omega)
  have h12 : ∀ (c : Fin 512) (h : 3 + l.val < 2063), X (ix3 b ⟨3 + l.val, h⟩ c) = Cert.Mix.prev (args V0) b l c 12 := fun c h => ex c 12 _ h (by omega) (by omega)
  have h13 : ∀ (c : Fin 512) (h : 2 + l.val < 2063), X (ix3 b ⟨2 + l.val, h⟩ c) = Cert.Mix.prev (args V0) b l c 13 := fun c h => ex c 13 _ h (by omega) (by omega)
  have h14 : ∀ (c : Fin 512) (h : 1 + l.val < 2063), X (ix3 b ⟨1 + l.val, h⟩ c) = Cert.Mix.prev (args V0) b l c 14 := fun c h => ex c 14 _ h (by omega) (by omega)
  have h15 : ∀ (c : Fin 512) (h : l.val < 2063), X (ix3 b ⟨l.val, h⟩ c) = Cert.Mix.prev (args V0) b l c 15 := fun c h => ex c 15 _ h (by omega) (by omega)
  unfold Cert.Mix.groups Cert.Mix.mixed Cert.Mix.win
  simp only [Finset.sum_range_succ, Finset.sum_range_zero, zero_add, e0, cnt_at 2 (by decide) l, cnt_at 4 (by decide) l, cnt_at 8 (by decide) l, cnt_at 16 (by decide) l,
    h0, h1, h2, h3, h4, h5, h6, h7, h8, h9, h10, h11, h12, h13, h14, h15]
  rfl

theorem PA_at (b : Fin 32) (l : Fin 2048) (d : Fin 1024) : resPA V0 (ix3 b l d) = Cert.Mix.pa (args V0) b l d := by
  have e := gate_at V0
  have e0 := mixed_at V0
  unfold resPA
  generalize (Value.res_main_v172 V0 : Vec Ideal S32x2048x2048 .f32) = X at *
  generalize (Value.res_main_v299 V0 : Vec Ideal S32x2048x512 .f32) = Y at *
  pointwise []
  simp only [e, e0]
  rfl

end Cert.Reference3Ideal.Out
-- ==== Proof.Alg3.lean ====
module
public import proofs.«01_k».proof.Defs
public import proofs.«01_k».proof.Proof.Inv3
public import proofs.«01_k».proof.Proof.Ref3
public import proofs.«01_k».proof.Proof.Gen.Kernel3.Frame
public import proofs.«01_k».proof.Proof.Gen.Reference3Ideal
@[expose] public section
set_option maxRecDepth 16384
noncomputable section
/-!
The claims of the mixer's input stage.
-/
namespace Cert.Proof
open Idealize.ShloMosaic Idealize.SL.Sem

/-- The compiled input stage runs and leaves its arguments. -/
theorem frame_k3 : Cert.quiescent_Kernel3 := fun m ρ _ => Cert.Kernel3.Gen.frame m ρ

/-- So does the input stage over the extended reals. -/
theorem frame_i3 : Cert.quiescent_Kernel3Ideal := fun m ρ _ => Cert.Kernel3Ideal.Gen.frame m ρ

/-- So does its reference, which declares no counter. -/
theorem frame_r3 : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run m ρ)

/-- No constant is renamed. -/
theorem preserves3 : Cert.preserves_Kernel3_Kernel3Ideal := trivial

/-- The input stage and its reference leave the same results. -/
theorem algebraic3 : Cert.algebraic_Kernel3Ideal_Reference3Ideal := by
  intro m g m' g' _ hm
  have ha : ∀ c, Cert.Reference3Ideal.Out.args (Idealize.ShloMosaic.StableHlo.launchContents m' c) = Cert.Kernel3Ideal.Out.args m c := fun c => by
    obtain ⟨e0, e1, e2, e3, e4, e5, e6⟩ := hm c
    unfold Cert.Reference3Ideal.Out.args Cert.Kernel3Ideal.Out.args
    congr 1
    · funext b l d; exact congrFun e0 _
    · funext d; exact congrFun e1 _
    · funext k d; exact congrFun e2 _
    · funext d; exact congrFun e3 _
    · funext g i d; exact congrFun e4 _
    · funext d; exact congrFun e5 _
    · funext k d; exact congrFun e6 _
  refine ⟨fun c => Cert.Kernel3Ideal.Value.G11 m c, fun c => Cert.Kernel3Ideal.Value.G12 m c, fun c => Cert.Kernel3Ideal.Value.G13 m c, fun c => Cert.Kernel3Ideal.Value.G14 m c, fun c => Cert.Kernel3Ideal.Value.G15 m c, fun c => Cert.Kernel3Ideal.Value.G16 m c, fun c => Cert.Kernel3Ideal.Value.G18 m c, fun c => Cert.Kernel3Ideal.Value.G19 m c,
    (θ_run _ _ _).mono (fun r h c => ?_) (Cert.Kernel3Ideal.Value.run m g), ?_⟩
  · obtain ⟨h0, h1, h2, h3, h4, h5, h6, h7, h8, h9⟩ := h c
    exact ⟨h0, h1, h2, h3, h4, h5, h7, h8, h9⟩
  refine (θ_run _ _ _).mono (fun r h c => ?_) (Cert.Reference3Ideal.Value.run m' g')
  obtain ⟨h0, h1, h2, h3, h4, h5, h6, h7, h8⟩ := h c
  refine ⟨h0.trans ?_, h1.trans ?_, h2.trans ?_, h3.trans ?_, h4.trans ?_, h5.trans ?_, h6.trans ?_, h7.trans ?_, h8⟩
  · show Cert.Reference3Ideal.Out.resPA (Idealize.ShloMosaic.StableHlo.launchContents m' c) = (Cert.Kernel3Ideal.Value.G11 m c : Vec Ideal Cert.Kernel3Ideal.S32x2048x1024 .bf16)
    funext i
    idx_vars i
    refine (Cert.Reference3Ideal.Out.PA_at _ _ _ _).trans ?_
    rw [ha c]
    exact (Cert.Kernel3Ideal.Out.G11_at m c _ _ _).symm
  · show Cert.Reference3Ideal.Out.resGB (Idealize.ShloMosaic.StableHlo.launchContents m' c) = (Cert.Kernel3Ideal.Value.G12 m c : Vec Ideal Cert.Kernel3Ideal.S32x2048x1024 .bf16)
    funext i
    idx_vars i
    refine (Cert.Reference3Ideal.Out.GB_at _ _ _ _).trans ?_
    rw [ha c]
    exact (Cert.Kernel3Ideal.Out.G12_at m c _ _ _).symm
  · show Cert.Reference3Ideal.Out.resQ (Idealize.ShloMosaic.StableHlo.launchContents m' c) = (Cert.Kernel3Ideal.Value.G13 m c : Vec Ideal Cert.Kernel3Ideal.S32x2048x512 .bf16)
    funext i
    idx_vars i
    refine (Cert.Reference3Ideal.Out.Q_at _ _ _ _).trans ?_
    rw [ha c]
    exact (Cert.Kernel3Ideal.Out.G13_at m c _ _ _).symm
  · show Cert.Reference3Ideal.Out.resK (Idealize.ShloMosaic.StableHlo.launchContents m' c) = (Cert.Kernel3Ideal.Value.G14 m c : Vec Ideal Cert.Kernel3Ideal.S32x2048x512 .f32)
    funext i
    idx_vars i
    refine (Cert.Reference3Ideal.Out.K_at _ _ _ _).trans ?_
    rw [ha c]
    exact (Cert.Kernel3Ideal.Out.G14_at m c _ _ _).symm
  · show Cert.Reference3Ideal.Out.resV (Idealize.ShloMosaic.StableHlo.launchContents m' c) = (Cert.Kernel3Ideal.Value.G15 m c : Vec Ideal Cert.Kernel3Ideal.S32x2048x512 .f32)
    funext i
    idx_vars i
    refine (Cert.Reference3Ideal.Out.V_at _ _ _ _).trans ?_
    rw [ha c]
    exact (Cert.Kernel3Ideal.Out.G15_at m c _ _ _).symm
  · show Cert.Reference3Ideal.Out.resQI (Idealize.ShloMosaic.StableHlo.launchContents m' c) = (Cert.Kernel3Ideal.Value.G16 m c : Vec Ideal Cert.Kernel3Ideal.S32x2048x512 .f32)
    funext i
    idx_vars i
    refine (Cert.Reference3Ideal.Out.QI_at _ _ _ _).trans ?_
    rw [ha c]
    exact (Cert.Kernel3Ideal.Out.G16_at m c _ _ _).symm
  · show Cert.Reference3Ideal.Out.resKI (Idealize.ShloMosaic.StableHlo.launchContents m' c) = (Cert.Kernel3Ideal.Value.G18 m c : Vec Ideal Cert.Kernel3Ideal.S32x2048x64 .f32)
    funext i
    idx_vars i
    refine (Cert.Reference3Ideal.Out.KI_at _ _ _ _).trans ?_
    rw [ha c]
    exact (Cert.Kernel3Ideal.Out.G18_at m c _ _ _).symm
  · show Cert.Reference3Ideal.Out.resTail (Idealize.ShloMosaic.StableHlo.launchContents m' c) = (Cert.Kernel3Ideal.Value.G19 m c : Vec Ideal Cert.Kernel3Ideal.S32x16x512 .f32)
    funext i
    idx_vars i
    refine (Cert.Reference3Ideal.Out.tail_at _ _ _ _).trans ?_
    rw [ha c]
    exact (Cert.Kernel3Ideal.Out.G19_at m c _ _ _).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.FrameK
public import proofs.«01_k».proof.Proof.Gen.KernelIdeal
public import proofs.«01_k».proof.Proof.Gen.KernelIdeal.Skeleton
public import proofs.«01_k».proof.Proof.Gen.KernelIdeal.Launch
public import proofs.«01_k».proof.Proof.FrameI
public import proofs.«01_k».proof.Proof.Gen.ReferenceIdeal
public import proofs.«01_k».proof.Proof.Gen.ReferenceIdeal.Run
public import proofs.«01_k».proof.Proof.Gen.Pre_pages_exist
public import proofs.«01_k».proof.Proof.Gen.Pre_pre
public import proofs.«01_k».proof.Proof.Frames
public import proofs.«01_k».proof.Proof.Alg
public import proofs.«01_k».proof.Proof.Alg2
public import proofs.«01_k».proof.Proof.Alg3
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_pages_exist.Gen.facts, Cert.Pre_pre.Gen.facts,
  frame_k, frame_i, frame_ip, frame_r, frame_rp, frame_k2, frame_i2, frame_r2, frame_k3, frame_i3, frame_r3, preserves, algebraic, preserves2, algebraic2, preserves3, algebraic3⟩

end Cert.Proof

end
